-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite_values [hPre_finite_values : Cert.Pre_finite_values.Facts] (m : (ℓ : Loc Cert.LastIdeal.nD Cert.LastIdeal.τ Cert.LastIdeal.sig) → Buf (Elt Ideal) ℓ) : Prop :=
  ∀ c : Dev Cert.LastIdeal.nD,
    (Cert.Pre_finite_values.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))).1 = (fun _ => 1#1)
    ∧ (Cert.Pre_finite_values.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))).2.1 = (fun _ => 1#1)
    ∧ (Cert.Pre_finite_values.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))).2.2.1 = (fun _ => 1#1)
    ∧ (Cert.Pre_finite_values.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))).2.2.2.1 = (fun _ => 1#1)
    ∧ (Cert.Pre_finite_values.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))).2.2.2.2.1 = (fun _ => 1#1)
    ∧ (Cert.Pre_finite_values.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))).2.2.2.2.2 = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_finite_values [hPre_finite_values : Cert.Pre_finite_values.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_finite_values.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))).1 = (fun _ => 1#1)
    ∧ (Cert.Pre_finite_values.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))).2.1 = (fun _ => 1#1)
    ∧ (Cert.Pre_finite_values.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))).2.2.1 = (fun _ => 1#1)
    ∧ (Cert.Pre_finite_values.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))).2.2.2.1 = (fun _ => 1#1)
    ∧ (Cert.Pre_finite_values.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))).2.2.2.2.1 = (fun _ => 1#1)
    ∧ (Cert.Pre_finite_values.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))).2.2.2.2.2 = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Sin (m : (ℓ : Loc Cert.Sin.nD Cert.Sin.τ Cert.Sin.sig) → Buf (Elt Bits) ℓ) : Prop :=
  True

def Pre_SinIdeal (m : (ℓ : Loc Cert.SinIdeal.nD Cert.SinIdeal.τ Cert.SinIdeal.sig) → Buf (Elt Ideal) ℓ) : Prop :=
  True

def Pre_SinRefIdeal (m : (ℓ : Loc Cert.SinRefIdeal.nD Cert.SinRefIdeal.τ Cert.SinRefIdeal.sig) → Buf (Elt Ideal) ℓ) : Prop :=
  True

def Pre_Hin (m : (ℓ : Loc Cert.Hin.nD Cert.Hin.τ Cert.Hin.sig) → Buf (Elt Bits) ℓ) : Prop :=
  True

def Pre_HinIdeal (m : (ℓ : Loc Cert.HinIdeal.nD Cert.HinIdeal.τ Cert.HinIdeal.sig) → Buf (Elt Ideal) ℓ) : Prop :=
  True

def Pre_HinRefIdeal (m : (ℓ : Loc Cert.HinRefIdeal.nD Cert.HinRefIdeal.τ Cert.HinRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9)
      ∧ r.2.mem ((c.tc : Thread Cert.Ssd.nD Cert.Ssd.τ).loc Cert.Ssd.main_arg10) = m ((c.tc : Thread Cert.Ssd.nD Cert.Ssd.τ).loc Cert.Ssd.main_arg10)
      ∧ r.2.mem ((c.tc : Thread Cert.Ssd.nD Cert.Ssd.τ).loc Cert.Ssd.main_arg11) = m ((c.tc : Thread Cert.Ssd.nD Cert.Ssd.τ).loc Cert.Ssd.main_arg11)
      ∧ r.2.mem ((c.tc : Thread Cert.Ssd.nD Cert.Ssd.τ).loc Cert.Ssd.main_arg12) = m ((c.tc : Thread Cert.Ssd.nD Cert.Ssd.τ).loc Cert.Ssd.main_arg12)
      ∧ r.2.mem ((c.tc : Thread Cert.Ssd.nD Cert.Ssd.τ).loc Cert.Ssd.main_arg13) = m ((c.tc : Thread Cert.Ssd.nD Cert.Ssd.τ).loc Cert.Ssd.main_arg13)
      ∧ r.2.mem ((c.tc : Thread Cert.Ssd.nD Cert.Ssd.τ).loc Cert.Ssd.main_arg14) = m ((c.tc : Thread Cert.Ssd.nD Cert.Ssd.τ).loc Cert.Ssd.main_arg14))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
      ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10)
      ∧ r.2.mem ((c.tc : Thread Cert.SsdIdeal.nD Cert.SsdIdeal.τ).loc Cert.SsdIdeal.main_arg11) = m ((c.tc : Thread Cert.SsdIdeal.nD Cert.SsdIdeal.τ).loc Cert.SsdIdeal.main_arg11)
      ∧ r.2.mem ((c.tc : Thread Cert.SsdIdeal.nD Cert.SsdIdeal.τ).loc Cert.SsdIdeal.main_arg12) = m ((c.tc : Thread Cert.SsdIdeal.nD Cert.SsdIdeal.τ).loc Cert.SsdIdeal.main_arg12)
      ∧ r.2.mem ((c.tc : Thread Cert.SsdIdeal.nD Cert.SsdIdeal.τ).loc Cert.SsdIdeal.main_arg13) = m ((c.tc : Thread Cert.SsdIdeal.nD Cert.SsdIdeal.τ).loc Cert.SsdIdeal.main_arg13)
      ∧ r.2.mem ((c.tc : Thread Cert.SsdIdeal.nD Cert.SsdIdeal.τ).loc Cert.SsdIdeal.main_arg14) = m ((c.tc : Thread Cert.SsdIdeal.nD Cert.SsdIdeal.τ).loc Cert.SsdIdeal.main_arg14))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9)
      ∧ r.2.mem ((c.tc : Thread Cert.SsdRefIdeal.nD Cert.SsdRefIdeal.τ).loc Cert.SsdRefIdeal.main_arg10) = m ((c.tc : Thread Cert.SsdRefIdeal.nD Cert.SsdRefIdeal.τ).loc Cert.SsdRefIdeal.main_arg10)
      ∧ r.2.mem ((c.tc : Thread Cert.SsdRefIdeal.nD Cert.SsdRefIdeal.τ).loc Cert.SsdRefIdeal.main_arg11) = m ((c.tc : Thread Cert.SsdRefIdeal.nD Cert.SsdRefIdeal.τ).loc Cert.SsdRefIdeal.main_arg11)
      ∧ r.2.mem ((c.tc : Thread Cert.SsdRefIdeal.nD Cert.SsdRefIdeal.τ).loc Cert.SsdRefIdeal.main_arg12) = m ((c.tc : Thread Cert.SsdRefIdeal.nD Cert.SsdRefIdeal.τ).loc Cert.SsdRefIdeal.main_arg12)
      ∧ r.2.mem ((c.tc : Thread Cert.SsdRefIdeal.nD Cert.SsdRefIdeal.τ).loc Cert.SsdRefIdeal.main_arg13) = m ((c.tc : Thread Cert.SsdRefIdeal.nD Cert.SsdRefIdeal.τ).loc Cert.SsdRefIdeal.main_arg13)
      ∧ r.2.mem ((c.tc : Thread Cert.SsdRefIdeal.nD Cert.SsdRefIdeal.τ).loc Cert.SsdRefIdeal.main_arg14) = m ((c.tc : Thread Cert.SsdRefIdeal.nD Cert.SsdRefIdeal.τ).loc Cert.SsdRefIdeal.main_arg14))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastIdeal_pre_finite_values [hLastIdeal : Cert.LastIdeal.Facts] [hPre_finite_values : Cert.Pre_finite_values.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite_values m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_LastRefIdeal_pre_finite_values [hLastRefIdeal : Cert.LastRefIdeal.Facts] [hPre_finite_values : Cert.Pre_finite_values.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_finite_values m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2))
      ∧ r.2.sem = fun _ => 0)

def quiescent_Sin [hSin : Cert.Sin.Facts] : Prop :=
  ∀ (m : (ℓ : Loc Cert.Sin.nD Cert.Sin.τ Cert.Sin.sig) → Buf (Elt Bits) ℓ) (g : Dev Cert.Sin.nD → PrngReg), Pre_Sin m →
    θ_run (Cert.Sin.defs (F := Bits)) (onTc (τ := Cert.Sin.τ) (Cert.Sin.main (F := Bits))) ⟨m, fun _ => 0, g⟩ (fun r => (∀ c : Dev Cert.Sin.nD,
      r.2.mem ((c.tc : Thread Cert.Sin.nD Cert.Sin.τ).loc Cert.Sin.main_arg0) = m ((c.tc : Thread Cert.Sin.nD Cert.Sin.τ).loc Cert.Sin.main_arg0)
      ∧ r.2.mem ((c.tc : Thread Cert.Sin.nD Cert.Sin.τ).loc Cert.Sin.main_arg1) = m ((c.tc : Thread Cert.Sin.nD Cert.Sin.τ).loc Cert.Sin.main_arg1)
      ∧ r.2.mem ((c.tc : Thread Cert.Sin.nD Cert.Sin.τ).loc Cert.Sin.main_arg2) = m ((c.tc : Thread Cert.Sin.nD Cert.Sin.τ).loc Cert.Sin.main_arg2)
      ∧ r.2.mem ((c.tc : Thread Cert.Sin.nD Cert.Sin.τ).loc Cert.Sin.main_arg3) = m ((c.tc : Thread Cert.Sin.nD Cert.Sin.τ).loc Cert.Sin.main_arg3)
      ∧ r.2.mem ((c.tc : Thread Cert.Sin.nD Cert.Sin.τ).loc Cert.Sin.main_arg4) = m ((c.tc : Thread Cert.Sin.nD Cert.Sin.τ).loc Cert.Sin.main_arg4))
      ∧ r.2.sem = fun _ => 0)

def quiescent_SinIdeal [hSinIdeal : Cert.SinIdeal.Facts] : Prop :=
  ∀ (m : (ℓ : Loc Cert.SinIdeal.nD Cert.SinIdeal.τ Cert.SinIdeal.sig) → Buf (Elt Ideal) ℓ) (g : Dev Cert.SinIdeal.nD → PrngReg), Pre_SinIdeal m →
    θ_run (Cert.SinIdeal.defs (F := Ideal)) (onTc (τ := Cert.SinIdeal.τ) (Cert.SinIdeal.main (F := Ideal))) ⟨m, fun _ => 0, g⟩ (fun r => (∀ c : Dev Cert.SinIdeal.nD,
      r.2.mem ((c.tc : Thread Cert.SinIdeal.nD Cert.SinIdeal.τ).loc Cert.SinIdeal.main_arg0) = m ((c.tc : Thread Cert.SinIdeal.nD Cert.SinIdeal.τ).loc Cert.SinIdeal.main_arg0)
      ∧ r.2.mem ((c.tc : Thread Cert.SinIdeal.nD Cert.SinIdeal.τ).loc Cert.SinIdeal.main_arg1) = m ((c.tc : Thread Cert.SinIdeal.nD Cert.SinIdeal.τ).loc Cert.SinIdeal.main_arg1)
      ∧ r.2.mem ((c.tc : Thread Cert.SinIdeal.nD Cert.SinIdeal.τ).loc Cert.SinIdeal.main_arg2) = m ((c.tc : Thread Cert.SinIdeal.nD Cert.SinIdeal.τ).loc Cert.SinIdeal.main_arg2)
      ∧ r.2.mem ((c.tc : Thread Cert.SinIdeal.nD Cert.SinIdeal.τ).loc Cert.SinIdeal.main_arg3) = m ((c.tc : Thread Cert.SinIdeal.nD Cert.SinIdeal.τ).loc Cert.SinIdeal.main_arg3)
      ∧ r.2.mem ((c.tc : Thread Cert.SinIdeal.nD Cert.SinIdeal.τ).loc Cert.SinIdeal.main_arg4) = m ((c.tc : Thread Cert.SinIdeal.nD Cert.SinIdeal.τ).loc Cert.SinIdeal.main_arg4))
      ∧ r.2.sem = fun _ => 0)

def quiescent_SinRefIdeal [hSinRefIdeal : Cert.SinRefIdeal.Facts] : Prop :=
  ∀ (m : (ℓ : Loc Cert.SinRefIdeal.nD Cert.SinRefIdeal.τ Cert.SinRefIdeal.sig) → Buf (Elt Ideal) ℓ) (g : Dev Cert.SinRefIdeal.nD → PrngReg), Pre_SinRefIdeal m →
    θ_run (Cert.SinRefIdeal.defs (F := Ideal)) (onTc (τ := Cert.SinRefIdeal.τ) (Cert.SinRefIdeal.main (F := Ideal))) ⟨m, fun _ => 0, g⟩ (fun r => (∀ c : Dev Cert.SinRefIdeal.nD,
      r.2.mem ((c.tc : Thread Cert.SinRefIdeal.nD Cert.SinRefIdeal.τ).loc Cert.SinRefIdeal.main_arg0) = m ((c.tc : Thread Cert.SinRefIdeal.nD Cert.SinRefIdeal.τ).loc Cert.SinRefIdeal.main_arg0)
      ∧ r.2.mem ((c.tc : Thread Cert.SinRefIdeal.nD Cert.SinRefIdeal.τ).loc Cert.SinRefIdeal.main_arg1) = m ((c.tc : Thread Cert.SinRefIdeal.nD Cert.SinRefIdeal.τ).loc Cert.SinRefIdeal.main_arg1)
      ∧ r.2.mem ((c.tc : Thread Cert.SinRefIdeal.nD Cert.SinRefIdeal.τ).loc Cert.SinRefIdeal.main_arg2) = m ((c.tc : Thread Cert.SinRefIdeal.nD Cert.SinRefIdeal.τ).loc Cert.SinRefIdeal.main_arg2)
      ∧ r.2.mem ((c.tc : Thread Cert.SinRefIdeal.nD Cert.SinRefIdeal.τ).loc Cert.SinRefIdeal.main_arg3) = m ((c.tc : Thread Cert.SinRefIdeal.nD Cert.SinRefIdeal.τ).loc Cert.SinRefIdeal.main_arg3)
      ∧ r.2.mem ((c.tc : Thread Cert.SinRefIdeal.nD Cert.SinRefIdeal.τ).loc Cert.SinRefIdeal.main_arg4) = m ((c.tc : Thread Cert.SinRefIdeal.nD Cert.SinRefIdeal.τ).loc Cert.SinRefIdeal.main_arg4))
      ∧ r.2.sem = fun _ => 0)

def quiescent_Hin [hHin : Cert.Hin.Facts] : Prop :=
  ∀ (m : (ℓ : Loc Cert.Hin.nD Cert.Hin.τ Cert.Hin.sig) → Buf (Elt Bits) ℓ) (g : Dev Cert.Hin.nD → PrngReg), Pre_Hin m →
    θ_run (Cert.Hin.defs (F := Bits)) (onTc (τ := Cert.Hin.τ) (Cert.Hin.main (F := Bits))) ⟨m, fun _ => 0, g⟩ (fun r => (∀ c : Dev Cert.Hin.nD,
      r.2.mem ((c.tc : Thread Cert.Hin.nD Cert.Hin.τ).loc Cert.Hin.main_arg0) = m ((c.tc : Thread Cert.Hin.nD Cert.Hin.τ).loc Cert.Hin.main_arg0)
      ∧ r.2.mem ((c.tc : Thread Cert.Hin.nD Cert.Hin.τ).loc Cert.Hin.main_arg1) = m ((c.tc : Thread Cert.Hin.nD Cert.Hin.τ).loc Cert.Hin.main_arg1)
      ∧ r.2.mem ((c.tc : Thread Cert.Hin.nD Cert.Hin.τ).loc Cert.Hin.main_arg2) = m ((c.tc : Thread Cert.Hin.nD Cert.Hin.τ).loc Cert.Hin.main_arg2)
      ∧ r.2.mem ((c.tc : Thread Cert.Hin.nD Cert.Hin.τ).loc Cert.Hin.main_arg3) = m ((c.tc : Thread Cert.Hin.nD Cert.Hin.τ).loc Cert.Hin.main_arg3)
      ∧ r.2.mem ((c.tc : Thread Cert.Hin.nD Cert.Hin.τ).loc Cert.Hin.main_arg4) = m ((c.tc : Thread Cert.Hin.nD Cert.Hin.τ).loc Cert.Hin.main_arg4))
      ∧ r.2.sem = fun _ => 0)

def quiescent_HinIdeal [hHinIdeal : Cert.HinIdeal.Facts] : Prop :=
  ∀ (m : (ℓ : Loc Cert.HinIdeal.nD Cert.HinIdeal.τ Cert.HinIdeal.sig) → Buf (Elt Ideal) ℓ) (g : Dev Cert.HinIdeal.nD → PrngReg), Pre_HinIdeal m →
    θ_run (Cert.HinIdeal.defs (F := Ideal)) (onTc (τ := Cert.HinIdeal.τ) (Cert.HinIdeal.main (F := Ideal))) ⟨m, fun _ => 0, g⟩ (fun r => (∀ c : Dev Cert.HinIdeal.nD,
      r.2.mem ((c.tc : Thread Cert.HinIdeal.nD Cert.HinIdeal.τ).loc Cert.HinIdeal.main_arg0) = m ((c.tc : Thread Cert.HinIdeal.nD Cert.HinIdeal.τ).loc Cert.HinIdeal.main_arg0)
      ∧ r.2.mem ((c.tc : Thread Cert.HinIdeal.nD Cert.HinIdeal.τ).loc Cert.HinIdeal.main_arg1) = m ((c.tc : Thread Cert.HinIdeal.nD Cert.HinIdeal.τ).loc Cert.HinIdeal.main_arg1)
      ∧ r.2.mem ((c.tc : Thread Cert.HinIdeal.nD Cert.HinIdeal.τ).loc Cert.HinIdeal.main_arg2) = m ((c.tc : Thread Cert.HinIdeal.nD Cert.HinIdeal.τ).loc Cert.HinIdeal.main_arg2)
      ∧ r.2.mem ((c.tc : Thread Cert.HinIdeal.nD Cert.HinIdeal.τ).loc Cert.HinIdeal.main_arg3) = m ((c.tc : Thread Cert.HinIdeal.nD Cert.HinIdeal.τ).loc Cert.HinIdeal.main_arg3)
      ∧ r.2.mem ((c.tc : Thread Cert.HinIdeal.nD Cert.HinIdeal.τ).loc Cert.HinIdeal.main_arg4) = m ((c.tc : Thread Cert.HinIdeal.nD Cert.HinIdeal.τ).loc Cert.HinIdeal.main_arg4))
      ∧ r.2.sem = fun _ => 0)

def quiescent_HinRefIdeal [hHinRefIdeal : Cert.HinRefIdeal.Facts] : Prop :=
  ∀ (m : (ℓ : Loc Cert.HinRefIdeal.nD Cert.HinRefIdeal.τ Cert.HinRefIdeal.sig) → Buf (Elt Ideal) ℓ) (g : Dev Cert.HinRefIdeal.nD → PrngReg), Pre_HinRefIdeal m →
    θ_run (Cert.HinRefIdeal.defs (F := Ideal)) (onTc (τ := Cert.HinRefIdeal.τ) (Cert.HinRefIdeal.main (F := Ideal))) ⟨m, fun _ => 0, g⟩ (fun r => (∀ c : Dev Cert.HinRefIdeal.nD,
      r.2.mem ((c.tc : Thread Cert.HinRefIdeal.nD Cert.HinRefIdeal.τ).loc Cert.HinRefIdeal.main_arg0) = m ((c.tc : Thread Cert.HinRefIdeal.nD Cert.HinRefIdeal.τ).loc Cert.HinRefIdeal.main_arg0)
      ∧ r.2.mem ((c.tc : Thread Cert.HinRefIdeal.nD Cert.HinRefIdeal.τ).loc Cert.HinRefIdeal.main_arg1) = m ((c.tc : Thread Cert.HinRefIdeal.nD Cert.HinRefIdeal.τ).loc Cert.HinRefIdeal.main_arg1)
      ∧ r.2.mem ((c.tc : Thread Cert.HinRefIdeal.nD Cert.HinRefIdeal.τ).loc Cert.HinRefIdeal.main_arg2) = m ((c.tc : Thread Cert.HinRefIdeal.nD Cert.HinRefIdeal.τ).loc Cert.HinRefIdeal.main_arg2)
      ∧ r.2.mem ((c.tc : Thread Cert.HinRefIdeal.nD Cert.HinRefIdeal.τ).loc Cert.HinRefIdeal.main_arg3) = m ((c.tc : Thread Cert.HinRefIdeal.nD Cert.HinRefIdeal.τ).loc Cert.HinRefIdeal.main_arg3)
      ∧ r.2.mem ((c.tc : Thread Cert.HinRefIdeal.nD Cert.HinRefIdeal.τ).loc Cert.HinRefIdeal.main_arg4) = m ((c.tc : Thread Cert.HinRefIdeal.nD Cert.HinRefIdeal.τ).loc Cert.HinRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Ssd_SsdIdeal : Prop :=
  IdealRules.named_const.Statement Cert.SsdIdeal.κ "masked" .f32 0xF149F2CA#32 ⊥

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)
      ∧ m' ((c.tc : Thread Cert.SsdRefIdeal.nD Cert.SsdRefIdeal.τ).loc Cert.SsdRefIdeal.main_arg9) = m ((c.tc : Thread Cert.SsdIdeal.nD Cert.SsdIdeal.τ).loc Cert.SsdIdeal.main_arg9)
      ∧ m' ((c.tc : Thread Cert.SsdRefIdeal.nD Cert.SsdRefIdeal.τ).loc Cert.SsdRefIdeal.main_arg10) = m ((c.tc : Thread Cert.SsdIdeal.nD Cert.SsdIdeal.τ).loc Cert.SsdIdeal.main_arg10)
      ∧ m' ((c.tc : Thread Cert.SsdRefIdeal.nD Cert.SsdRefIdeal.τ).loc Cert.SsdRefIdeal.main_arg11) = m ((c.tc : Thread Cert.SsdIdeal.nD Cert.SsdIdeal.τ).loc Cert.SsdIdeal.main_arg11)
      ∧ m' ((c.tc : Thread Cert.SsdRefIdeal.nD Cert.SsdRefIdeal.τ).loc Cert.SsdRefIdeal.main_arg12) = m ((c.tc : Thread Cert.SsdIdeal.nD Cert.SsdIdeal.τ).loc Cert.SsdIdeal.main_arg12)
      ∧ m' ((c.tc : Thread Cert.SsdRefIdeal.nD Cert.SsdRefIdeal.τ).loc Cert.SsdRefIdeal.main_arg13) = m ((c.tc : Thread Cert.SsdIdeal.nD Cert.SsdIdeal.τ).loc Cert.SsdIdeal.main_arg13)
      ∧ m' ((c.tc : Thread Cert.SsdRefIdeal.nD Cert.SsdRefIdeal.τ).loc Cert.SsdRefIdeal.main_arg14) = m ((c.tc : Thread Cert.SsdIdeal.nD Cert.SsdIdeal.τ).loc Cert.SsdIdeal.main_arg14)) →
    ∃ (v0 : (c : Dev Cert.SsdIdeal.nD) → Buf (Elt Ideal) ((c.tc : Thread Cert.SsdIdeal.nD Cert.SsdIdeal.τ).loc Cert.SsdIdeal.main_v15)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v15) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
          ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
          ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10)
          ∧ r.2.mem ((c.tc : Thread Cert.SsdIdeal.nD Cert.SsdIdeal.τ).loc Cert.SsdIdeal.main_arg11) = m ((c.tc : Thread Cert.SsdIdeal.nD Cert.SsdIdeal.τ).loc Cert.SsdIdeal.main_arg11)
          ∧ r.2.mem ((c.tc : Thread Cert.SsdIdeal.nD Cert.SsdIdeal.τ).loc Cert.SsdIdeal.main_arg12) = m ((c.tc : Thread Cert.SsdIdeal.nD Cert.SsdIdeal.τ).loc Cert.SsdIdeal.main_arg12)
          ∧ r.2.mem ((c.tc : Thread Cert.SsdIdeal.nD Cert.SsdIdeal.τ).loc Cert.SsdIdeal.main_arg13) = m ((c.tc : Thread Cert.SsdIdeal.nD Cert.SsdIdeal.τ).loc Cert.SsdIdeal.main_arg13)
          ∧ r.2.mem ((c.tc : Thread Cert.SsdIdeal.nD Cert.SsdIdeal.τ).loc Cert.SsdIdeal.main_arg14) = m ((c.tc : Thread Cert.SsdIdeal.nD Cert.SsdIdeal.τ).loc Cert.SsdIdeal.main_arg14))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v120) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8)
          ∧ r.2.mem ((c.tc : Thread Cert.SsdRefIdeal.nD Cert.SsdRefIdeal.τ).loc Cert.SsdRefIdeal.main_arg9) = m' ((c.tc : Thread Cert.SsdRefIdeal.nD Cert.SsdRefIdeal.τ).loc Cert.SsdRefIdeal.main_arg9)
          ∧ r.2.mem ((c.tc : Thread Cert.SsdRefIdeal.nD Cert.SsdRefIdeal.τ).loc Cert.SsdRefIdeal.main_arg10) = m' ((c.tc : Thread Cert.SsdRefIdeal.nD Cert.SsdRefIdeal.τ).loc Cert.SsdRefIdeal.main_arg10)
          ∧ r.2.mem ((c.tc : Thread Cert.SsdRefIdeal.nD Cert.SsdRefIdeal.τ).loc Cert.SsdRefIdeal.main_arg11) = m' ((c.tc : Thread Cert.SsdRefIdeal.nD Cert.SsdRefIdeal.τ).loc Cert.SsdRefIdeal.main_arg11)
          ∧ r.2.mem ((c.tc : Thread Cert.SsdRefIdeal.nD Cert.SsdRefIdeal.τ).loc Cert.SsdRefIdeal.main_arg12) = m' ((c.tc : Thread Cert.SsdRefIdeal.nD Cert.SsdRefIdeal.τ).loc Cert.SsdRefIdeal.main_arg12)
          ∧ r.2.mem ((c.tc : Thread Cert.SsdRefIdeal.nD Cert.SsdRefIdeal.τ).loc Cert.SsdRefIdeal.main_arg13) = m' ((c.tc : Thread Cert.SsdRefIdeal.nD Cert.SsdRefIdeal.τ).loc Cert.SsdRefIdeal.main_arg13)
          ∧ r.2.mem ((c.tc : Thread Cert.SsdRefIdeal.nD Cert.SsdRefIdeal.τ).loc Cert.SsdRefIdeal.main_arg14) = m' ((c.tc : Thread Cert.SsdRefIdeal.nD Cert.SsdRefIdeal.τ).loc Cert.SsdRefIdeal.main_arg14))

def preserves_Last_LastIdeal : Prop :=
  True

def algebraic_LastIdeal_LastRefIdeal_pre_finite_values [hLastIdeal : Cert.LastIdeal.Facts] [hLastRefIdeal : Cert.LastRefIdeal.Facts] [hPre_finite_values : Cert.Pre_finite_values.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_finite_values m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v55) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)) →
    ∃ (v0 : (c : Dev Cert.GlaIdeal.nD) → Buf (Elt Ideal) ((c.tc : Thread Cert.GlaIdeal.nD Cert.GlaIdeal.τ).loc Cert.GlaIdeal.main_v7_0)) (v1 : (c : Dev Cert.GlaIdeal.nD) → Buf (Elt Ideal) ((c.tc : Thread Cert.GlaIdeal.nD Cert.GlaIdeal.τ).loc Cert.GlaIdeal.main_v7_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v7_0) = v0 c
          ∧ r.2.mem ((c.tc : Thread Cert.GlaIdeal.nD Cert.GlaIdeal.τ).loc Cert.GlaIdeal.main_v7_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v17) = v0 c
          ∧ r.2.mem ((c.tc : Thread Cert.GlaRefIdeal.nD Cert.GlaRefIdeal.τ).loc Cert.GlaRefIdeal.main_v18) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2))

def preserves_Sin_SinIdeal : Prop :=
  True

def algebraic_SinIdeal_SinRefIdeal [hSinIdeal : Cert.SinIdeal.Facts] [hSinRefIdeal : Cert.SinRefIdeal.Facts] : Prop :=
  ∀ (m : (ℓ : Loc Cert.SinIdeal.nD Cert.SinIdeal.τ Cert.SinIdeal.sig) → Buf (Elt Ideal) ℓ) (g : Dev Cert.SinIdeal.nD → PrngReg)
    (m' : (ℓ : Loc Cert.SinRefIdeal.nD Cert.SinRefIdeal.τ Cert.SinRefIdeal.sig) → Buf (Elt Ideal) ℓ) (g' : Dev Cert.SinRefIdeal.nD → PrngReg), Pre_SinIdeal m →
    (∀ c : Dev Cert.SinIdeal.nD,
      m' ((c.tc : Thread Cert.SinRefIdeal.nD Cert.SinRefIdeal.τ).loc Cert.SinRefIdeal.main_arg0) = m ((c.tc : Thread Cert.SinIdeal.nD Cert.SinIdeal.τ).loc Cert.SinIdeal.main_arg0)
      ∧ m' ((c.tc : Thread Cert.SinRefIdeal.nD Cert.SinRefIdeal.τ).loc Cert.SinRefIdeal.main_arg1) = m ((c.tc : Thread Cert.SinIdeal.nD Cert.SinIdeal.τ).loc Cert.SinIdeal.main_arg1)
      ∧ m' ((c.tc : Thread Cert.SinRefIdeal.nD Cert.SinRefIdeal.τ).loc Cert.SinRefIdeal.main_arg2) = m ((c.tc : Thread Cert.SinIdeal.nD Cert.SinIdeal.τ).loc Cert.SinIdeal.main_arg2)
      ∧ m' ((c.tc : Thread Cert.SinRefIdeal.nD Cert.SinRefIdeal.τ).loc Cert.SinRefIdeal.main_arg3) = m ((c.tc : Thread Cert.SinIdeal.nD Cert.SinIdeal.τ).loc Cert.SinIdeal.main_arg3)
      ∧ m' ((c.tc : Thread Cert.SinRefIdeal.nD Cert.SinRefIdeal.τ).loc Cert.SinRefIdeal.main_arg4) = m ((c.tc : Thread Cert.SinIdeal.nD Cert.SinIdeal.τ).loc Cert.SinIdeal.main_arg4)) →
    ∃ (v0 : (c : Dev Cert.SinIdeal.nD) → Buf (Elt Ideal) ((c.tc : Thread Cert.SinIdeal.nD Cert.SinIdeal.τ).loc Cert.SinIdeal.main_v13_0)) (v1 : (c : Dev Cert.SinIdeal.nD) → Buf (Elt Ideal) ((c.tc : Thread Cert.SinIdeal.nD Cert.SinIdeal.τ).loc Cert.SinIdeal.main_v13_1)) (v2 : (c : Dev Cert.SinIdeal.nD) → Buf (Elt Ideal) ((c.tc : Thread Cert.SinIdeal.nD Cert.SinIdeal.τ).loc Cert.SinIdeal.main_v13_2)),
      θ_run (Cert.SinIdeal.defs (F := Ideal)) (onTc (τ := Cert.SinIdeal.τ) (Cert.SinIdeal.main (F := Ideal))) ⟨m, fun _ => 0, g⟩ (fun r => ∀ c : Dev Cert.SinIdeal.nD,
          r.2.mem ((c.tc : Thread Cert.SinIdeal.nD Cert.SinIdeal.τ).loc Cert.SinIdeal.main_v13_0) = v0 c
          ∧ r.2.mem ((c.tc : Thread Cert.SinIdeal.nD Cert.SinIdeal.τ).loc Cert.SinIdeal.main_v13_1) = v1 c
          ∧ r.2.mem ((c.tc : Thread Cert.SinIdeal.nD Cert.SinIdeal.τ).loc Cert.SinIdeal.main_v13_2) = v2 c
          ∧ r.2.mem ((c.tc : Thread Cert.SinIdeal.nD Cert.SinIdeal.τ).loc Cert.SinIdeal.main_arg0) = m ((c.tc : Thread Cert.SinIdeal.nD Cert.SinIdeal.τ).loc Cert.SinIdeal.main_arg0)
          ∧ r.2.mem ((c.tc : Thread Cert.SinIdeal.nD Cert.SinIdeal.τ).loc Cert.SinIdeal.main_arg1) = m ((c.tc : Thread Cert.SinIdeal.nD Cert.SinIdeal.τ).loc Cert.SinIdeal.main_arg1)
          ∧ r.2.mem ((c.tc : Thread Cert.SinIdeal.nD Cert.SinIdeal.τ).loc Cert.SinIdeal.main_arg2) = m ((c.tc : Thread Cert.SinIdeal.nD Cert.SinIdeal.τ).loc Cert.SinIdeal.main_arg2)
          ∧ r.2.mem ((c.tc : Thread Cert.SinIdeal.nD Cert.SinIdeal.τ).loc Cert.SinIdeal.main_arg3) = m ((c.tc : Thread Cert.SinIdeal.nD Cert.SinIdeal.τ).loc Cert.SinIdeal.main_arg3)
          ∧ r.2.mem ((c.tc : Thread Cert.SinIdeal.nD Cert.SinIdeal.τ).loc Cert.SinIdeal.main_arg4) = m ((c.tc : Thread Cert.SinIdeal.nD Cert.SinIdeal.τ).loc Cert.SinIdeal.main_arg4))
      ∧ θ_run (Cert.SinRefIdeal.defs (F := Ideal)) (onTc (τ := Cert.SinRefIdeal.τ) (Cert.SinRefIdeal.main (F := Ideal))) ⟨m', fun _ => 0, g'⟩ (fun r => ∀ c : Dev Cert.SinRefIdeal.nD,
          r.2.mem ((c.tc : Thread Cert.SinRefIdeal.nD Cert.SinRefIdeal.τ).loc Cert.SinRefIdeal.main_v59) = v0 c
          ∧ r.2.mem ((c.tc : Thread Cert.SinRefIdeal.nD Cert.SinRefIdeal.τ).loc Cert.SinRefIdeal.main_v61) = v1 c
          ∧ r.2.mem ((c.tc : Thread Cert.SinRefIdeal.nD Cert.SinRefIdeal.τ).loc Cert.SinRefIdeal.main_v62) = v2 c
          ∧ r.2.mem ((c.tc : Thread Cert.SinRefIdeal.nD Cert.SinRefIdeal.τ).loc Cert.SinRefIdeal.main_arg0) = m' ((c.tc : Thread Cert.SinRefIdeal.nD Cert.SinRefIdeal.τ).loc Cert.SinRefIdeal.main_arg0)
          ∧ r.2.mem ((c.tc : Thread Cert.SinRefIdeal.nD Cert.SinRefIdeal.τ).loc Cert.SinRefIdeal.main_arg1) = m' ((c.tc : Thread Cert.SinRefIdeal.nD Cert.SinRefIdeal.τ).loc Cert.SinRefIdeal.main_arg1)
          ∧ r.2.mem ((c.tc : Thread Cert.SinRefIdeal.nD Cert.SinRefIdeal.τ).loc Cert.SinRefIdeal.main_arg2) = m' ((c.tc : Thread Cert.SinRefIdeal.nD Cert.SinRefIdeal.τ).loc Cert.SinRefIdeal.main_arg2)
          ∧ r.2.mem ((c.tc : Thread Cert.SinRefIdeal.nD Cert.SinRefIdeal.τ).loc Cert.SinRefIdeal.main_arg3) = m' ((c.tc : Thread Cert.SinRefIdeal.nD Cert.SinRefIdeal.τ).loc Cert.SinRefIdeal.main_arg3)
          ∧ r.2.mem ((c.tc : Thread Cert.SinRefIdeal.nD Cert.SinRefIdeal.τ).loc Cert.SinRefIdeal.main_arg4) = m' ((c.tc : Thread Cert.SinRefIdeal.nD Cert.SinRefIdeal.τ).loc Cert.SinRefIdeal.main_arg4))

def preserves_Hin_HinIdeal : Prop :=
  True

def algebraic_HinIdeal_HinRefIdeal [hHinIdeal : Cert.HinIdeal.Facts] [hHinRefIdeal : Cert.HinRefIdeal.Facts] : Prop :=
  ∀ (m : (ℓ : Loc Cert.HinIdeal.nD Cert.HinIdeal.τ Cert.HinIdeal.sig) → Buf (Elt Ideal) ℓ) (g : Dev Cert.HinIdeal.nD → PrngReg)
    (m' : (ℓ : Loc Cert.HinRefIdeal.nD Cert.HinRefIdeal.τ Cert.HinRefIdeal.sig) → Buf (Elt Ideal) ℓ) (g' : Dev Cert.HinRefIdeal.nD → PrngReg), Pre_HinIdeal m →
    (∀ c : Dev Cert.HinIdeal.nD,
      m' ((c.tc : Thread Cert.HinRefIdeal.nD Cert.HinRefIdeal.τ).loc Cert.HinRefIdeal.main_arg0) = m ((c.tc : Thread Cert.HinIdeal.nD Cert.HinIdeal.τ).loc Cert.HinIdeal.main_arg0)
      ∧ m' ((c.tc : Thread Cert.HinRefIdeal.nD Cert.HinRefIdeal.τ).loc Cert.HinRefIdeal.main_arg1) = m ((c.tc : Thread Cert.HinIdeal.nD Cert.HinIdeal.τ).loc Cert.HinIdeal.main_arg1)
      ∧ m' ((c.tc : Thread Cert.HinRefIdeal.nD Cert.HinRefIdeal.τ).loc Cert.HinRefIdeal.main_arg2) = m ((c.tc : Thread Cert.HinIdeal.nD Cert.HinIdeal.τ).loc Cert.HinIdeal.main_arg2)
      ∧ m' ((c.tc : Thread Cert.HinRefIdeal.nD Cert.HinRefIdeal.τ).loc Cert.HinRefIdeal.main_arg3) = m ((c.tc : Thread Cert.HinIdeal.nD Cert.HinIdeal.τ).loc Cert.HinIdeal.main_arg3)
      ∧ m' ((c.tc : Thread Cert.HinRefIdeal.nD Cert.HinRefIdeal.τ).loc Cert.HinRefIdeal.main_arg4) = m ((c.tc : Thread Cert.HinIdeal.nD Cert.HinIdeal.τ).loc Cert.HinIdeal.main_arg4)) →
    ∃ (v0 : (c : Dev Cert.HinIdeal.nD) → Buf (Elt Ideal) ((c.tc : Thread Cert.HinIdeal.nD Cert.HinIdeal.τ).loc Cert.HinIdeal.main_v13_0)) (v1 : (c : Dev Cert.HinIdeal.nD) → Buf (Elt Ideal) ((c.tc : Thread Cert.HinIdeal.nD Cert.HinIdeal.τ).loc Cert.HinIdeal.main_v13_1)) (v2 : (c : Dev Cert.HinIdeal.nD) → Buf (Elt Ideal) ((c.tc : Thread Cert.HinIdeal.nD Cert.HinIdeal.τ).loc Cert.HinIdeal.main_v13_2)),
      θ_run (Cert.HinIdeal.defs (F := Ideal)) (onTc (τ := Cert.HinIdeal.τ) (Cert.HinIdeal.main (F := Ideal))) ⟨m, fun _ => 0, g⟩ (fun r => ∀ c : Dev Cert.HinIdeal.nD,
          r.2.mem ((c.tc : Thread Cert.HinIdeal.nD Cert.HinIdeal.τ).loc Cert.HinIdeal.main_v13_0) = v0 c
          ∧ r.2.mem ((c.tc : Thread Cert.HinIdeal.nD Cert.HinIdeal.τ).loc Cert.HinIdeal.main_v13_1) = v1 c
          ∧ r.2.mem ((c.tc : Thread Cert.HinIdeal.nD Cert.HinIdeal.τ).loc Cert.HinIdeal.main_v13_2) = v2 c
          ∧ r.2.mem ((c.tc : Thread Cert.HinIdeal.nD Cert.HinIdeal.τ).loc Cert.HinIdeal.main_arg0) = m ((c.tc : Thread Cert.HinIdeal.nD Cert.HinIdeal.τ).loc Cert.HinIdeal.main_arg0)
          ∧ r.2.mem ((c.tc : Thread Cert.HinIdeal.nD Cert.HinIdeal.τ).loc Cert.HinIdeal.main_arg1) = m ((c.tc : Thread Cert.HinIdeal.nD Cert.HinIdeal.τ).loc Cert.HinIdeal.main_arg1)
          ∧ r.2.mem ((c.tc : Thread Cert.HinIdeal.nD Cert.HinIdeal.τ).loc Cert.HinIdeal.main_arg2) = m ((c.tc : Thread Cert.HinIdeal.nD Cert.HinIdeal.τ).loc Cert.HinIdeal.main_arg2)
          ∧ r.2.mem ((c.tc : Thread Cert.HinIdeal.nD Cert.HinIdeal.τ).loc Cert.HinIdeal.main_arg3) = m ((c.tc : Thread Cert.HinIdeal.nD Cert.HinIdeal.τ).loc Cert.HinIdeal.main_arg3)
          ∧ r.2.mem ((c.tc : Thread Cert.HinIdeal.nD Cert.HinIdeal.τ).loc Cert.HinIdeal.main_arg4) = m ((c.tc : Thread Cert.HinIdeal.nD Cert.HinIdeal.τ).loc Cert.HinIdeal.main_arg4))
      ∧ θ_run (Cert.HinRefIdeal.defs (F := Ideal)) (onTc (τ := Cert.HinRefIdeal.τ) (Cert.HinRefIdeal.main (F := Ideal))) ⟨m', fun _ => 0, g'⟩ (fun r => ∀ c : Dev Cert.HinRefIdeal.nD,
          r.2.mem ((c.tc : Thread Cert.HinRefIdeal.nD Cert.HinRefIdeal.τ).loc Cert.HinRefIdeal.main_v41) = v0 c
          ∧ r.2.mem ((c.tc : Thread Cert.HinRefIdeal.nD Cert.HinRefIdeal.τ).loc Cert.HinRefIdeal.main_v42) = v1 c
          ∧ r.2.mem ((c.tc : Thread Cert.HinRefIdeal.nD Cert.HinRefIdeal.τ).loc Cert.HinRefIdeal.main_v43) = v2 c
          ∧ r.2.mem ((c.tc : Thread Cert.HinRefIdeal.nD Cert.HinRefIdeal.τ).loc Cert.HinRefIdeal.main_arg0) = m' ((c.tc : Thread Cert.HinRefIdeal.nD Cert.HinRefIdeal.τ).loc Cert.HinRefIdeal.main_arg0)
          ∧ r.2.mem ((c.tc : Thread Cert.HinRefIdeal.nD Cert.HinRefIdeal.τ).loc Cert.HinRefIdeal.main_arg1) = m' ((c.tc : Thread Cert.HinRefIdeal.nD Cert.HinRefIdeal.τ).loc Cert.HinRefIdeal.main_arg1)
          ∧ r.2.mem ((c.tc : Thread Cert.HinRefIdeal.nD Cert.HinRefIdeal.τ).loc Cert.HinRefIdeal.main_arg2) = m' ((c.tc : Thread Cert.HinRefIdeal.nD Cert.HinRefIdeal.τ).loc Cert.HinRefIdeal.main_arg2)
          ∧ r.2.mem ((c.tc : Thread Cert.HinRefIdeal.nD Cert.HinRefIdeal.τ).loc Cert.HinRefIdeal.main_arg3) = m' ((c.tc : Thread Cert.HinRefIdeal.nD Cert.HinRefIdeal.τ).loc Cert.HinRefIdeal.main_arg3)
          ∧ r.2.mem ((c.tc : Thread Cert.HinRefIdeal.nD Cert.HinRefIdeal.τ).loc Cert.HinRefIdeal.main_arg4) = m' ((c.tc : Thread Cert.HinRefIdeal.nD Cert.HinRefIdeal.τ).loc Cert.HinRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v38) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def Claim : Prop :=
  ∃ (hFfn : Cert.Ffn.Facts) (hFfnIdeal : Cert.FfnIdeal.Facts) (hFfnRefIdeal : Cert.FfnRefIdeal.Facts) (hSsd : Cert.Ssd.Facts) (hSsdIdeal : Cert.SsdIdeal.Facts) (hSsdRefIdeal : Cert.SsdRefIdeal.Facts) (hLast : Cert.Last.Facts) (hLastIdeal : Cert.LastIdeal.Facts) (hLastRefIdeal : Cert.LastRefIdeal.Facts) (hGla : Cert.Gla.Facts) (hGlaIdeal : Cert.GlaIdeal.Facts) (hGlaRefIdeal : Cert.GlaRefIdeal.Facts) (hSin : Cert.Sin.Facts) (hSinIdeal : Cert.SinIdeal.Facts) (hSinRefIdeal : Cert.SinRefIdeal.Facts) (hHin : Cert.Hin.Facts) (hHinIdeal : Cert.HinIdeal.Facts) (hHinRefIdeal : Cert.HinRefIdeal.Facts) (hOut : Cert.Out.Facts) (hOutIdeal : Cert.OutIdeal.Facts) (hOutRefIdeal : Cert.OutRefIdeal.Facts) (hPre_finite_values : Cert.Pre_finite_values.Facts),
    quiescent_Ffn (hFfn := hFfn)
    ∧ quiescent_FfnIdeal (hFfnIdeal := hFfnIdeal)
    ∧ quiescent_FfnRefIdeal (hFfnRefIdeal := hFfnRefIdeal)
    ∧ quiescent_Ssd (hSsd := hSsd)
    ∧ quiescent_SsdIdeal (hSsdIdeal := hSsdIdeal)
    ∧ quiescent_SsdRefIdeal (hSsdRefIdeal := hSsdRefIdeal)
    ∧ quiescent_Last (hLast := hLast)
    ∧ quiescent_LastIdeal (hLastIdeal := hLastIdeal)
    ∧ quiescent_LastIdeal_pre_finite_values (hLastIdeal := hLastIdeal) (hPre_finite_values := hPre_finite_values)
    ∧ quiescent_LastRefIdeal (hLastRefIdeal := hLastRefIdeal)
    ∧ quiescent_LastRefIdeal_pre_finite_values (hLastRefIdeal := hLastRefIdeal) (hPre_finite_values := hPre_finite_values)
    ∧ quiescent_Gla (hGla := hGla)
    ∧ quiescent_GlaIdeal (hGlaIdeal := hGlaIdeal)
    ∧ quiescent_GlaRefIdeal (hGlaRefIdeal := hGlaRefIdeal)
    ∧ quiescent_Sin (hSin := hSin)
    ∧ quiescent_SinIdeal (hSinIdeal := hSinIdeal)
    ∧ quiescent_SinRefIdeal (hSinRefIdeal := hSinRefIdeal)
    ∧ quiescent_Hin (hHin := hHin)
    ∧ quiescent_HinIdeal (hHinIdeal := hHinIdeal)
    ∧ quiescent_HinRefIdeal (hHinRefIdeal := hHinRefIdeal)
    ∧ quiescent_Out (hOut := hOut)
    ∧ quiescent_OutIdeal (hOutIdeal := hOutIdeal)
    ∧ quiescent_OutRefIdeal (hOutRefIdeal := hOutRefIdeal)
    ∧ preserves_Ffn_FfnIdeal
    ∧ algebraic_FfnIdeal_FfnRefIdeal (hFfnIdeal := hFfnIdeal) (hFfnRefIdeal := hFfnRefIdeal)
    ∧ preserves_Ssd_SsdIdeal
    ∧ algebraic_SsdIdeal_SsdRefIdeal (hSsdIdeal := hSsdIdeal) (hSsdRefIdeal := hSsdRefIdeal)
    ∧ preserves_Last_LastIdeal
    ∧ algebraic_LastIdeal_LastRefIdeal_pre_finite_values (hLastIdeal := hLastIdeal) (hLastRefIdeal := hLastRefIdeal) (hPre_finite_values := hPre_finite_values)
    ∧ preserves_Gla_GlaIdeal
    ∧ algebraic_GlaIdeal_GlaRefIdeal (hGlaIdeal := hGlaIdeal) (hGlaRefIdeal := hGlaRefIdeal)
    ∧ preserves_Sin_SinIdeal
    ∧ algebraic_SinIdeal_SinRefIdeal (hSinIdeal := hSinIdeal) (hSinRefIdeal := hSinRefIdeal)
    ∧ preserves_Hin_HinIdeal
    ∧ algebraic_HinIdeal_HinRefIdeal (hHinIdeal := hHinIdeal) (hHinRefIdeal := hHinRefIdeal)
    ∧ preserves_Out_OutIdeal
    ∧ algebraic_OutIdeal_OutRefIdeal (hOutIdeal := hOutIdeal) (hOutRefIdeal := hOutRefIdeal)
-- ==== Pre_finite_values.lean ====
abbrev S32768x1024 : Shape := ⟨2, ![32768, 1024]⟩
abbrev S8x6x1024 : Shape := ⟨3, ![8, 6, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  bcast_S_S8x6x1024 : S_.BroadcastsInDim S8x6x1024 (![] : Fin 0 → Fin S8x6x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S32768x1024 .f32) (main_arg1 : FVec F S8x6x1024 .f32) (main_arg2 : FVec F S1024x4096 .f32) (main_arg3 : FVec F S4096x1024 .f32) (main_arg4 : FVec F S1024 .f32) (main_arg5 : FVec F S1024 .f32) : IVec S32768x1024 1 × IVec S8x6x1024 1 × IVec S1024x4096 1 × IVec S4096x1024 1 × IVec S1024 1 × IVec S1024 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S8x6x1024 .f32 := Host.absf main_arg1
  let main_cst_0 : FVec F S_ .f32 := constant S_ .f32 0x7F800000#32
  let main_v4 : FVec F S8x6x1024 .f32 := broadcastInDim S8x6x1024 ![] bcast_S_S8x6x1024 main_cst_0
  let main_v5 : IVec S8x6x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Ffn.lean ====
abbrev S32768x1024 : Shape := ⟨2, ![32768, 1024]⟩
abbrev S8x6x1024 : Shape := ⟨3, ![8, 6, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S6x1024 : Shape := ⟨2, ![6, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S8x6x1024 : Shape := ⟨3, ![8, 6, 1024]⟩
abbrev S1024x4096 : Shape := ⟨2, ![1024, 4096]⟩
abbrev S4096x1024 : Shape := ⟨2, ![4096, 1024]⟩
abbrev S1024 : Shape := ⟨1, ![1024]⟩
abbrev S8x4096x1024 : Shape := ⟨3, ![8, 4096, 1024]⟩
abbrev S8x1x1024 : Shape := ⟨3, ![8, 1, 1024]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S_, .f32⟩
  | .hbm, ⟨14, _⟩ => ⟨S8x1x1024, .f32⟩
  | .hbm, ⟨15, _⟩ => ⟨S8x1x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Ssd.lean ====
abbrev S8x4096x4096 : Shape := ⟨3, ![8, 4096, 4096]⟩
abbrev S8x4096x2048 : Shape := ⟨3, ![8, 4096, 2048]⟩
abbrev S8x4096x128 : Shape := ⟨3, ![8, 4096, 128]⟩
abbrev S8x32x128x128 : Shape := ⟨4, ![8, 32, 128, 128]⟩
abbrev S8x32x8x128x256 : Shape := ⟨5, ![8, 32, 8, 128, 256]⟩
abbrev S8x4096x1024 : Shape := ⟨3, ![8, 4096, 1024]⟩
abbrev S8x6x1024 : Shape := ⟨3, ![8, 6, 1024]⟩
abbrev S32 : Shape := ⟨1, ![32]⟩
abbrev S2048 : Shape := ⟨1, ![2048]⟩
abbrev S2048x1024 : Shape := ⟨2, ![2048, 1024]⟩
abbrev S1024 : Shape := ⟨1, ![1024]⟩
abbrev S32x64 : Shape := ⟨2, ![32, 64]⟩
abbrev S1x2048 : Shape := ⟨2, ![1, 2048]⟩
abbrev S128x128 : Shape := ⟨2, ![128, 128]⟩
abbrev S1x128x128 : Shape := ⟨3, ![1, 128, 128]⟩
abbrev S2x128x128 : Shape := ⟨3, ![2, 128, 128]⟩
abbrev S1x1024 : Shape := ⟨2, ![1, 1024]⟩
abbrev S1x128x2048 : Shape := ⟨3, ![1, 128, 2048]⟩
abbrev S1x128x1024 : Shape := ⟨3, ![1, 128, 1024]⟩
abbrev S1x1x128x128 : Shape := ⟨4, ![1, 1, 128, 128]⟩
abbrev S1x1x8x128x256 : Shape := ⟨5, ![1, 1, 8, 128, 256]⟩
abbrev S1x6x1024 : Shape := ⟨3, ![1, 6, 1024]⟩
abbrev S128x2048 : Shape := ⟨2, ![128, 2048]⟩
abbrev S1x1x1x128x128 : Shape := ⟨5, ![1, 1, 1, 128, 128]⟩
abbrev S128x1 : Shape := ⟨2, ![128, 1]⟩
abbrev S1x128 : Shape := ⟨2, ![1, 128]⟩
abbrev S128x768 : Shape := ⟨2, ![128, 768]⟩
abbrev S768x128 : Shape := ⟨2, ![768, 128]⟩
abbrev S128 : Shape := ⟨1, ![128]⟩
abbrev S128x1024 : Shape := ⟨2, ![128, 1024]⟩
abbrev S6x1024 : Shape := ⟨2, ![6, 1024]⟩

abbrev nBuf : Space → Nat
  | .hbm => 31
  | .vmem => 33
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x2048, .bf16⟩
  | .hbm, ⟨2, _⟩ => ⟨S8x4096x128, .f32⟩
  | .hbm, ⟨3, _⟩ => ⟨S8x4096x128, .f32⟩
  | .hbm, ⟨4, _⟩ => ⟨S8x32x128x128, .f32⟩
  | .hbm, ⟨5, _⟩ => ⟨S8x32x128x128, .f32⟩
  | .hbm, ⟨6, _⟩ => ⟨S8x32x8x128x256, .bf16⟩
  | .hbm, ⟨7, _⟩ => ⟨S8x32x8x128x256, .bf16⟩
  | .hbm, ⟨8, _⟩ => ⟨S8x4096x1024, .f32⟩
  | .hbm, ⟨9, _⟩ => ⟨S8x6x1024, .f32⟩
  | .hbm, ⟨10, _⟩ => ⟨S32, .f32⟩
  | .hbm, ⟨11, _⟩ => ⟨S2048, .f32⟩
  | .hbm, ⟨12, _⟩ => ⟨S2048x1024, .f32⟩
  | .hbm, ⟨13, _⟩ => ⟨S1024, .f32⟩
  | .hbm, ⟨14, _⟩ => ⟨S1024, .f32⟩
  | .hbm, ⟨15, _⟩ => ⟨S32x64, .f32⟩
  | .hbm, ⟨16, _⟩ => ⟨S2048, .f32⟩
  | .hbm, ⟨17, _⟩ => ⟨S1x2048, .f32⟩
  | .hbm, ⟨18, _⟩ => ⟨S2048x1024, .bf16⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .i1⟩
  | .hbm, ⟨23, _⟩ => ⟨S1x128x128, .i1⟩
  | .hbm, ⟨24, _⟩ => ⟨S1x128x128, .i1⟩
  | .hbm, ⟨25, _⟩ => ⟨S2x128x128, .i1⟩
  | .hbm, ⟨26, _⟩ => ⟨S2x128x128, .f32⟩
  | .hbm, ⟨27, _⟩ => ⟨S1x2048, .f32⟩
  | .hbm, ⟨28, _⟩ => ⟨S1x1024, .f32⟩
  | .hbm, ⟨29, _⟩ => ⟨S1x1024, .f32⟩
  | .hbm, ⟨30, _⟩ => ⟨S8x4096x1024, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x1x128x128, .f32⟩
  | .local _ .vmem, ⟨13, _⟩ => ⟨S1x1x128x128, .f32⟩
  | .local _ .vmem, ⟨14, _⟩ => ⟨S1x1x128x128, .f32⟩
  | .local _ .vmem, ⟨15, _⟩ => ⟨S1x1x128x128, .f32⟩
  | .local _ .vmem, ⟨16, _⟩ => ⟨S1x1x8x128x256, .bf16⟩
  | .local _ .vmem, ⟨17, _⟩ => ⟨S1x1x8x128x256, .bf16⟩
  | .local _ .vmem, ⟨18, _⟩ => ⟨S1x1x8x128x256, .bf16⟩
  | .local _ .vmem, ⟨19, _⟩ => ⟨S1x1x8x128x256, .bf16⟩
  | .local _ .vmem, ⟨20, _⟩ => ⟨S2x128x128, .f32⟩
  | .local _ .vmem, ⟨21, _⟩ => ⟨S1x2048, .f32⟩
  | .local _ .vmem, ⟨22, _⟩ => ⟨S1x2048, .f32⟩
  | .local _ .vmem, ⟨23, _⟩ => ⟨S2048x1024, .bf16⟩
  | .local _ .vmem, ⟨24, _⟩ => ⟨S1x128x1024, .f32⟩
  | .local _ .vmem, ⟨25, _⟩ => ⟨S1x128x1024, .f32⟩
  | .local _ .vmem, ⟨26, _⟩ => ⟨S1x6x1024, .f32⟩
  | .local _ .vmem, ⟨27, _⟩ => ⟨S1x6x1024, .f32⟩
  | .local _ .vmem, ⟨28, _⟩ => ⟨S1x1024, .f32⟩
  | .local _ .vmem, ⟨29, _⟩ => ⟨S1x1024, .f32⟩
  | .local _ .vmem, ⟨30, _⟩ => ⟨S1x128x1024, .f32⟩
  | .local _ .vmem, ⟨31, _⟩ => ⟨S1x128x1024, .f32⟩
  | .local _ .vmem, ⟨32, _⟩ => ⟨S128x2048, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x8x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S2x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x6x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== SsdIdeal.lean ====
variable {F : FTy → Type} [FloatOps F] [Named F]
def κ : String → Option EReal := fun
  | "masked" => some ⊥
  | _ => none
-- ==== SsdRefIdeal.lean ====
abbrev S8x4096x4096 : Shape := ⟨3, ![8, 4096, 4096]⟩
abbrev S8x4096x2048 : Shape := ⟨3, ![8, 4096, 2048]⟩
abbrev S8x4096x128 : Shape := ⟨3, ![8, 4096, 128]⟩
abbrev S8x32x128x128 : Shape := ⟨4, ![8, 32, 128, 128]⟩
abbrev S8x32x8x128x256 : Shape := ⟨5, ![8, 32, 8, 128, 256]⟩
abbrev S8x4096x1024 : Shape := ⟨3, ![8, 4096, 1024]⟩
abbrev S8x6x1024 : Shape := ⟨3, ![8, 6, 1024]⟩
abbrev S32 : Shape := ⟨1, ![32]⟩
abbrev S2048 : Shape := ⟨1, ![2048]⟩
abbrev S2048x1024 : Shape := ⟨2, ![2048, 1024]⟩
abbrev S1024 : Shape := ⟨1, ![1024]⟩
abbrev S8x32x128x8x4x64 : Shape := ⟨6, ![8, 32, 128, 8, 4, 64]⟩
abbrev S8x32x128x8x128 : Shape := ⟨5, ![8, 32, 128, 8, 128]⟩
abbrev S128x128 : Shape := ⟨2, ![128, 128]⟩
abbrev S8x32x8x128x128 : Shape := ⟨5, ![8, 32, 8, 128, 128]⟩
abbrev S8x4096x32 : Shape := ⟨3, ![8, 4096, 32]⟩
abbrev S8x32x128x8x4 : Shape := ⟨5, ![8, 32, 128, 8, 4]⟩
abbrev S8x32x8x4x128 : Shape := ⟨5, ![8, 32, 8, 4, 128]⟩
abbrev S8x32x32x128 : Shape := ⟨4, ![8, 32, 32, 128]⟩
abbrev S8x32x8x4x128x1 : Shape := ⟨6, ![8, 32, 8, 4, 128, 1]⟩
abbrev S8x32x8x4x1x128 : Shape := ⟨6, ![8, 32, 8, 4, 1, 128]⟩
abbrev S8x32x8x4x128x128 : Shape := ⟨6, ![8, 32, 8, 4, 128, 128]⟩
abbrev S_ : Shape := ⟨0, ![]⟩
abbrev S8x32x8x1x128x128 : Shape := ⟨6, ![8, 32, 8, 1, 128, 128]⟩
abbrev S8x32x8x128x4x64 : Shape := ⟨6, ![8, 32, 8, 128, 4, 64]⟩
abbrev S8x32x8x4x128x64 : Shape := ⟨6, ![8, 32, 8, 4, 128, 64]⟩
abbrev S8x32x128x8x1x128 : Shape := ⟨6, ![8, 32, 128, 8, 1, 128]⟩
abbrev S8x32x128x8x4x1 : Shape := ⟨6, ![8, 32, 128, 8, 4, 1]⟩
abbrev S8x32x128x8x4x128 : Shape := ⟨6, ![8, 32, 128, 8, 4, 128]⟩
abbrev S8x4x1 : Shape := ⟨3, ![8, 4, 1]⟩
abbrev S1x1x1x8x4x1 : Shape := ⟨6, ![1, 1, 1, 8, 4, 1]⟩
abbrev S8x4096 : Shape := ⟨2, ![8, 4096]⟩
abbrev S8x4096x1 : Shape := ⟨3, ![8, 4096, 1]⟩
abbrev S1x1x2048 : Shape := ⟨3, ![1, 1, 2048]⟩
abbrev S8x1x1024 : Shape := ⟨3, ![8, 1, 1024]⟩
abbrev S1x1x1024 : Shape := ⟨3, ![1, 1, 1024]⟩

abbrev nBuf : Space → Nat
  | .hbm => 161
  | .vmem => 0
  | .smem => 0
  | _ => 0

abbrev hbmTy0_0 (i : Nat) : BufTy := match i % 128 with
  | 0 => ⟨S8x4096x4096, .bf16⟩
  | 1 => ⟨S8x4096x2048, .bf16⟩
  | 2 => ⟨S8x4096x128, .f32⟩
  | 3 => ⟨S8x4096x128, .f32⟩
  | 4 => ⟨S8x32x128x128, .f32⟩
  | 5 => ⟨S8x32x128x128, .f32⟩
  | 6 => ⟨S8x32x8x128x256, .bf16⟩
  | 7 => ⟨S8x32x8x128x256, .bf16⟩
  | 8 => ⟨S8x4096x1024, .f32⟩
  | 9 => ⟨S8x6x1024, .f32⟩
  | 10 => ⟨S32, .f32⟩
  | 11 => ⟨S2048, .f32⟩
  | 12 => ⟨S2048x1024, .f32⟩
  | 13 => ⟨S1024, .f32⟩
  | 14 => ⟨S1024, .f32⟩
  | 15 => ⟨S8x4096x4096, .f32⟩
  | 16 => ⟨S8x4096x2048, .f32⟩
  | 17 => ⟨S8x32x128x8x4x64, .f32⟩
  | 18 => ⟨S8x4096x1024, .f32⟩
  | 19 => ⟨S8x32x128x8x128, .f32⟩
  | 20 => ⟨S8x4096x1024, .f32⟩
  | 21 => ⟨S8x32x128x8x128, .f32⟩
  | 22 => ⟨S128x128, .i32⟩
  | 23 => ⟨S128x128, .i32⟩
  | 24 => ⟨S8x32x8x128x128, .f32⟩
  | 25 => ⟨S128x128, .i1⟩
  | 26 => ⟨S8x4096x32, .f32⟩
  | 27 => ⟨S8x32x128x8x4, .f32⟩
  | 28 => ⟨S8x32x8x4x128, .f32⟩
  | 29 => ⟨S8x4096x32, .f32⟩
  | 30 => ⟨S8x32x128x8x4, .f32⟩
  | 31 => ⟨S8x32x32x128, .f32⟩
  | 32 => ⟨S8x32x8x4x128, .f32⟩
  | 33 => ⟨S8x32x8x4x128x1, .f32⟩
  | 34 => ⟨S8x32x8x4x1x128, .f32⟩
  | 35 => ⟨S8x32x8x4x128x128, .f32⟩
  | 36 => ⟨S8x32x8x4x128x128, .f32⟩
  | 37 => ⟨S8x32x8x4x128x128, .f32⟩
  | 38 => ⟨S_, .f32⟩
  | 39 => ⟨S_, .f32⟩
  | 40 => ⟨S8x32x8x4x128x128, .i1⟩
  | 41 => ⟨S8x32x8x4x128x128, .f32⟩
  | 42 => ⟨S8x32x8x4x128x128, .f32⟩
  | 43 => ⟨S8x32x8x4x128x128, .f32⟩
  | 44 => ⟨S8x32x8x1x128x128, .f32⟩
  | 45 => ⟨S8x32x8x4x128x128, .f32⟩
  | 46 => ⟨S8x32x8x4x128x128, .f32⟩
  | 47 => ⟨S8x32x8x128x256, .f32⟩
  | 48 => ⟨S8x32x8x128x4x64, .f32⟩
  | 49 => ⟨S8x32x8x4x128x64, .f32⟩
  | 50 => ⟨S8x32x128x8x1x128, .f32⟩
  | 51 => ⟨S8x32x128x8x4x1, .f32⟩
  | 52 => ⟨S8x32x128x8x4x128, .f32⟩
  | 53 => ⟨S8x32x128x8x4x128, .f32⟩
  | 54 => ⟨S8x32x128x8x4x128, .f32⟩
  | 55 => ⟨S8x32x8x4x128x64, .f32⟩
  | 56 => ⟨S8x32x8x4x128x64, .f32⟩
  | 57 => ⟨S128x128, .i1⟩
  | 58 => ⟨S8x4096x32, .f32⟩
  | 59 => ⟨S8x32x128x8x4, .f32⟩
  | 60 => ⟨S8x32x8x4x128, .f32⟩
  | 61 => ⟨S8x4096x32, .f32⟩
  | 62 => ⟨S8x32x128x8x4, .f32⟩
  | 63 => ⟨S8x32x32x128, .f32⟩
  | 64 => ⟨S8x32x8x4x128, .f32⟩
  | 65 => ⟨S8x32x8x4x128x1, .f32⟩
  | 66 => ⟨S8x32x8x4x1x128, .f32⟩
  | 67 => ⟨S8x32x8x4x128x128, .f32⟩
  | 68 => ⟨S8x32x8x4x128x128, .f32⟩
  | 69 => ⟨S8x32x8x4x128x128, .f32⟩
  | 70 => ⟨S_, .f32⟩
  | 71 => ⟨S_, .f32⟩
  | 72 => ⟨S8x32x8x4x128x128, .i1⟩
  | 73 => ⟨S8x32x8x4x128x128, .f32⟩
  | 74 => ⟨S8x32x8x4x128x128, .f32⟩
  | 75 => ⟨S8x32x8x4x128x128, .f32⟩
  | 76 => ⟨S8x32x8x1x128x128, .f32⟩
  | 77 => ⟨S8x32x8x4x128x128, .f32⟩
  | 78 => ⟨S8x32x8x4x128x128, .f32⟩
  | 79 => ⟨S8x32x8x128x256, .f32⟩
  | 80 => ⟨S8x32x8x128x4x64, .f32⟩
  | 81 => ⟨S8x32x8x4x128x64, .f32⟩
  | 82 => ⟨S8x32x128x8x1x128, .f32⟩
  | 83 => ⟨S8x32x128x8x4x1, .f32⟩
  | 84 => ⟨S8x32x128x8x4x128, .f32⟩
  | 85 => ⟨S8x32x128x8x4x128, .f32⟩
  | 86 => ⟨S8x32x128x8x4x128, .f32⟩
  | 87 => ⟨S8x32x8x4x128x64, .f32⟩
  | 88 => ⟨S8x32x8x4x128x64, .f32⟩
  | 89 => ⟨S8x32x8x4x128x64, .f32⟩
  | 90 => ⟨S8x32x128x8x4x64, .f32⟩
  | 91 => ⟨S8x4x1, .f32⟩
  | 92 => ⟨S1x1x1x8x4x1, .f32⟩
  | 93 => ⟨S8x32x128x8x4x64, .f32⟩
  | 94 => ⟨S8x32x128x8x4x64, .f32⟩
  | 95 => ⟨S8x32x128x8x4x64, .f32⟩
  | 96 => ⟨S8x4096x2048, .f32⟩
  | 97 => ⟨S8x4096x2048, .f32⟩
  | 98 => ⟨S8x4096x2048, .f32⟩
  | 99 => ⟨S8x4096x2048, .f32⟩
  | 100 => ⟨S_, .f32⟩
  | 101 => ⟨S8x4096x2048, .f32⟩
  | 102 => ⟨S8x4096x2048, .f32⟩
  | 103 => ⟨S_, .f32⟩
  | 104 => ⟨S8x4096x2048, .f32⟩
  | 105 => ⟨S8x4096x2048, .f32⟩
  | 106 => ⟨S8x4096x2048, .f32⟩
  | 107 => ⟨S8x4096x2048, .f32⟩
  | 108 => ⟨S8x4096x2048, .f32⟩
  | 109 => ⟨S_, .f32⟩
  | 110 => ⟨S8x4096, .f32⟩
  | 111 => ⟨S8x4096x1, .f32⟩
  | 112 => ⟨S_, .f32⟩
  | 113 => ⟨S8x4096x1, .f32⟩
  | 114 => ⟨S8x4096x1, .f32⟩
  | 115 => ⟨S_, .f32⟩
  | 116 => ⟨S8x4096x1, .f32⟩
  | 117 => ⟨S8x4096x1, .f32⟩
  | 118 => ⟨S8x4096x1, .f32⟩
  | 119 => ⟨S8x4096x2048, .f32⟩
  | 120 => ⟨S8x4096x2048, .f32⟩
  | 121 => ⟨S1x1x2048, .f32⟩
  | 122 => ⟨S8x4096x2048, .f32⟩
  | 123 => ⟨S8x4096x2048, .f32⟩
  | 124 => ⟨S8x4096x1024, .f32⟩
  | 125 => ⟨S_, .f32⟩
  | 126 => ⟨S8x4096x1024, .f32⟩
  | 127 => ⟨S8x4096x1024, .f32⟩
  | _ => ⟨S8x4096x4096, .bf16⟩

abbrev hbmTy0_1 (i : Nat) : BufTy := match i % 128 with
  | 0 => ⟨S8x1x1024, .f32⟩
  | 1 => ⟨S8x4096x1024, .f32⟩
  | 2 => ⟨S8x4096x1024, .f32⟩
  | 3 => ⟨S8x4096x1024, .f32⟩
  | 4 => ⟨S_, .f32⟩
  | 5 => ⟨S8x4096, .f32⟩
  | 6 => ⟨S8x4096x1, .f32⟩
  | 7 => ⟨S_, .f32⟩
  | 8 => ⟨S8x4096x1, .f32⟩
  | 9 => ⟨S8x4096x1, .f32⟩
  | 10 => ⟨S8x4096x1024, .f32⟩
  | 11 => ⟨S8x4096x1024, .f32⟩
  | 12 => ⟨S8x4096x1024, .f32⟩
  | 13 => ⟨S_, .f32⟩
  | 14 => ⟨S8x4096, .f32⟩
  | 15 => ⟨S8x4096x1, .f32⟩
  | 16 => ⟨S_, .f32⟩
  | 17 => ⟨S8x4096x1, .f32⟩
  | 18 => ⟨S8x4096x1, .f32⟩
  | 19 => ⟨S8x4096x1024, .f32⟩
  | 20 => ⟨S8x4096x1024, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S1x1x1024, .f32⟩
  | 31 => ⟨S8x4096x1024, .f32⟩
  | 32 => ⟨S8x4096x1024, .f32⟩
  | _ => ⟨S8x4096x4096, .bf16⟩

abbrev hbmTy (i : Nat) : BufTy := match i / 128 with
  | 0 => hbmTy0_0 i
  | 1 => hbmTy0_1 i
  | _ => ⟨S8x4096x4096, .bf16⟩

abbrev bufTy : (tb : Table) → Fin (tcTables nBuf tb) → BufTy
  | .hbm, ⟨i, _⟩ => hbmTy i
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_0 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_1 : Ref sig .tc := ⟨.hbm, 109, rfl⟩
abbrev main_v78 : Ref sig .tc := ⟨.hbm, 110, rfl⟩
abbrev main_v79 : Ref sig .tc := ⟨.hbm, 111, rfl⟩
abbrev main_cst_2 : Ref sig .tc := ⟨.hbm, 112, rfl⟩
abbrev main_v80 : Ref sig .tc := ⟨.hbm, 113, rfl⟩
abbrev main_v81 : Ref sig .tc := ⟨.hbm, 114, rfl⟩
abbrev main_cst_3 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_4 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_5 : Ref sig .tc := ⟨.hbm, 132, rfl⟩
abbrev main_v97 : Ref sig .tc := ⟨.hbm, 133, rfl⟩
abbrev main_v98 : Ref sig .tc := ⟨.hbm, 134, rfl⟩
abbrev main_cst_6 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_7 : Ref sig .tc := ⟨.hbm, 141, rfl⟩
abbrev main_v104 : Ref sig .tc := ⟨.hbm, 142, rfl⟩
abbrev main_v105 : Ref sig .tc := ⟨.hbm, 143, rfl⟩
abbrev main_cst_8 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_9 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩

abbrev nD : Nat := 1
abbrev τ : Topo := Topo.v7x

variable {F : FTy → Type} [FloatOps F]
-- ==== Last.lean ====
abbrev S32768x1024 : Shape := ⟨2, ![32768, 1024]⟩
abbrev S8x6x1024 : Shape := ⟨3, ![8, 6, 1024]⟩
abbrev S1024x4096 : Shape := ⟨2, ![1024, 4096]⟩
abbrev S4096x1024 : Shape := ⟨2, ![4096, 1024]⟩
abbrev S1024 : Shape := ⟨1, ![1024]⟩
abbrev S128x128 : Shape := ⟨2, ![128, 128]⟩
abbrev S1x1024 : Shape := ⟨2, ![1, 1024]⟩
abbrev S512x1024 : Shape := ⟨2, ![512, 1024]⟩
abbrev S1x6x1024 : Shape := ⟨3, ![1, 6, 1024]⟩
abbrev S6x1024 : Shape := ⟨2, ![6, 1024]⟩
abbrev S1024x1024 : Shape := ⟨2, ![1024, 1024]⟩
abbrev S512 : Shape := ⟨1, ![512]⟩
abbrev S512x1 : Shape := ⟨2, ![512, 1]⟩
abbrev S128x1024 : Shape := ⟨2, ![128, 1024]⟩

abbrev nBuf : Space → Nat
  | .hbm => 12
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S128x128, .bf16⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S128x128, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LastRefIdeal.lean ====
abbrev S32768x1024 : Shape := ⟨2, ![32768, 1024]⟩
abbrev S8x6x1024 : Shape := ⟨3, ![8, 6, 1024]⟩
abbrev S1024x4096 : Shape := ⟨2, ![1024, 4096]⟩
abbrev S4096x1024 : Shape := ⟨2, ![4096, 1024]⟩
abbrev S1024 : Shape := ⟨1, ![1024]⟩
abbrev S8x4096x1024 : Shape := ⟨3, ![8, 4096, 1024]⟩
abbrev S8x64x64x1024 : Shape := ⟨4, ![8, 64, 64, 1024]⟩
abbrev S64 : Shape := ⟨1, ![64]⟩
abbrev S_ : Shape := ⟨0, ![]⟩
abbrev S1x64x1x1 : Shape := ⟨4, ![1, 64, 1, 1]⟩
abbrev S8x1x1024 : Shape := ⟨3, ![8, 1, 1024]⟩
abbrev S8x4096x4096 : Shape := ⟨3, ![8, 4096, 4096]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S8x64x64x1024, .f32⟩
  | .hbm, ⟨8, _⟩ => ⟨S64, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S_, .i1⟩
  | .hbm, ⟨25, _⟩ => ⟨S64, .i1⟩
  | .hbm, ⟨26, _⟩ => ⟨S64, .i1⟩
  | .hbm, ⟨27, _⟩ => ⟨S64, .i1⟩
  | .hbm, ⟨28, _⟩ => ⟨S64, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S1x64x1x1, .i1⟩
  | .hbm, ⟨35, _⟩ => ⟨S8x64x64x1024, .f32⟩
  | .hbm, ⟨36, _⟩ => ⟨S8x64x64x1024, .i1⟩
  | .hbm, ⟨37, _⟩ => ⟨S8x64x64x1024, .f32⟩
  | .hbm, ⟨38, _⟩ => ⟨S8x4096x1024, .f32⟩
  | .hbm, ⟨39, _⟩ => ⟨S8x1x1024, .f32⟩
  | .hbm, ⟨40, _⟩ => ⟨S8x1x1024, .f32⟩
  | .hbm, ⟨41, _⟩ => ⟨S8x1x1024, .f32⟩
  | .hbm, ⟨42, _⟩ => ⟨S8x1x1024, .f32⟩
  | .hbm, ⟨43, _⟩ => ⟨S8x1x1024, .f32⟩
  | .hbm, ⟨44, _⟩ => ⟨S8x1x1024, .f32⟩
  | .hbm, ⟨45, _⟩ => ⟨S_, .f32⟩
  | .hbm, ⟨46, _⟩ => ⟨S8x1x1024, .f32⟩
  | .hbm, ⟨47, _⟩ => ⟨S8x1x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x4096, .f32⟩
  | .hbm, ⟨53, _⟩ => ⟨S_, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x1024, .f32⟩
  | .hbm, ⟨58, _⟩ => ⟨S_, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S8x4096x1024, .f32⟩
  | .hbm, ⟨80, _⟩ => ⟨S8x4096x1024, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S8x4096x1, .f32⟩
  | .hbm, ⟨85, _⟩ => ⟨S8x4096x1024, .f32⟩
  | .hbm, ⟨86, _⟩ => ⟨S8x4096x1024, .f32⟩
  | .hbm, ⟨87, _⟩ => ⟨S1x1x1024, .f32⟩
  | .hbm, ⟨88, _⟩ => ⟨S8x4096x1024, .f32⟩
  | .hbm, ⟨89, _⟩ => ⟨S8x4096x1024, .f32⟩
  | .hbm, ⟨90, _⟩ => ⟨S1x1x1024, .f32⟩
  | .hbm, ⟨91, _⟩ => ⟨S8x4096x1024, .f32⟩
  | .hbm, ⟨92, _⟩ => ⟨S8x4096x1024, .f32⟩
  | .hbm, ⟨93, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call1_v0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call2_cst : Ref sig .tc := ⟨.hbm, 53, rfl⟩
abbrev main_call2_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_1 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_2 : Ref sig .tc := ⟨.hbm, 64, rfl⟩
abbrev main_v31 : Ref sig .tc := ⟨.hbm, 65, rfl⟩
abbrev main_v32 : Ref sig .tc := ⟨.hbm, 66, rfl⟩
abbrev main_cst_3 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_4 : Ref sig .tc := ⟨.hbm, 73, rfl⟩
abbrev main_v38 : Ref sig .tc := ⟨.hbm, 74, rfl⟩
abbrev main_v39 : Ref sig .tc := ⟨.hbm, 75, rfl⟩
abbrev main_cst_5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_6 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩

abbrev nD : Nat := 1
abbrev τ : Topo := Topo.v7x

variable {F : FTy → Type} [FloatOps F]
-- ==== Gla.lean ====
abbrev S32768x1024 : Shape := ⟨2, ![32768, 1024]⟩
abbrev S8x6x1024 : Shape := ⟨3, ![8, 6, 1024]⟩
abbrev S1024x3104 : Shape := ⟨2, ![1024, 3104]⟩
abbrev S1024x3072 : Shape := ⟨2, ![1024, 3072]⟩
abbrev S_ : Shape := ⟨0, ![]⟩
abbrev S1024x128 : Shape := ⟨2, ![1024, 128]⟩
abbrev S1024x32 : Shape := ⟨2, ![1024, 32]⟩
abbrev S1 : Shape := ⟨1, ![1]⟩
abbrev S32768x3072 : Shape := ⟨2, ![32768, 3072]⟩
abbrev S32768x128 : Shape := ⟨2, ![32768, 128]⟩
abbrev S512x1024 : Shape := ⟨2, ![512, 1024]⟩
abbrev S1x6x1024 : Shape := ⟨3, ![1, 6, 1024]⟩
abbrev S512x3072 : Shape := ⟨2, ![512, 3072]⟩
abbrev S512x128 : Shape := ⟨2, ![512, 128]⟩
abbrev S6x1024 : Shape := ⟨2, ![6, 1024]⟩
abbrev S1x1024 : Shape := ⟨2, ![1, 1024]⟩
abbrev S1024x1024 : Shape := ⟨2, ![1024, 1024]⟩

abbrev nBuf : Space → Nat
  | .hbm => 14
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x3104, .f32⟩
  | .hbm, ⟨3, _⟩ => ⟨S1024x3072, .f32⟩
  | .hbm, ⟨4, _⟩ => ⟨S1024x3072, .bf16⟩
  | .hbm, ⟨5, _⟩ => ⟨S_, .f32⟩
  | .hbm, ⟨6, _⟩ => ⟨S1024x128, .f32⟩
  | .hbm, ⟨7, _⟩ => ⟨S1024x32, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S1024x128, .bf16⟩
  | .hbm, ⟨12, _⟩ => ⟨S32768x3072, .bf16⟩
  | .hbm, ⟨13, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3072, .bf16⟩
  | .local _ .vmem, ⟨5, _⟩ => ⟨S1024x128, .bf16⟩
  | .local _ .vmem, ⟨6, _⟩ => ⟨S512x3072, .bf16⟩
  | .local _ .vmem, ⟨7, _⟩ => ⟨S512x3072, .bf16⟩
  | .local _ .vmem, ⟨8, _⟩ => ⟨S512x128, .f32⟩
  | .local _ .vmem, ⟨9, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GlaRefIdeal.lean ====
abbrev S32768x1024 : Shape := ⟨2, ![32768, 1024]⟩
abbrev S8x6x1024 : Shape := ⟨3, ![8, 6, 1024]⟩
abbrev S1024x3104 : Shape := ⟨2, ![1024, 3104]⟩
abbrev S8x1x1024 : Shape := ⟨3, ![8, 1, 1024]⟩
abbrev S8x4096x1024 : Shape := ⟨3, ![8, 4096, 1024]⟩
abbrev S_ : Shape := ⟨0, ![]⟩
abbrev S8x4096x3104 : Shape := ⟨3, ![8, 4096, 3104]⟩
abbrev S32768x3104 : Shape := ⟨2, ![32768, 3104]⟩
abbrev S32768x3072 : Shape := ⟨2, ![32768, 3072]⟩
abbrev S32768x32 : Shape := ⟨2, ![32768, 32]⟩
abbrev S32768x128 : Shape := ⟨2, ![32768, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x3104, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x4096x1024, .f32⟩
  | .hbm, ⟨10, _⟩ => ⟨S_, .f32⟩
  | .hbm, ⟨11, _⟩ => ⟨S8x1x1024, .f32⟩
  | .hbm, ⟨12, _⟩ => ⟨S8x1x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x3104, .f32⟩
  | .hbm, ⟨18, _⟩ => ⟨S32768x3104, .f32⟩
  | .hbm, ⟨19, _⟩ => ⟨S32768x3072, .f32⟩
  | .hbm, ⟨20, _⟩ => ⟨S32768x32, .f32⟩
  | .hbm, ⟨21, _⟩ => ⟨S32768x3072, .bf16⟩
  | .hbm, ⟨22, _⟩ => ⟨S_, .i32⟩
  | .hbm, ⟨23, _⟩ => ⟨S_, .f32⟩
  | .hbm, ⟨24, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Sin.lean ====
abbrev S32768x1024 : Shape := ⟨2, ![32768, 1024]⟩
abbrev S8x6x1024 : Shape := ⟨3, ![8, 6, 1024]⟩
abbrev S1024x6208 : Shape := ⟨2, ![1024, 6208]⟩
abbrev S5x4096 : Shape := ⟨2, ![5, 4096]⟩
abbrev S4096 : Shape := ⟨1, ![4096]⟩
abbrev S1024x6144 : Shape := ⟨2, ![1024, 6144]⟩
abbrev S_ : Shape := ⟨0, ![]⟩
abbrev S1024x256 : Shape := ⟨2, ![1024, 256]⟩
abbrev S1024x32 : Shape := ⟨2, ![1024, 32]⟩
abbrev S1 : Shape := ⟨1, ![1]⟩
abbrev S1024x2048 : Shape := ⟨2, ![1024, 2048]⟩
abbrev S1024x4096 : Shape := ⟨2, ![1024, 4096]⟩
abbrev S1x4096 : Shape := ⟨2, ![1, 4096]⟩
abbrev S32768x2048 : Shape := ⟨2, ![32768, 2048]⟩
abbrev S32768x4096 : Shape := ⟨2, ![32768, 4096]⟩
abbrev S32768x256 : Shape := ⟨2, ![32768, 256]⟩
abbrev S8x1024 : Shape := ⟨2, ![8, 1024]⟩
abbrev S512x1024 : Shape := ⟨2, ![512, 1024]⟩
abbrev S1x6x1024 : Shape := ⟨3, ![1, 6, 1024]⟩
abbrev S512x2048 : Shape := ⟨2, ![512, 2048]⟩
abbrev S512x4096 : Shape := ⟨2, ![512, 4096]⟩
abbrev S512x256 : Shape := ⟨2, ![512, 256]⟩
abbrev S6x1024 : Shape := ⟨2, ![6, 1024]⟩
abbrev S1x1024 : Shape := ⟨2, ![1, 1024]⟩
abbrev S528x1024 : Shape := ⟨2, ![528, 1024]⟩
abbrev S1024x1024 : Shape := ⟨2, ![1024, 1024]⟩

abbrev nBuf : Space → Nat
  | .hbm => 24
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x6208, .f32⟩
  | .hbm, ⟨3, _⟩ => ⟨S5x4096, .f32⟩
  | .hbm, ⟨4, _⟩ => ⟨S4096, .f32⟩
  | .hbm, ⟨5, _⟩ => ⟨S1024x6144, .f32⟩
  | .hbm, ⟨6, _⟩ => ⟨S1024x6144, .bf16⟩
  | .hbm, ⟨7, _⟩ => ⟨S_, .f32⟩
  | .hbm, ⟨8, _⟩ => ⟨S1024x256, .f32⟩
  | .hbm, ⟨9, _⟩ => ⟨S1024x32, .f32⟩
  | .hbm, ⟨10, _⟩ => ⟨S_, .i32⟩
  | .hbm, ⟨11, _⟩ => ⟨S1, .i32⟩
  | .hbm, ⟨12, _⟩ => ⟨S1024x256, .f32⟩
  | .hbm, ⟨13, _⟩ => ⟨S1024x32, .f32⟩
  | .hbm, ⟨14, _⟩ => ⟨S_, .i32⟩
  | .hbm, ⟨15, _⟩ => ⟨S1, .i32⟩
  | .hbm, ⟨16, _⟩ => ⟨S1024x256, .f32⟩
  | .hbm, ⟨17, _⟩ => ⟨S1024x256, .bf16⟩
  | .hbm, ⟨18, _⟩ => ⟨S1024x2048, .bf16⟩
  | .hbm, ⟨19, _⟩ => ⟨S1024x4096, .bf16⟩
  | .hbm, ⟨20, _⟩ => ⟨S1x4096, .f32⟩
  | .hbm, ⟨21, _⟩ => ⟨S32768x2048, .bf16⟩
  | .hbm, ⟨22, _⟩ => ⟨S32768x4096, .bf16⟩
  | .hbm, ⟨23, _⟩ => ⟨S32768x256, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x2048, .bf16⟩
  | .local _ .vmem, ⟨9, _⟩ => ⟨S1024x4096, .bf16⟩
  | .local _ .vmem, ⟨10, _⟩ => ⟨S5x4096, .f32⟩
  | .local _ .vmem, ⟨11, _⟩ => ⟨S1x4096, .f32⟩
  | .local _ .vmem, ⟨12, _⟩ => ⟨S1024x256, .bf16⟩
  | .local _ .vmem, ⟨13, _⟩ => ⟨S512x2048, .bf16⟩
  | .local _ .vmem, ⟨14, _⟩ => ⟨S512x2048, .bf16⟩
  | .local _ .vmem, ⟨15, _⟩ => ⟨S512x4096, .bf16⟩
  | .local _ .vmem, ⟨16, _⟩ => ⟨S512x4096, .bf16⟩
  | .local _ .vmem, ⟨17, _⟩ => ⟨S512x256, .f32⟩
  | .local _ .vmem, ⟨18, _⟩ => ⟨S512x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== SinRefIdeal.lean ====
abbrev S32768x1024 : Shape := ⟨2, ![32768, 1024]⟩
abbrev S8x6x1024 : Shape := ⟨3, ![8, 6, 1024]⟩
abbrev S1024x6208 : Shape := ⟨2, ![1024, 6208]⟩
abbrev S5x4096 : Shape := ⟨2, ![5, 4096]⟩
abbrev S4096 : Shape := ⟨1, ![4096]⟩
abbrev S8x1x1024 : Shape := ⟨3, ![8, 1, 1024]⟩
abbrev S8x4096x1024 : Shape := ⟨3, ![8, 4096, 1024]⟩
abbrev S_ : Shape := ⟨0, ![]⟩
abbrev S8x4096x6208 : Shape := ⟨3, ![8, 4096, 6208]⟩
abbrev S8x4096x2048 : Shape := ⟨3, ![8, 4096, 2048]⟩
abbrev S8x4096x4096 : Shape := ⟨3, ![8, 4096, 4096]⟩
abbrev S8x4096x64 : Shape := ⟨3, ![8, 4096, 64]⟩
abbrev S8x4100x4096 : Shape := ⟨3, ![8, 4100, 4096]⟩
abbrev S1x4096 : Shape := ⟨2, ![1, 4096]⟩
abbrev S1x1x4096 : Shape := ⟨3, ![1, 1, 4096]⟩
abbrev S32768x2x32 : Shape := ⟨3, ![32768, 2, 32]⟩
abbrev S32768x2x128 : Shape := ⟨3, ![32768, 2, 128]⟩
abbrev S32768x2048 : Shape := ⟨2, ![32768, 2048]⟩
abbrev S32768x4096 : Shape := ⟨2, ![32768, 4096]⟩
abbrev S32768x256 : Shape := ⟨2, ![32768, 256]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x6208, .f32⟩
  | .hbm, ⟨3, _⟩ => ⟨S5x4096, .f32⟩
  | .hbm, ⟨4, _⟩ => ⟨S4096, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x4096x1024, .f32⟩
  | .hbm, ⟨12, _⟩ => ⟨S_, .f32⟩
  | .hbm, ⟨13, _⟩ => ⟨S8x1x1024, .f32⟩
  | .hbm, ⟨14, _⟩ => ⟨S8x1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x6208, .f32⟩
  | .hbm, ⟨20, _⟩ => ⟨S8x4096x2048, .f32⟩
  | .hbm, ⟨21, _⟩ => ⟨S8x4096x4096, .f32⟩
  | .hbm, ⟨22, _⟩ => ⟨S8x4096x64, .f32⟩
  | .hbm, ⟨23, _⟩ => ⟨S_, .i32⟩
  | .hbm, ⟨24, _⟩ => ⟨S_, .f32⟩
  | .hbm, ⟨25, _⟩ => ⟨S8x4100x4096, .f32⟩
  | .hbm, ⟨26, _⟩ => ⟨S8x4096x4096, .f32⟩
  | .hbm, ⟨27, _⟩ => ⟨S1x4096, .f32⟩
  | .hbm, ⟨28, _⟩ => ⟨S4096, .f32⟩
  | .hbm, ⟨29, _⟩ => ⟨S1x1x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S1x4096, .f32⟩
  | .hbm, ⟨34, _⟩ => ⟨S4096, .f32⟩
  | .hbm, ⟨35, _⟩ => ⟨S1x1x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S1x4096, .f32⟩
  | .hbm, ⟨41, _⟩ => ⟨S4096, .f32⟩
  | .hbm, ⟨42, _⟩ => ⟨S1x1x4096, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S1x4096, .f32⟩
  | .hbm, ⟨48, _⟩ => ⟨S4096, .f32⟩
  | .hbm, ⟨49, _⟩ => ⟨S1x1x4096, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S1x4096, .f32⟩
  | .hbm, ⟨55, _⟩ => ⟨S4096, .f32⟩
  | .hbm, ⟨56, _⟩ => ⟨S1x1x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S1x1x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S32768x2x32, .f32⟩
  | .hbm, ⟨73, _⟩ => ⟨S_, .i32⟩
  | .hbm, ⟨74, _⟩ => ⟨S_, .f32⟩
  | .hbm, ⟨75, _⟩ => ⟨S32768x2x128, .f32⟩
  | .hbm, ⟨76, _⟩ => ⟨S32768x2048, .f32⟩
  | .hbm, ⟨77, _⟩ => ⟨S32768x2048, .bf16⟩
  | .hbm, ⟨78, _⟩ => ⟨S32768x4096, .f32⟩
  | .hbm, ⟨79, _⟩ => ⟨S32768x4096, .bf16⟩
  | .hbm, ⟨80, _⟩ => ⟨S32768x256, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v55 : Ref sig .tc := ⟨.hbm, 71, rfl⟩
abbrev main_v56 : Ref sig .tc := ⟨.hbm, 72, rfl⟩
abbrev main_c_0 : Ref sig .tc := ⟨.hbm, 73, rfl⟩
abbrev main_call2_v0 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Hin.lean ====
abbrev S32768x1024 : Shape := ⟨2, ![32768, 1024]⟩
abbrev S8x6x1024 : Shape := ⟨3, ![8, 6, 1024]⟩
abbrev S1024x3072 : Shape := ⟨2, ![1024, 3072]⟩
abbrev S3x3072 : Shape := ⟨2, ![3, 3072]⟩
abbrev S3072 : Shape := ⟨1, ![3072]⟩
abbrev S1024x1024 : Shape := ⟨2, ![1024, 1024]⟩
abbrev S3x1024 : Shape := ⟨2, ![3, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S1x6x1024 : Shape := ⟨3, ![1, 6, 1024]⟩
abbrev S6x1024 : Shape := ⟨2, ![6, 1024]⟩
abbrev S528x1024 : Shape := ⟨2, ![528, 1024]⟩

abbrev nBuf : Space → Nat
  | .hbm => 21
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x3072, .f32⟩
  | .hbm, ⟨3, _⟩ => ⟨S3x3072, .f32⟩
  | .hbm, ⟨4, _⟩ => ⟨S3072, .f32⟩
  | .hbm, ⟨5, _⟩ => ⟨S1024x3072, .bf16⟩
  | .hbm, ⟨6, _⟩ => ⟨S1024x1024, .bf16⟩
  | .hbm, ⟨7, _⟩ => ⟨S3x1024, .f32⟩
  | .hbm, ⟨8, _⟩ => ⟨S1024, .f32⟩
  | .hbm, ⟨9, _⟩ => ⟨S1024x1024, .bf16⟩
  | .hbm, ⟨10, _⟩ => ⟨S3x1024, .f32⟩
  | .hbm, ⟨11, _⟩ => ⟨S1024, .f32⟩
  | .hbm, ⟨12, _⟩ => ⟨S1024x1024, .bf16⟩
  | .hbm, ⟨13, _⟩ => ⟨S3x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S3x1024, .f32⟩
  | .local _ .vmem, ⟨10, _⟩ => ⟨S1x1024, .f32⟩
  | .local _ .vmem, ⟨11, _⟩ => ⟨S1024x1024, .bf16⟩
  | .local _ .vmem, ⟨12, _⟩ => ⟨S3x1024, .f32⟩
  | .local _ .vmem, ⟨13, _⟩ => ⟨S1x1024, .f32⟩
  | .local _ .vmem, ⟨14, _⟩ => ⟨S1024x1024, .bf16⟩
  | .local _ .vmem, ⟨15, _⟩ => ⟨S3x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== HinRefIdeal.lean ====
abbrev S32768x1024 : Shape := ⟨2, ![32768, 1024]⟩
abbrev S8x6x1024 : Shape := ⟨3, ![8, 6, 1024]⟩
abbrev S1024x3072 : Shape := ⟨2, ![1024, 3072]⟩
abbrev S3x3072 : Shape := ⟨2, ![3, 3072]⟩
abbrev S3072 : Shape := ⟨1, ![3072]⟩
abbrev S8x1x1024 : Shape := ⟨3, ![8, 1, 1024]⟩
abbrev S8x4096x1024 : Shape := ⟨3, ![8, 4096, 1024]⟩
abbrev S_ : Shape := ⟨0, ![]⟩
abbrev S8x4096x3072 : Shape := ⟨3, ![8, 4096, 3072]⟩
abbrev S8x4098x3072 : Shape := ⟨3, ![8, 4098, 3072]⟩
abbrev S1x3072 : Shape := ⟨2, ![1, 3072]⟩
abbrev S1x1x3072 : Shape := ⟨3, ![1, 1, 3072]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024x3072, .f32⟩
  | .hbm, ⟨3, _⟩ => ⟨S3x3072, .f32⟩
  | .hbm, ⟨4, _⟩ => ⟨S3072, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x4096x1024, .f32⟩
  | .hbm, ⟨12, _⟩ => ⟨S_, .f32⟩
  | .hbm, ⟨13, _⟩ => ⟨S8x1x1024, .f32⟩
  | .hbm, ⟨14, _⟩ => ⟨S8x1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x3072, .f32⟩
  | .hbm, ⟨20, _⟩ => ⟨S_, .i32⟩
  | .hbm, ⟨21, _⟩ => ⟨S_, .f32⟩
  | .hbm, ⟨22, _⟩ => ⟨S8x4098x3072, .f32⟩
  | .hbm, ⟨23, _⟩ => ⟨S8x4096x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S8x4096x3072, .f32⟩
  | .hbm, ⟨28, _⟩ => ⟨S8x4096x3072, .f32⟩
  | .hbm, ⟨29, _⟩ => ⟨S8x4096x3072, .f32⟩
  | .hbm, ⟨30, _⟩ => ⟨S1x3072, .f32⟩
  | .hbm, ⟨31, _⟩ => ⟨S3072, .f32⟩
  | .hbm, ⟨32, _⟩ => ⟨S1x1x3072, .f32⟩
  | .hbm, ⟨33, _⟩ => ⟨S8x4096x3072, .f32⟩
  | .hbm, ⟨34, _⟩ => ⟨S8x4096x3072, .f32⟩
  | .hbm, ⟨35, _⟩ => ⟨S8x4096x3072, .f32⟩
  | .hbm, ⟨36, _⟩ => ⟨S8x4096x3072, .f32⟩
  | .hbm, ⟨37, _⟩ => ⟨S1x3072, .f32⟩
  | .hbm, ⟨38, _⟩ => ⟨S3072, .f32⟩
  | .hbm, ⟨39, _⟩ => ⟨S1x1x3072, .f32⟩
  | .hbm, ⟨40, _⟩ => ⟨S8x4096x3072, .f32⟩
  | .hbm, ⟨41, _⟩ => ⟨S8x4096x3072, .f32⟩
  | .hbm, ⟨42, _⟩ => ⟨S8x4096x3072, .f32⟩
  | .hbm, ⟨43, _⟩ => ⟨S1x1x3072, .f32⟩
  | .hbm, ⟨44, _⟩ => ⟨S8x4096x3072, .f32⟩
  | .hbm, ⟨45, _⟩ => ⟨S8x4096x3072, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S32768x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Out.lean ====
abbrev S32768x1024 : Shape := ⟨2, ![32768, 1024]⟩
abbrev S8x6x1024 : Shape := ⟨3, ![8, 6, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S6x1024 : Shape := ⟨2, ![6, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S32768x1024 : Shape := ⟨2, ![32768, 1024]⟩
abbrev S8x6x1024 : Shape := ⟨3, ![8, 6, 1024]⟩
abbrev S1024x1024 : Shape := ⟨2, ![1024, 1024]⟩
abbrev S1024 : Shape := ⟨1, ![1024]⟩
abbrev S8x1x1024 : Shape := ⟨3, ![8, 1, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S1x1x1024, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Proof.Spec.lean ====
/- The layer's row functions over the extended reals: what one row of an array goes through. Both a kernel's block and a
   reference's array are shown to be these functions of their rows. -/
module

public import Idealize.ShloMosaic.Lib.Pointwise

@[expose] public section

noncomputable section

namespace Cert.Spec

open Idealize.ShloMosaic

/-- The float `1024.0`, the width of a row. -/
abbrev width : EReal := Ideal.ofBits .f32 0x44800000#32
/-- The float `1e-5`, added to a row's variance. -/
abbrev lnEps : EReal := Ideal.ofBits .f32 0x3727C5AC#32
/-- The float the residual is scaled by, `8 ^ (1/4)`. -/
abbrev alpha : EReal := Ideal.ofBits .f32 0x3FD744FD#32

/-- A row minus its mean. -/
def center (v : Fin 1024 → EReal) (j : Fin 1024) : EReal := v j - Ideal.div (∑ k, v k) width

/-- Layer normalisation of a row `v` with gain `g` and bias `b`. -/
def lnRow (v g b : Fin 1024 → EReal) (j : Fin 1024) : EReal :=
  center v j * Ideal.rsqrt (Ideal.div (∑ k, center v k * center v k) width + lnEps) * g j + b j

/-- A row `x` shifted and scaled: `x * (1 + scale) + shift`. -/
def modRow (x shift scale : Fin 1024 → EReal) (k : Fin 1024) : EReal := x k * (1 + scale k) + shift k

/-- The hidden unit `f` of a row: the rectified product with column `f` of the first weight, squared. -/
def hidden (h : Fin 1024 → EReal) (w : Fin 1024 → EReal) : EReal :=
  max (∑ k, h k * w k) 0 * max (∑ k, h k * w k) 0

/-- The two-layer perceptron of a row. -/
def mlpRow (h : Fin 1024 → EReal) (w1 : Fin 1024 → Fin 4096 → EReal) (w2 : Fin 4096 → Fin 1024 → EReal) (j : Fin 1024) : EReal :=
  ∑ f, hidden h (fun k => w1 k f) * w2 f j

/-- The scaled residual plus the gated branch. -/
def resRow (x gate y : Fin 1024 → EReal) (j : Fin 1024) : EReal := alpha * x j + gate j * y j

/-- One row of the feed-forward sub-layer. -/
def ffnRow (x shift scale gate : Fin 1024 → EReal) (w1 : Fin 1024 → Fin 4096 → EReal) (w2 : Fin 4096 → Fin 1024 → EReal)
    (g b : Fin 1024 → EReal) : Fin 1024 → EReal :=
  lnRow (resRow x gate (mlpRow (modRow x shift scale) w1 w2)) g b

/-- The feed-forward sub-layer of row `r` of a 32768 by 1024 array, 4096 consecutive rows per batch element: the batch
    element's shift, scale and gate are rows 3, 4 and 5 of its modulation. -/
def ffnArr (x : (⟨2, ![32768, 1024]⟩ : Shape).Idx → EReal) (mod : (⟨3, ![8, 6, 1024]⟩ : Shape).Idx → EReal)
    (w1 : (⟨2, ![1024, 4096]⟩ : Shape).Idx → EReal) (w2 : (⟨2, ![4096, 1024]⟩ : Shape).Idx → EReal)
    (g b : (⟨1, ![1024]⟩ : Shape).Idx → EReal) (r : Fin 32768) : Fin 1024 → EReal :=
  ffnRow (fun k => x (ix2 r k)) (fun k => mod (ix3 ⟨r.val / 4096, by omega⟩ 3 k))
    (fun k => mod (ix3 ⟨r.val / 4096, by omega⟩ 4 k)) (fun k => mod (ix3 ⟨r.val / 4096, by omega⟩ 5 k))
    (fun k f => w1 (ix2 k f)) (fun f j => w2 (ix2 f j)) (fun j => g (ix1 j)) (fun j => b (ix1 j))

/-- A sum of 4096 terms is the sum of its four quarters. -/
theorem sum_quarters (f : Fin 4096 → EReal) :
    ∑ i, f i = (∑ i : Fin 1024, f ⟨i.val, by omega⟩) + (∑ i : Fin 1024, f ⟨1024 + i.val, by omega⟩)
      + (∑ i : Fin 1024, f ⟨2048 + i.val, by omega⟩) + (∑ i : Fin 1024, f ⟨3072 + i.val, by omega⟩) := by
  have h : ∀ (n : ℕ) (g : Fin (n + 1024) → EReal),
      ∑ i, g i = (∑ i : Fin n, g ⟨i.val, by omega⟩) + ∑ i : Fin 1024, g ⟨n + i.val, by omega⟩ :=
    fun n g => Fin.sum_univ_add g
  rw [h 3072 f, h 2048, h 1024]

end Cert.Spec

end
-- ==== Proof.FfnBlock.lean ====
/- What one grid point of the feed-forward kernel leaves in its block: row by row, the feed-forward sub-layer of the row. -/
module

public import proofs.«01_k».proof.Proof.Spec
public import proofs.«01_k».proof.Proof.Gen.FfnIdeal.Frame

@[expose] public section

set_option maxRecDepth 16384

noncomputable section

namespace Cert.Proof.FfnBlock

open Idealize.ShloMosaic Idealize.SL.Sem Cert.FfnIdeal Cert.FfnIdeal.Gen Cert.Spec

/-- The modulated rows of the block. -/
theorem modulated (v0 : Vec Ideal S1x6x1024 .f32) (v2 : Vec Ideal S512x1024 .f32) (i : Fin 512) (k : Fin 1024) :
    k0_pay3 v0 v2 (ix2 i k) = modRow (fun k => v2 (ix2 i k)) (fun k => v0 (ix3 0 3 k)) (fun k => v0 (ix3 0 4 k)) k := by
  pointwise [k0_pay3, k0_pay2]
  rfl

/-- The first two quarters of the hidden units, summed. -/
theorem half (v0 : Vec Ideal S1x6x1024 .f32) (v2 : Vec Ideal S512x1024 .f32) (a b c d : Vec Ideal S1024x1024 .bf16)
    (i : Fin 512) (j : Fin 1024) :
    k0_pay4 v0 v2 a b c d (ix2 i j)
      = (∑ f : Fin 1024, hidden (fun k => k0_pay3 v0 v2 (ix2 i k)) (fun k => a (ix2 k f)) * b (ix2 f j))
        + ∑ f : Fin 1024, hidden (fun k => k0_pay3 v0 v2 (ix2 i k)) (fun k => c (ix2 k f)) * d (ix2 f j) := by
  pointwise [k0_pay4]
  rfl

/-- The residual row, less its mean: the last two quarters of the hidden units are added to what came before. -/
theorem centered (v1 : FVec Ideal S6x1024 .f32) (v2 : Vec Ideal S512x1024 .f32) (h : FVec Ideal S512x1024 .bf16)
    (y : FVec Ideal S512x1024 .f32) (a b c d : Vec Ideal S1024x1024 .bf16) (i : Fin 512) (j : Fin 1024) :
    k0_pay7 v1 v2 h y a b c d (ix2 i j)
      = center (resRow (fun k => v2 (ix2 i k)) (fun k => v1 (ix2 5 k)) (fun j => y (ix2 i j)
          + (∑ f : Fin 1024, hidden (fun k => h (ix2 i k)) (fun k => a (ix2 k f)) * b (ix2 f j))
          + ∑ f : Fin 1024, hidden (fun k => h (ix2 i k)) (fun k => c (ix2 k f)) * d (ix2 f j))) j := by
  pointwise [k0_pay7]
  rfl

/-- The body's result in the block, row by row. -/
theorem out_apply (x0 : Vec Ideal S512x1024 .f32) (x1 : Vec Ideal S1x6x1024 .f32) (x2 : Vec Ideal S1024x4096 .bf16)
    (x3 : Vec Ideal S4096x1024 .bf16) (x4 x5 : Vec Ideal S1x1024 .f32) (i : Fin 512) (j : Fin 1024) :
    out0_6 x0 x1 x2 x3 x4 x5 (ix2 i j)
      = ffnRow (fun k => x0 (ix2 i k)) (fun k => x1 (ix3 0 3 k)) (fun k => x1 (ix3 0 4 k)) (fun k => x1 (ix3 0 5 k))
          (fun k f => x2 (ix2 k f)) (fun f j => x3 (ix2 f j)) (fun j => x4 (ix2 0 j)) (fun j => x5 (ix2 0 j)) j := by
  have hz : (![0, 0] : Fin 2 → Nat) = fun _ => 0 := funext fun a => by fin_cases a <;> rfl
  have hz3 : (![0, 0, 0] : Fin 3 → Nat) = fun _ => 0 := funext fun a => by fin_cases a <;> rfl
  unfold out0_6 k0_pay11 k0_pay10 k0_pay9
  rw [View.canon_unit_zero (S := S512x1024) hz, View.ld_unit_zero (S := S512x1024) hz, View.ld_unit_zero (S := S1x6x1024) hz3,
    View.ld_unit_zero (S := S1x1024) hz, View.ld_unit_zero (S := S1x1024) hz]
  have hc : ∀ j, k0_pay7 (k0_pay2 x1) x0 (k0_pay3 x1 x0)
      (k0_pay4 x1 x0 (View.ld x2 r0_2) (View.ld x3 r0_3) (View.ld x2 r0_4) (View.ld x3 r0_5))
      (View.ld x2 r0_6) (View.ld x3 r0_7) (View.ld x2 r0_8) (View.ld x3 r0_9) (ix2 i j)
      = center (resRow (fun k => x0 (ix2 i k)) (fun k => x1 (ix3 0 5 k))
          (mlpRow (modRow (fun k => x0 (ix2 i k)) (fun k => x1 (ix3 0 3 k)) (fun k => x1 (ix3 0 4 k)))
            (fun k f => x2 (ix2 k f)) (fun f j => x3 (ix2 f j)))) j := by
    intro j
    rw [centered]
    have hg : (fun k => k0_pay2 x1 (ix2 5 k)) = fun k => x1 (ix3 0 5 k) := by
      funext k
      pointwise [k0_pay2]
    rw [hg]
    congr 2
    funext j
    simp only [half, modulated]
    unfold mlpRow
    rw [sum_quarters]
    pointwise
  pointwise [k0_pay1, k0_pay5, k0_pay6, k0_pay8]
  simp only [hc]
  rfl

end Cert.Proof.FfnBlock

end
-- ==== Proof.FfnArray.lean ====
/- What the feed-forward kernel leaves in its result array: every row the feed-forward sub-layer of the argument's row. -/
module

public import proofs.«01_k».proof.Proof.FfnBlock
public import proofs.«01_k».proof.Proof.Gen.FfnIdeal.Value
public import Idealize.ShloMosaic.Lib.StableHlo.Run

@[expose] public section

set_option maxRecDepth 16384

noncomputable section

namespace Cert.Proof.FfnArray

open Idealize.ShloMosaic Idealize.ShloMosaic.TcCoe Idealize.ShloMosaic.StableHlo Idealize.SL.Sem Idealize.ShloMosaic.Pipeline
open Cert.FfnIdeal Cert.FfnIdeal.Gen Cert.FfnIdeal.Value Cert.Spec

variable (m : (ℓ : Loc nD τ sig) → Buf (Elt Ideal) ℓ) (ρ : Dev nD → PrngReg)

/-! ## The arrays the host prepares -/

/-- The first weight is the argument, its cast having no effect on an exact value. -/
theorem V_v0 (c : Dev nD) : V m c main_v0 = m ((c : Thread nD τ).loc main_arg2) := by
  show after hostOps0 (fun b => m (c, b)) (main_v0 : DevRef τ sig) = _
  after_results
  rfl
/-- So is the second weight. -/
theorem V_v1 (c : Dev nD) : V m c main_v1 = m ((c : Thread nD τ).loc main_arg3) := by
  show after hostOps0 (fun b => m (c, b)) (main_v1 : DevRef τ sig) = _
  after_results
  rfl
/-- The gain as one row. -/
theorem V_v2 (c : Dev nD) (j : Fin 1024) :
    V m c main_v2 (ix2 0 j) = m ((c : Thread nD τ).loc main_arg4) (ix1 j) := by
  have h : V m c main_v2 = shapeCast S1x1024 (m ((c : Thread nD τ).loc main_arg4)) shapeCasts_S1024_S1x1024 := by
    show after hostOps0 (fun b => m (c, b)) (main_v2 : DevRef τ sig) = _
    after_results
    rfl
  rw [h]
  pointwise
/-- The bias as one row. -/
theorem V_v3 (c : Dev nD) (j : Fin 1024) :
    V m c main_v3 (ix2 0 j) = m ((c : Thread nD τ).loc main_arg5) (ix1 j) := by
  have h : V m c main_v3 = shapeCast S1x1024 (m ((c : Thread nD τ).loc main_arg5)) shapeCasts_S1024_S1x1024 := by
    show after hostOps0 (fun b => m (c, b)) (main_v3 : DevRef τ sig) = _
    after_results
    rfl
  rw [h]
  pointwise

/-! ## Where a window's block lies in its array -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)

/-- Row `i` of grid point `t`'s block is row `512 t + i` of the array. -/
abbrev row (t : Fin cfg0.N) (i : Fin 512) : Fin 32768 :=
  ⟨512 * t.val + i.val, by have h : t.val < 64 := t.isLt; omega⟩

/-- The input block's rows. -/
theorem iblk0 (c : Dev nD) (t : Fin cfg0.N) (i : Fin 512) (k : Fin 1024) :
    iblk m c 0 t (ix2 i k) = m ((c : Thread nD τ).loc main_arg0) (ix2 (row t i) k) := by
  rw [← V_main_arg0 m c]
  show V m c main_arg0 (((cfg0.win 0).blk t).view.emb (ix2 i k)) = _
  refine congrArg _ (funext fun a => Fin.ext ?_)
  obtain ⟨h0, h1⟩ := index0 t
  match a with
  | ⟨0, _⟩ => show win0_0.index t (0 : Fin 2) * 512 + 1 * i.val = 512 * t.val + i.val; omega
  | ⟨1, _⟩ => show win0_0.index t (1 : Fin 2) * 1024 + 1 * k.val = k.val; omega

/-- The modulation block is the batch element's, eight grid points to a batch element. -/
theorem iblk1 (c : Dev nD) (t : Fin cfg0.N) (i : Fin 512) (q : Fin 6) (k : Fin 1024) :
    iblk m c 1 t (ix3 0 q k) = m ((c : Thread nD τ).loc main_arg1) (ix3 ⟨(row t i).val / 4096, by omega⟩ q k) := by
  rw [← V_main_arg1 m c]
  show V m c main_arg1 (((cfg0.win 1).blk t).view.emb (ix3 0 q k)) = _
  refine congrArg _ (funext fun a => Fin.ext ?_)
  obtain ⟨h0, h1, h2⟩ := index1 t
  match a with
  | ⟨0, _⟩ => show win0_1.index t (0 : Fin 3) * 1 + 1 * 0 = (512 * t.val + i.val) / 4096; omega
  | ⟨1, _⟩ => show win0_1.index t (1 : Fin 3) * 6 + 1 * q.val = q.val; omega
  | ⟨2, _⟩ => show win0_1.index t (2 : Fin 3) * 1024 + 1 * k.val = k.val; omega

/-- The first weight's block is the whole weight, -/
theorem iblk2 (c : Dev nD) (t : Fin cfg0.N) (k : Fin 1024) (f : Fin 4096) :
    iblk m c 2 t (ix2 k f) = m ((c : Thread nD τ).loc main_arg2) (ix2 k f) := by
  rw [← V_v0 m c]
  show V m c main_v0 (((cfg0.win 2).blk t).view.emb (ix2 k f)) = _
  refine congrArg _ (funext fun a => Fin.ext ?_)
  obtain ⟨h0, h1⟩ := index2 t
  match a with
  | ⟨0, _⟩ => show win0_2.index t (0 : Fin 2) * 1024 + 1 * k.val = k.val; omega
  | ⟨1, _⟩ => show win0_2.index t (1 : Fin 2) * 4096 + 1 * f.val = f.val; omega

/-- the second weight's likewise, -/
theorem iblk3 (c : Dev nD) (t : Fin cfg0.N) (f : Fin 4096) (j : Fin 1024) :
    iblk m c 3 t (ix2 f j) = m ((c : Thread nD τ).loc main_arg3) (ix2 f j) := by
  rw [← V_v1 m c]
  show V m c main_v1 (((cfg0.win 3).blk t).view.emb (ix2 f j)) = _
  refine congrArg _ (funext fun a => Fin.ext ?_)
  obtain ⟨h0, h1⟩ := index3 t
  match a with
  | ⟨0, _⟩ => show win0_3.index t (0 : Fin 2) * 4096 + 1 * f.val = f.val; omega
  | ⟨1, _⟩ => show win0_3.index t (1 : Fin 2) * 1024 + 1 * j.val = j.val; omega

/-- and the gain's -/
theorem iblk4 (c : Dev nD) (t : Fin cfg0.N) (j : Fin 1024) :
    iblk m c 4 t (ix2 0 j) = m ((c : Thread nD τ).loc main_arg4) (ix1 j) := by
  rw [← V_v2 m c]
  show V m c main_v2 (((cfg0.win 4).blk t).view.emb (ix2 0 j)) = _
  refine congrArg _ (funext fun a => Fin.ext ?_)
  obtain ⟨h0, h1⟩ := index4 t
  match a with
  | ⟨0, _⟩ => show win0_4.index t (0 : Fin 2) * 1 + 1 * 0 = 0; omega
  | ⟨1, _⟩ => show win0_4.index t (1 : Fin 2) * 1024 + 1 * j.val = j.val; omega

/-- and the bias's. -/
theorem iblk5 (c : Dev nD) (t : Fin cfg0.N) (j : Fin 1024) :
    iblk m c 5 t (ix2 0 j) = m ((c : Thread nD τ).loc main_arg5) (ix1 j) := by
  rw [← V_v3 m c]
  show V m c main_v3 (((cfg0.win 5).blk t).view.emb (ix2 0 j)) = _
  refine congrArg _ (funext fun a => Fin.ext ?_)
  obtain ⟨h0, h1⟩ := index5 t
  match a with
  | ⟨0, _⟩ => show win0_5.index t (0 : Fin 2) * 1 + 1 * 0 = 0; omega
  | ⟨1, _⟩ => show win0_5.index t (1 : Fin 2) * 1024 + 1 * j.val = j.val; omega

/-- The output block's place in the result array. -/
theorem emb6 (t : Fin cfg0.N) (i : Fin 512) (j : Fin 1024) :
    ((cfg0.win 6).blk t).view.emb (ix2 i j) = (ix2 (row t i) j : S32768x1024.Idx) := by
  refine funext fun a => Fin.ext ?_
  obtain ⟨h0, h1⟩ := index6 t
  match a with
  | ⟨0, _⟩ => show win0_6.index t (0 : Fin 2) * 512 + 1 * i.val = 512 * t.val + i.val; omega
  | ⟨1, _⟩ => show win0_6.index t (1 : Fin 2) * 1024 + 1 * j.val = j.val; omega

/-! ## The result array -/

/-- The result array as one function of the arguments. -/
def G (c : Dev nD) : Vec Ideal S32768x1024 .f32 := fun i =>
  ffnArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (i 0) (i 1)

/-- What a grid point writes back is its block of that function. -/
theorem flushed_eq (c : Dev nD) (t : Fin cfg0.N) :
    (dats m 0 c).flushed 6 t = ((cfg0.win 6).blk t).view.read (Elt Ideal) (G m c) := by
  rw [flushed6]
  funext y
  obtain ⟨i, j, rfl⟩ : ∃ (i : Fin 512) (j : Fin 1024), y = (ix2 i j : S512x1024.Idx) :=
    ⟨y 0, y 1, funext fun a => match a with | ⟨0, _⟩ => rfl | ⟨1, _⟩ => rfl⟩
  show out0_6 _ _ _ _ _ _ (ix2 i j) = G m c (((cfg0.win 6).blk t).view.emb (ix2 i j))
  rw [emb6, FfnBlock.out_apply]
  simp only [iblk0, iblk1 m c t i, iblk2, iblk3, iblk4, iblk5]
  rfl

/-- Every index of the result array lies in some grid point's block. -/
theorem cover (x : S32768x1024.Idx) :
    ∃ t : Fin cfg0.N, (cfg0.win 6).flush t = true ∧ x ∈ ((cfg0.win 6).blk t).view.set := by
  have hx0 : (x 0).val < 32768 := (x 0).isLt
  let t : Fin cfg0.N := ⟨(x 0).val / 512, by show _ < 64; omega⟩
  have e : ((cfg0.win 6).blk t).view.emb (ix2 (⟨(x 0).val % 512, by omega⟩ : Fin 512) (x 1 : Fin 1024)) = x := by
    refine (emb6 t _ _).trans (funext fun a => Fin.ext ?_)
    match a with
    | ⟨0, _⟩ => show 512 * ((x 0).val / 512) + (x 0).val % 512 = (x 0).val; omega
    | ⟨1, _⟩ => rfl
  exact ⟨t, flush0_6 _, e ▸ ((cfg0.win 6).blk t).view.emb_mem_set _⟩

/-- The result array after the run. -/
theorem final (c : Dev nD) : (dats m 0 c).arrAt 6 cfg0.N = G m c :=
  (dats m 0 c).arrAt_eq_of_cover 6 (G m c) (fun t _ => flushed_eq m c t) cover

/-- The kernel's run: it ends with the result array at that function of the arguments, and the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Proof.FfnArray

end
-- ==== Proof.FfnRef.lean ====
/- What the feed-forward reference computes: every row the feed-forward sub-layer of the argument's row. -/
module

public import proofs.«01_k».proof.Proof.Spec
public import proofs.«01_k».proof.Proof.Gen.FfnRefIdeal.Read

@[expose] public section

set_option maxRecDepth 16384

noncomputable section

namespace Cert.Proof.FfnRef

open Idealize.ShloMosaic Idealize.ShloMosaic.TcCoe Idealize.ShloMosaic.StableHlo Idealize.SL.Sem
open Cert.FfnRefIdeal Cert.FfnRefIdeal.Gen Cert.FfnRefIdeal.Read Cert.Spec

variable (x0 : (⟨S32768x1024, .f32⟩ : BufTy).Contents (Elt Ideal)) (x1 : (⟨S8x6x1024, .f32⟩ : BufTy).Contents (Elt Ideal))
  (x2 : (⟨S1024x4096, .f32⟩ : BufTy).Contents (Elt Ideal)) (x3 : (⟨S4096x1024, .f32⟩ : BufTy).Contents (Elt Ideal))
  (x4 x5 : (⟨S1024, .f32⟩ : BufTy).Contents (Elt Ideal))

/-- Row `s` of batch element `b` in the flat array. -/
abbrev flat (b : Fin 8) (s : Fin 4096) : Fin 32768 := ⟨b.val * 4096 + s.val, by omega⟩

/-- The rows by batch element and place in the sequence. -/
theorem rows (b : Fin 8) (s : Fin 4096) (k : Fin 1024) : val_main_v0 x0 (ix3 b s k) = x0 (ix2 (flat b s) k) := by
  pointwise [val_main_v0]

/-- The modulated rows. -/
theorem modulated (b : Fin 8) (s : Fin 4096) (k : Fin 1024) :
    val_main_v12 x0 x1 (ix3 b s k) = modRow (fun k => x0 (ix2 (flat b s) k)) (fun k => x1 (ix3 b 3 k)) (fun k => x1 (ix3 b 4 k)) k := by
  pointwise [val_main_v12, val_main_v11, val_main_v10, val_main_v9, val_main_v8, val_main_v7, val_main_cst, val_main_v5, val_main_v4]
  rw [rows]
  rfl

/-- The squared rectified hidden units. -/
theorem units (b : Fin 8) (s : Fin 4096) (f : Fin 4096) :
    val_main_v15 x0 x1 x2 (ix3 b s f) = hidden (fun k => val_main_v12 x0 x1 (ix3 b s k)) (fun k => x2 (ix2 k f)) := by
  pointwise [val_main_v15, val_main_v14, val_main_v13, val_main_call0_v0, val_main_call0_cst]
  rfl

/-- The branch's output. -/
theorem branch (b : Fin 8) (s : Fin 4096) (j : Fin 1024) :
    val_main_v16 x0 x1 x2 x3 (ix3 b s j) = ∑ f, val_main_v15 x0 x1 x2 (ix3 b s f) * x3 (ix2 f j) := by
  pointwise [val_main_v16]

/-- The residual. -/
theorem residual (b : Fin 8) (s : Fin 4096) (j : Fin 1024) :
    val_main_v21 x0 x1 x2 x3 (ix3 b s j)
      = resRow (fun k => x0 (ix2 (flat b s) k)) (fun k => x1 (ix3 b 5 k)) (fun k => val_main_v16 x0 x1 x2 x3 (ix3 b s k)) j := by
  pointwise [val_main_v21, val_main_v20, val_main_v19, val_main_v18, val_main_v17, val_main_cst_0, val_main_v6]
  rw [rows]
  rfl

/-- The residual less its mean. -/
theorem centered (b : Fin 8) (s : Fin 4096) (j : Fin 1024) :
    val_main_v27 x0 x1 x2 x3 (ix3 b s j) = center (fun k => val_main_v21 x0 x1 x2 x3 (ix3 b s k)) j := by
  pointwise [val_main_v27, val_main_v26, val_main_v25, val_main_v24, val_main_cst_2, val_main_v23, val_main_v22, val_main_cst_1]
  rfl

/-- The residual, normalised. -/
theorem normed (b : Fin 8) (s : Fin 4096) (j : Fin 1024) :
    val_main_v45 x0 x1 x2 x3 x4 x5 (ix3 b s j)
      = lnRow (fun k => val_main_v21 x0 x1 x2 x3 (ix3 b s k)) (fun j => x4 (ix1 j)) (fun j => x5 (ix1 j)) j := by
  have h34 : val_main_v34 x0 x1 x2 x3 = val_main_v27 x0 x1 x2 x3 := rfl
  pointwise [val_main_v45, val_main_v44, val_main_v43, val_main_v42, val_main_v41, val_main_v40, val_main_v39, val_main_v38,
    val_main_v37, val_main_v36, val_main_v35, val_main_cst_5, h34, val_main_v32, val_main_v31, val_main_cst_4, val_main_v30,
    val_main_v29, val_main_cst_3, val_main_v28]
  simp only [centered]
  rfl

/-- The reference's result. -/
theorem result (r : Fin 32768) (j : Fin 1024) :
    val_main_v46 x0 x1 x2 x3 x4 x5 (ix2 r j) = ffnArr x0 x1 x2 x3 x4 x5 r j := by
  have h : val_main_v46 x0 x1 x2 x3 x4 x5 (ix2 r j)
      = val_main_v45 x0 x1 x2 x3 x4 x5 (ix3 (⟨r.val / 4096, by omega⟩ : Fin 8) (⟨r.val % 4096, by omega⟩ : Fin 4096) j) := by
    pointwise [val_main_v46]
  have hr : flat (⟨r.val / 4096, by omega⟩ : Fin 8) (⟨r.val % 4096, by omega⟩ : Fin 4096) = r := Fin.ext (by
    show r.val / 4096 * 4096 + r.val % 4096 = r.val; omega)
  rw [h, normed]
  simp only [residual, branch, units, modulated, hr]
  rfl

end Cert.Proof.FfnRef

end
-- ==== Proof.FfnEq.lean ====
/- The feed-forward kernel and its reference compute the same array. -/
module

public import proofs.«01_k».proof.Defs
public import proofs.«01_k».proof.Proof.FfnArray
public import proofs.«01_k».proof.Proof.FfnRef

@[expose] public section

set_option maxRecDepth 16384

noncomputable section

namespace Cert.Proof.FfnEq

open Idealize.ShloMosaic Idealize.SL.Sem

/-- From equal arguments the kernel's array and the reference's are the same function of them. -/
theorem algebraic : algebraic_FfnIdeal_FfnRefIdeal (hFfnIdeal := Cert.FfnIdeal.Gen.facts) (hFfnRefIdeal := Cert.FfnRefIdeal.Gen.facts) := by
  intro m g m' g' _ h
  refine ⟨FfnArray.G m, FfnArray.run m g, (θ_run _ _ _).mono (fun r hr c => ⟨(hr c).1.trans ?_, (hr c).2⟩)
    (Cert.FfnRefIdeal.Value.run m' g')⟩
  rw [Cert.FfnRefIdeal.Read.val_main_v46_eq]
  funext i
  obtain ⟨r, j, rfl⟩ : ∃ (r : Fin 32768) (j : Fin 1024), i = (ix2 r j : Cert.FfnIdeal.S32768x1024.Idx) :=
    ⟨i 0, i 1, funext fun a => match a with | ⟨0, _⟩ => rfl | ⟨1, _⟩ => rfl⟩
  obtain ⟨h0, h1, h2, h3, h4, h5⟩ := h c
  refine (FfnRef.result _ _ _ _ _ _ r j).trans ?_
  rw [h0, h1, h2, h3, h4, h5]
  rfl

end Cert.Proof.FfnEq

end
-- ==== Proof.SsdSpec.lean ====
/- The state-space sub-layer's row functions over the extended reals: one output lane of a chunk from the chunk's inputs,
   and the row it makes after the gate, the two normalisations and the output projection. -/
module

public import proofs.«01_k».proof.Proof.Spec

@[expose] public section

noncomputable section

namespace Cert.Spec

open Idealize.ShloMosaic

/-- The float `2048.0`, the width of a row inside the mixer. -/
abbrev inner : EReal := Ideal.ofBits .f32 0x45000000#32
/-- The float `1e-6`, added to a row's mean square. -/
abbrev rmsEps : EReal := Ideal.ofBits .f32 0x358637BD#32

/-- The gate's activation. -/
def silu (v : EReal) : EReal := v * Ideal.logistic v

/-- The decay from token `j` to a row: nothing outside the mask. -/
def decay (keep : Fin 128 → Prop) [DecidablePred keep] (col : EReal) (row : Fin 128 → EReal) (j : Fin 128) : EReal :=
  Ideal.exp (if keep j then col - row j else ⊥)

/-- One direction of the scan at one row and lane: the chunk's own tokens `x`, weighted by the scores and the decays, and
    the state `s` the direction carries in, read by the row's `c` scaled by `e`. -/
def dirOut (keep : Fin 128 → Prop) [DecidablePred keep] (score : Fin 128 → EReal) (col : EReal) (row : Fin 128 → EReal)
    (x : Fin 128 → EReal) (c : Fin 128 → EReal) (e : EReal) (s : Fin 128 → EReal) : EReal :=
  (∑ j, score j * decay keep col row j * x j) + ∑ n, c n * e * s n

/-- What a chunk brings: its 128 rows of `x`, `b`, `c`, the column and row forms of the two decays, the two states. -/
structure Chunk where
  x : Fin 128 → Fin 2048 → EReal
  b : Fin 128 → Fin 1024 → EReal
  c : Fin 128 → Fin 1024 → EReal
  colf : Fin 128 → Fin 128 → EReal
  colb : Fin 128 → Fin 128 → EReal
  rowf : Fin 128 → Fin 128 → EReal
  rowb : Fin 128 → Fin 128 → EReal
  sf : Fin 8 → Fin 128 → Fin 256 → EReal
  sb : Fin 8 → Fin 128 → Fin 256 → EReal

variable (k : Chunk)

/-- Place `n` of group `g` among the 1024 columns of `b` and `c`. -/
abbrev gcol (g : Fin 8) (n : Fin 128) : Fin 1024 := ⟨g.val * 128 + n.val, by omega⟩
/-- The column of head `h`'s cumulated decay. -/
abbrev hcol (h : Fin 32) : Fin 128 := ⟨h.val, by omega⟩
/-- The row of head `h`'s cumulated decay less its step. -/
abbrev hrow (h : Fin 32) : Fin 128 := ⟨32 + h.val, by omega⟩
/-- The column of head `h`'s decay of the incoming state. -/
abbrev hexp (h : Fin 32) : Fin 128 := ⟨64 + h.val, by omega⟩

/-- The score of row `i` against token `j` in group `g`. -/
def score (g : Fin 8) (i j : Fin 128) : EReal := ∑ n, k.c i (gcol g n) * k.b j (gcol g n)

/-- Both directions at row `i`, for group `g`, head `h`, lane `l` and place `q` of the group's state. -/
def lane (g : Fin 8) (h : Fin 32) (l : Fin 2048) (q : Fin 256) (i : Fin 128) : EReal :=
  dirOut (fun j => j.val ≤ i.val) (score k g i) (k.colf i (hcol h)) (k.rowf (hrow h)) (fun j => k.x j l)
      (fun n => k.c i (gcol g n)) (k.colf i (hexp h)) (fun n => k.sf g n q)
    + dirOut (fun j => i.val ≤ j.val) (score k g i) (k.colb i (hcol h)) (k.rowb (hrow h)) (fun j => k.x j l)
      (fun n => k.c i (gcol g n)) (k.colb i (hexp h)) (fun n => k.sb g n q)

/-- The scan's output at row `i`, lane `l`: 256 lanes to a group, 64 to a head. -/
def mixed (i : Fin 128) (l : Fin 2048) : EReal :=
  lane k ⟨l.val / 256, by omega⟩ ⟨l.val / 64, by omega⟩ l ⟨l.val % 256, by omega⟩ i

/-- A row with its skip, gated. -/
def gated (y x d z : Fin 2048 → EReal) (l : Fin 2048) : EReal := (y l + x l * d l) * silu (z l)

/-- A gated lane, its skip weight given. -/
theorem gated_of (y x d z : Fin 2048 → EReal) (l : Fin 2048) (v : EReal) (hd : d l = v) :
    gated y x d z l = (y l + x l * v) * silu (z l) := by
  rw [← hd]
  rfl

/-- A row over its root mean square, with gain `g`. -/
def rmsRow (u g : Fin 2048 → EReal) (l : Fin 2048) : EReal :=
  u l * Ideal.rsqrt (Ideal.div (∑ i, u i * u i) inner + rmsEps) * g l

/-- A row through the output projection. -/
def project (u : Fin 2048 → EReal) (w : Fin 2048 → Fin 1024 → EReal) (j : Fin 1024) : EReal := ∑ l, u l * w l j

/-- One row of the state-space sub-layer from its scan's output `y`. -/
def ssdRow (y x d z ng : Fin 2048 → EReal) (w : Fin 2048 → Fin 1024 → EReal) (h gate g b : Fin 1024 → EReal) : Fin 1024 → EReal :=
  lnRow (resRow h gate (project (rmsRow (gated y x d z) ng) w)) g b

/-- Row `i` of chunk `c` in the sequence. -/
abbrev tok (c : Fin 32) (i : Fin 128) : Fin 4096 := ⟨c.val * 128 + i.val, by omega⟩

/-- Chunk `c` of batch element `b` of the arrays. -/
def chunkOf (xbc : (⟨3, ![8, 4096, 4096]⟩ : Shape).Idx → EReal) (colf colb : (⟨3, ![8, 4096, 128]⟩ : Shape).Idx → EReal)
    (rowf rowb : (⟨4, ![8, 32, 128, 128]⟩ : Shape).Idx → EReal) (sf sb : (⟨5, ![8, 32, 8, 128, 256]⟩ : Shape).Idx → EReal)
    (b : Fin 8) (c : Fin 32) : Chunk where
  x i l := xbc (ix3 b (tok c i) ⟨l.val, by omega⟩)
  b i n := xbc (ix3 b (tok c i) ⟨2048 + n.val, by omega⟩)
  c i n := xbc (ix3 b (tok c i) ⟨3072 + n.val, by omega⟩)
  colf i h := colf (ix3 b (tok c i) h)
  colb i h := colb (ix3 b (tok c i) h)
  rowf h j := rowf (ix4 b c h j)
  rowb h j := rowb (ix4 b c h j)
  sf g n q := sf (ix5 b c g n q)
  sb g n q := sb (ix5 b c g n q)

/-- The state-space sub-layer of row `i` of chunk `c`, batch element `b`: the gate is row 2 of the batch element's
    modulation, the skip weight one per head. -/
def ssdArr (xbc : (⟨3, ![8, 4096, 4096]⟩ : Shape).Idx → EReal) (z : (⟨3, ![8, 4096, 2048]⟩ : Shape).Idx → EReal)
    (colf colb : (⟨3, ![8, 4096, 128]⟩ : Shape).Idx → EReal) (rowf rowb : (⟨4, ![8, 32, 128, 128]⟩ : Shape).Idx → EReal)
    (sf sb : (⟨5, ![8, 32, 8, 128, 256]⟩ : Shape).Idx → EReal) (h : (⟨3, ![8, 4096, 1024]⟩ : Shape).Idx → EReal)
    (mod : (⟨3, ![8, 6, 1024]⟩ : Shape).Idx → EReal) (d : (⟨1, ![32]⟩ : Shape).Idx → EReal) (ng : (⟨1, ![2048]⟩ : Shape).Idx → EReal)
    (w : (⟨2, ![2048, 1024]⟩ : Shape).Idx → EReal) (lg lb : (⟨1, ![1024]⟩ : Shape).Idx → EReal)
    (b : Fin 8) (c : Fin 32) (i : Fin 128) : Fin 1024 → EReal :=
  ssdRow (mixed (chunkOf xbc colf colb rowf rowb sf sb b c) i) (fun l => xbc (ix3 b (tok c i) ⟨l.val, by omega⟩))
    (fun l => d (ix1 ⟨l.val / 64, by omega⟩)) (fun l => z (ix3 b (tok c i) l)) (fun l => ng (ix1 l)) (fun l j => w (ix2 l j))
    (fun j => h (ix3 b (tok c i) j)) (fun j => mod (ix3 b 2 j)) (fun j => lg (ix1 j)) (fun j => lb (ix1 j))

end Cert.Spec

end
-- ==== Proof.SsdPair.lean ====
/- The two heads of one 128-lane tile of the state-space kernel: the products the kernel takes for them, written once for
   any pair, and what they are lane by lane. -/
module

public import Idealize.ShloMosaic.Lib.WordCmp
public import proofs.«01_k».proof.Proof.SsdSpec
public import proofs.«01_k».proof.Proof.Gen.SsdIdeal.Frame

@[expose] public section

set_option maxRecDepth 16384

noncomputable section

namespace Cert.Proof.SsdPair

open Idealize.ShloMosaic Idealize.SL.Sem Cert.SsdIdeal Cert.SsdIdeal.Gen Cert.Spec

/-- A table of 128 by 128 floats. -/
abbrev Tab := FVec Ideal S128x128 .f32
/-- A table of 128 by 128 half-width floats. -/
abbrev Half := FVec Ideal S128x128 .bf16

/-- Column `h` of a table, along every lane. -/
def along (h : Nat) (hs : S128x128.Slices ![0, h] S128x1) (v : Tab) : Tab :=
  broadcastTo S128x128 (shapeCast S128x1 (extractStridedSlice S128x1 ![0, h] v hs) shapeCasts_S128x1_S128x1) broadcasts_S128x1_S128x128

/-- Row `h` of a table, along every row. -/
def down (h : Nat) (hs : S128x128.Slices ![h, 0] S1x128) (v : Tab) : Tab :=
  broadcastTo S128x128 (extractStridedSlice S1x128 ![h, 0] v hs) broadcasts_S1x128_S128x128

/-- The masked decay of a head: column `h` against row `r`. -/
def fade (h r : Nat) (hh : S128x128.Slices ![0, h] S128x1) (hr : S128x128.Slices ![r, 0] S1x128) (col row mask : Tab) : Tab :=
  exp (addf (subf (along h hh col) (down r hr row)) mask)

/-- The scores weighted by both directions' decays. -/
def weights (h r : Nat) (hh : S128x128.Slices ![0, h] S128x1) (hr : S128x128.Slices ![r, 0] S1x128)
    (colf colb rowf rowb tril triu s : Tab) : Half :=
  truncf .bf16 (mulf s (addf (fade h r hh hr colf rowf tril) (fade h r hh hr colb rowb triu))) bitsLt_bf16_f32

/-- The rows of `c` scaled by column `e` of a table. -/
def scaled (e : Nat) (he : S128x128.Slices ![0, e] S128x1) (c col : Tab) : Half :=
  truncf .bf16 (mulf c (along e he col)) bitsLt_bf16_f32

/-- A tile's lanes of one head, the other head's at zero. -/
def first (v : Half) : Half := select k0_pay8 v k0_pay10
/-- A tile's lanes of the other head. -/
def second (v : Half) : Half := select (xori k0_pay8 (constantI S128x128 1 1#1)) v k0_pay10

/-- The tile of a pair of heads: one product of both heads' factors laid side by side. -/
def pairOut (h r e h' r' e' : Nat) (hh : S128x128.Slices ![0, h] S128x1) (hr : S128x128.Slices ![r, 0] S1x128)
    (he : S128x128.Slices ![0, e] S128x1) (hh' : S128x128.Slices ![0, h'] S128x1) (hr' : S128x128.Slices ![r', 0] S1x128)
    (he' : S128x128.Slices ![0, e'] S128x1) (colf colb rowf rowb tril triu : Tab)
    (b c x : Vec Ideal S1x128x128 .bf16) (sf sb : Vec Ideal S1x1x1x128x128 .bf16) : Tab :=
  have cg : Half := shapeCast S128x128 c shapeCasts_S1x128x128_S128x128
  have bg : Half := shapeCast S128x128 b shapeCasts_S1x128x128_S128x128
  have xp : Half := shapeCast S128x128 x shapeCasts_S1x128x128_S128x128
  have fp : Half := shapeCast S128x128 sf shapeCasts_S1x1x1x128x128_S128x128
  have bp : Half := shapeCast S128x128 sb shapeCasts_S1x1x1x128x128_S128x128
  have s : Tab := matmul dot_S128x128_S128x128_S128x128_1_1_0_0_n_n none cg bg (constant S128x128 .f32 0x00000000#32)
  have cw : Tab := extf .f32 cg bitsLt_bf16_f32
  shapeCast S128x128 (matmul dot_S128x768_S768x128_S128x128_1_0_0_1_n_n none
    (concatenate S128x768 1 [⟨S128x128, weights h r hh hr colf colb rowf rowb tril triu s⟩, ⟨S128x128, scaled e he cw colf⟩,
      ⟨S128x128, scaled e he cw colb⟩, ⟨S128x128, weights h' r' hh' hr' colf colb rowf rowb tril triu s⟩,
      ⟨S128x128, scaled e' he' cw colf⟩, ⟨S128x128, scaled e' he' cw colb⟩]
      concatenates_S128x128_S128x128_S128x128_S128x128_S128x128_S128x128_S128x768_d1)
    (concatenate S768x128 0 [⟨S128x128, first xp⟩, ⟨S128x128, first fp⟩, ⟨S128x128, first bp⟩, ⟨S128x128, second xp⟩,
      ⟨S128x128, second fp⟩, ⟨S128x128, second bp⟩]
      concatenates_S128x128_S128x128_S128x128_S128x128_S128x128_S128x128_S768x128_d0)
    (constant S128x128 .f32 0x00000000#32)) shapeCasts_S128x128_S128x128

/-- A column spread along the lanes is the column's entry of the row. -/
theorem along_apply (h : Nat) (hs : S128x128.Slices ![0, h] S128x1) (v : Tab) (hl : h < 128) (i j : Fin 128) :
    along h hs v (ix2 i j) = v (ix2 i ⟨h, hl⟩) := by
  pointwise [along]

/-- A row spread down the rows is the row's entry of the lane. -/
theorem down_apply (h : Nat) (hs : S128x128.Slices ![h, 0] S1x128) (v : Tab) (hl : h < 128) (i j : Fin 128) :
    down h hs v (ix2 i j) = v (ix2 ⟨h, hl⟩ j) := by
  pointwise [down]

/-- The masked decay of a head, where the mask is zero on the kept tokens and minus infinity on the others. -/
theorem fade_apply (h r : Nat) (hh : S128x128.Slices ![0, h] S128x1) (hr : S128x128.Slices ![r, 0] S1x128) (col row mask : Tab)
    (hl : h < 128) (rl : r < 128) (i j : Fin 128) (keep : Fin 128 → Prop) [DecidablePred keep]
    (hm : mask (ix2 i j) = if keep j then 0 else ⊥) :
    fade h r hh hr col row mask (ix2 i j) = decay keep (col (ix2 i ⟨h, hl⟩)) (fun j => row (ix2 ⟨r, rl⟩ j)) j := by
  pointwise [fade]
  rw [along_apply h hh col hl, down_apply r hr row rl, hm]
  unfold decay
  by_cases hk : keep j
  · rw [if_pos hk, if_pos hk, add_zero]
  · rw [if_neg hk, if_neg hk, EReal.add_bot]

/-- A head's part of a tile's product: the weighted tokens and the two states read. -/
def headSum (wts x cf cb sf sb : Fin 128 → EReal) : EReal :=
  (∑ j, wts j * x j) + ((∑ n, cf n * sf n) + ∑ n, cb n * sb n)

/-- A tile's product, head by head: the lanes of a head meet only its own factors. -/
theorem pair_split (h r e h' r' e' : Nat) (hh : S128x128.Slices ![0, h] S128x1) (hr : S128x128.Slices ![r, 0] S1x128)
    (he : S128x128.Slices ![0, e] S128x1) (hh' : S128x128.Slices ![0, h'] S128x1) (hr' : S128x128.Slices ![r', 0] S1x128)
    (he' : S128x128.Slices ![0, e'] S128x1) (colf colb rowf rowb tril triu : Tab)
    (b c x : Vec Ideal S1x128x128 .bf16) (sf sb : Vec Ideal S1x1x1x128x128 .bf16) (i l : Fin 128) :
    pairOut h r e h' r' e' hh hr he hh' hr' he' colf colb rowf rowb tril triu b c x sf sb (ix2 i l)
      = if l.val < 64 then
          headSum (fun j => (∑ n, c (ix3 0 i n) * b (ix3 0 j n))
              * (fade h r hh hr colf rowf tril (ix2 i j) + fade h r hh hr colb rowb triu (ix2 i j)))
            (fun j => x (ix3 0 j l)) (fun n => c (ix3 0 i n) * along e he colf (ix2 i n))
            (fun n => c (ix3 0 i n) * along e he colb (ix2 i n)) (fun n => sf (ix5 0 0 0 n l)) (fun n => sb (ix5 0 0 0 n l))
        else
          headSum (fun j => (∑ n, c (ix3 0 i n) * b (ix3 0 j n))
              * (fade h' r' hh' hr' colf rowf tril (ix2 i j) + fade h' r' hh' hr' colb rowb triu (ix2 i j)))
            (fun j => x (ix3 0 j l)) (fun n => c (ix3 0 i n) * along e' he' colf (ix2 i n))
            (fun n => c (ix3 0 i n) * along e' he' colb (ix2 i n)) (fun n => sf (ix5 0 0 0 n l)) (fun n => sb (ix5 0 0 0 n l)) := by
  pointwise [sumSplitAll, pairOut, first, second, k0_pay8, k0_pay10, weights, scaled]
  have hlt : IntOp.cmpi .slt (BitVec.ofNat 32 l.val) 64#32 = BitVec.ofBool (decide (l.val < 64)) :=
    WordCmp.cmpi_slt_ofNat (by omega) (by omega)
  have one : IntOp.xori (BitVec.ofBool true) 1#1 = BitVec.ofBool false := by decide
  have zero : IntOp.xori (BitVec.ofBool false) 1#1 = BitVec.ofBool true := by decide
  by_cases hl : l.val < 64
  · simp only [hlt, hl, decide_true, one, WordCmp.select_ofBool, if_true, Bool.false_eq_true, if_false, Finset.sum_const_zero,
      add_zero]
    rfl
  · simp only [hlt, hl, decide_false, zero, WordCmp.select_ofBool, if_true, Bool.false_eq_true, if_false, Finset.sum_const_zero,
      zero_add]
    rfl

/-- The exponential is never negative. -/
theorem exp_nonneg (v : EReal) : 0 ≤ Ideal.exp v := by
  induction v using EReal.rec with
  | bot => exact le_rfl
  | coe r => exact EReal.coe_nonneg.mpr (Real.exp_pos r).le
  | top => exact le_top

/-- A decay is never negative. -/
theorem decay_nonneg (keep : Fin 128 → Prop) [DecidablePred keep] (c : EReal) (r : Fin 128 → EReal) (j : Fin 128) :
    0 ≤ decay keep c r j := exp_nonneg _

/-- A head's part of a tile's product is both directions of the scan: a token's weight is its score times the sum of two
    decays, neither negative, so it may be shared out between them. -/
theorem headSum_eq (keep keep' : Fin 128 → Prop) [DecidablePred keep] [DecidablePred keep'] (s : Fin 128 → EReal)
    (cf cb : EReal) (rf rb x c : Fin 128 → EReal) (ef eb : EReal) (sf sb : Fin 128 → EReal) :
    headSum (fun j => s j * (decay keep cf rf j + decay keep' cb rb j)) x (fun n => c n * ef) (fun n => c n * eb) sf sb
      = dirOut keep s cf rf x c ef sf + dirOut keep' s cb rb x c eb sb := by
  have h : ∀ j, s j * (decay keep cf rf j + decay keep' cb rb j) * x j
      = s j * decay keep cf rf j * x j + s j * decay keep' cb rb j * x j := by
    intro j
    rw [mul_right_comm, EReal.left_distrib_of_nonneg (decay_nonneg _ _ _ j) (decay_nonneg _ _ _ j), mul_right_comm (s j) (x j),
      mul_right_comm (s j) (x j)]
  unfold headSum dirOut
  simp only [h, Finset.sum_add_distrib]
  abel

/-- Tile `p` of the scan's output, where the factors are the chunk's: two heads of group `p / 2`. -/
theorem pair_lane (k : Chunk) (p : Nat) (hp : p < 16) (hh : S128x128.Slices ![0, 2 * p] S128x1)
    (hr : S128x128.Slices ![32 + 2 * p, 0] S1x128) (he : S128x128.Slices ![0, 64 + 2 * p] S128x1)
    (hh' : S128x128.Slices ![0, 2 * p + 1] S128x1) (hr' : S128x128.Slices ![32 + (2 * p + 1), 0] S1x128)
    (he' : S128x128.Slices ![0, 64 + (2 * p + 1)] S128x1) (colf colb rowf rowb tril triu : Tab)
    (b c x : Vec Ideal S1x128x128 .bf16) (sf sb : Vec Ideal S1x1x1x128x128 .bf16)
    (hcf : ∀ i h, colf (ix2 i h) = k.colf i h) (hcb : ∀ i h, colb (ix2 i h) = k.colb i h)
    (hrf : ∀ h j, rowf (ix2 h j) = k.rowf h j) (hrb : ∀ h j, rowb (ix2 h j) = k.rowb h j)
    (hlo : ∀ i j, tril (ix2 i j) = if j.val ≤ i.val then 0 else ⊥) (hup : ∀ i j, triu (ix2 i j) = if i.val ≤ j.val then 0 else ⊥)
    (hb : ∀ j n, b (ix3 0 j n) = k.b j ⟨p / 2 * 128 + n.val, by omega⟩)
    (hc : ∀ j n, c (ix3 0 j n) = k.c j ⟨p / 2 * 128 + n.val, by omega⟩)
    (hx : ∀ j l, x (ix3 0 j l) = k.x j ⟨128 * p + l.val, by omega⟩)
    (hsf : ∀ n l, sf (ix5 0 0 0 n l) = k.sf ⟨p / 2, by omega⟩ n ⟨p % 2 * 128 + l.val, by omega⟩)
    (hsb : ∀ n l, sb (ix5 0 0 0 n l) = k.sb ⟨p / 2, by omega⟩ n ⟨p % 2 * 128 + l.val, by omega⟩) (i l : Fin 128) :
    pairOut (2 * p) (32 + 2 * p) (64 + 2 * p) (2 * p + 1) (32 + (2 * p + 1)) (64 + (2 * p + 1)) hh hr he hh' hr' he'
      colf colb rowf rowb tril triu b c x sf sb (ix2 i l) = mixed k i ⟨128 * p + l.val, by omega⟩ := by
  have hg : (⟨(128 * p + l.val) / 256, by omega⟩ : Fin 8) = ⟨p / 2, by omega⟩ := Fin.ext (by dsimp only; omega)
  have hq : (⟨(128 * p + l.val) % 256, by omega⟩ : Fin 256) = ⟨p % 2 * 128 + l.val, by omega⟩ := Fin.ext (by dsimp only; omega)
  have hs : ∀ j, (∑ n, c (ix3 0 i n) * b (ix3 0 j n)) = score k ⟨p / 2, by omega⟩ i j := by
    intro j
    simp only [hb, hc]
    rfl
  unfold mixed
  rw [hg, hq, pair_split]
  simp only [hs]
  simp only [hx, hsf, hsb, hc]
  by_cases hl : l.val < 64
  · have hd : (⟨(128 * p + l.val) / 64, by omega⟩ : Fin 32) = ⟨2 * p, by omega⟩ := Fin.ext (by dsimp only; omega)
    rw [if_pos hl, hd]
    simp only [fun j => fade_apply _ _ hh hr colf rowf tril (by omega) (by omega) i j (fun j => j.val ≤ i.val) (hlo i j),
      fun j => fade_apply _ _ hh hr colb rowb triu (by omega) (by omega) i j (fun j => i.val ≤ j.val) (hup i j),
      fun n => along_apply _ he colf (by omega) i n, fun n => along_apply _ he colb (by omega) i n, hcf, hcb, hrf, hrb]
    exact headSum_eq (fun j => j.val ≤ i.val) (fun j => i.val ≤ j.val) _ _ _ _ _ _ _ _ _ _ _
  · have hd : (⟨(128 * p + l.val) / 64, by omega⟩ : Fin 32) = ⟨2 * p + 1, by omega⟩ := Fin.ext (by dsimp only; omega)
    rw [if_neg hl, hd]
    simp only [fun j => fade_apply _ _ hh' hr' colf rowf tril (by omega) (by omega) i j (fun j => j.val ≤ i.val) (hlo i j),
      fun j => fade_apply _ _ hh' hr' colb rowb triu (by omega) (by omega) i j (fun j => i.val ≤ j.val) (hup i j),
      fun n => along_apply _ he' colf (by omega) i n, fun n => along_apply _ he' colb (by omega) i n, hcf, hcb, hrf, hrb]
    exact headSum_eq (fun j => j.val ≤ i.val) (fun j => i.val ≤ j.val) _ _ _ _ _ _ _ _ _ _ _

end Cert.Proof.SsdPair

end
-- ==== Proof.SsdTail.lean ====
/- What the state-space kernel does to a chunk's scanned rows: skip, gate, the two normalisations, the projection. -/
module

public import proofs.«01_k».proof.Proof.SsdSpec
public import proofs.«01_k».proof.Proof.Gen.SsdIdeal.Frame

@[expose] public section

set_option maxRecDepth 16384

noncomputable section

namespace Cert.Proof.SsdTail

open Idealize.ShloMosaic Idealize.SL.Sem Cert.SsdIdeal Cert.SsdIdeal.Gen Cert.Spec

variable (y : Vec Ideal S128x2048 .f32) (x z : Vec Ideal S1x128x2048 .bf16) (d ng : Vec Ideal S1x2048 .f32)
  (w : Vec Ideal S2048x1024 .bf16) (h : Vec Ideal S1x128x1024 .f32) (mod : Vec Ideal S1x6x1024 .f32)
  (lg lb : Vec Ideal S1x1024 .f32)

/-- The residual rows: the projected, normalised, gated scan beside the scaled input. -/
theorem residual (i : Fin 128) (j : Fin 1024) :
    k0_pay212 (k0_pay210 y x d) (k0_pay211 z) ng h mod w (ix2 i j)
      = resRow (fun j => h (ix3 0 i j)) (fun j => mod (ix3 0 2 j))
          (project (rmsRow (gated (fun l => y (ix2 i l)) (fun l => x (ix3 0 i l)) (fun l => d (ix2 0 l)) (fun l => z (ix3 0 i l)))
            (fun l => ng (ix2 0 l))) (fun l j => w (ix2 l j))) j := by
  pointwise [k0_pay212, k0_pay210, k0_pay211]
  rfl

/-- The rows the kernel leaves, from the scan's. -/
theorem rows (i : Fin 128) (j : Fin 1024) :
    k0_pay1 (k0_pay212 (k0_pay210 y x d) (k0_pay211 z) ng h mod w) (k0_pay213 lg) (k0_pay214 lb)
        (k0_pay215 (k0_pay210 y x d) (k0_pay211 z) ng h mod w) (ix3 0 i j)
      = ssdRow (fun l => y (ix2 i l)) (fun l => x (ix3 0 i l)) (fun l => d (ix2 0 l)) (fun l => z (ix3 0 i l))
          (fun l => ng (ix2 0 l)) (fun l j => w (ix2 l j)) (fun j => h (ix3 0 i j)) (fun j => mod (ix3 0 2 j))
          (fun j => lg (ix2 0 j)) (fun j => lb (ix2 0 j)) j := by
  have hr := residual y x z d ng w h mod i
  generalize hu : k0_pay212 (k0_pay210 y x d) (k0_pay211 z) ng h mod w = u at hr ⊢
  have hm : k0_pay215 (k0_pay210 y x d) (k0_pay211 z) ng h mod w (ix2 i 0) = Ideal.div (∑ k, u (ix2 i k)) width := by
    rw [← hu]
    pointwise [k0_pay215]
  pointwise [k0_pay1, k0_pay213, k0_pay214]
  rw [hm]
  simp only [hr]
  rfl

end Cert.Proof.SsdTail

end
-- ==== Proof.SsdBlock.lean ====
/- What one grid point of the state-space kernel leaves in its block: row by row, the state-space sub-layer of the chunk. -/
module

public import Idealize.ShloMosaic.Lib.Pipeline.ValueKit
public import Idealize.ShloMosaic.Lib.Pipeline.ReadBack
public import proofs.«01_k».proof.Proof.SsdPair
public import proofs.«01_k».proof.Proof.SsdTail

@[expose] public section

set_option maxRecDepth 16384

noncomputable section

namespace Cert.Proof.SsdBlock

open Idealize.ShloMosaic Idealize.SL.Sem Cert.SsdIdeal Cert.SsdIdeal.Gen Cert.Spec Cert.Proof.SsdPair

variable (x0 : Vec Ideal S1x128x2048 .bf16) (x1 x2 : Vec Ideal S1x128x1024 .bf16) (x4 x5 : Vec Ideal S1x128x128 .f32)
  (x6 x7 : Vec Ideal S1x1x128x128 .f32) (x8 x9 : Vec Ideal S1x1x8x128x256 .bf16) (x10 : Vec Ideal S2x128x128 .f32)

/-- The chunk a grid point's blocks bring. -/
def chunk : Chunk where
  x i l := x0 (ix3 0 i l)
  b i n := x1 (ix3 0 i n)
  c i n := x2 (ix3 0 i n)
  colf i h := x4 (ix3 0 i h)
  colb i h := x5 (ix3 0 i h)
  rowf h j := x6 (ix4 0 0 h j)
  rowb h j := x7 (ix4 0 0 h j)
  sf g n q := x8 (ix5 0 0 g n q)
  sb g n q := x9 (ix5 0 0 g n q)

/-- The masked entry's value. -/
theorem masked : (Named.named κ "masked" 0xF149F2CA#32 : Ideal .f32) = (⊥ : EReal) := rfl

/-- The lower mask is zero where the table holds one and minus infinity where it holds zero, -/
theorem lower (hm : ∀ i j : Fin 128, x10 (ix3 0 i j) = if j.val ≤ i.val then 1 else 0) (i j : Fin 128) :
    k0_pay6 (View.ld x10 (Rect.unit ![0, 0, 0] ![1, 128, 128] inb_S2x128x128_S1x128x128_0_0_0)) (ix2 i j)
      = if j.val ≤ i.val then (0 : EReal) else ⊥ := by
  pointwise [k0_pay6]
  rw [hm]
  by_cases h : j.val ≤ i.val <;> simp [h, masked]

/-- and so is the upper one. -/
theorem upper (hm : ∀ i j : Fin 128, x10 (ix3 1 i j) = if i.val ≤ j.val then 1 else 0) (i j : Fin 128) :
    k0_pay7 (View.ld x10 (Rect.unit ![1, 0, 0] ![1, 128, 128] inb_S2x128x128_S1x128x128_1_0_0)) (ix2 i j)
      = if i.val ≤ j.val then (0 : EReal) else ⊥ := by
  pointwise [k0_pay7]
  rw [hm]
  by_cases h : i.val ≤ j.val <;> simp [h, masked]

/-- Tile `p` of the scan, its factors loaded from the blocks. -/
theorem tile (hm0 : ∀ i j : Fin 128, x10 (ix3 0 i j) = if j.val ≤ i.val then 1 else 0)
    (hm1 : ∀ i j : Fin 128, x10 (ix3 1 i j) = if i.val ≤ j.val then 1 else 0)
    (p : Nat) (hp : p < 16) (y : S128x128.Idx) (i : Fin 128) (l : Fin 2048) (hi : i.val = (y 0).val)
    (hl : l.val = 128 * p + (y 1).val) (hh : S128x128.Slices ![0, 2 * p] S128x1 := by decide)
    (hr : S128x128.Slices ![32 + 2 * p, 0] S1x128 := by decide) (he : S128x128.Slices ![0, 64 + 2 * p] S128x1 := by decide)
    (hh' : S128x128.Slices ![0, 2 * p + 1] S128x1 := by decide)
    (hr' : S128x128.Slices ![32 + (2 * p + 1), 0] S1x128 := by decide)
    (he' : S128x128.Slices ![0, 64 + (2 * p + 1)] S128x1 := by decide)
    (ib : ∀ a, (![0, 0, p / 2 * 128] : Fin 3 → Nat) a + (![1, 128, 128] : Fin 3 → Nat) a ≤ S1x128x1024.size a := by decide)
    (ix : ∀ a, (![0, 0, 128 * p] : Fin 3 → Nat) a + (![1, 128, 128] : Fin 3 → Nat) a ≤ S1x128x2048.size a := by decide)
    (is : ∀ a, (![0, 0, p / 2, 0, p % 2 * 128] : Fin 5 → Nat) a + (![1, 1, 1, 128, 128] : Fin 5 → Nat) a
      ≤ S1x1x8x128x256.size a := by decide) :
    pairOut (2 * p) (32 + 2 * p) (64 + 2 * p) (2 * p + 1) (32 + (2 * p + 1)) (64 + (2 * p + 1)) hh hr he hh' hr' he'
      (k0_pay2 x4) (k0_pay3 x5) (k0_pay4 x6) (k0_pay5 x7)
      (k0_pay6 (View.ld x10 (Rect.unit ![0, 0, 0] ![1, 128, 128] inb_S2x128x128_S1x128x128_0_0_0)))
      (k0_pay7 (View.ld x10 (Rect.unit ![1, 0, 0] ![1, 128, 128] inb_S2x128x128_S1x128x128_1_0_0)))
      (View.ld x1 (Rect.unit ![0, 0, p / 2 * 128] ![1, 128, 128] ib)) (View.ld x2 (Rect.unit ![0, 0, p / 2 * 128] ![1, 128, 128] ib))
      (View.ld x0 (Rect.unit ![0, 0, 128 * p] ![1, 128, 128] ix))
      (View.ld x8 (Rect.unit ![0, 0, p / 2, 0, p % 2 * 128] ![1, 1, 1, 128, 128] is))
      (View.ld x9 (Rect.unit ![0, 0, p / 2, 0, p % 2 * 128] ![1, 1, 1, 128, 128] is)) y
    = mixed (chunk x0 x1 x2 x4 x5 x6 x7 x8 x9) i l := by
  obtain ⟨a, b, rfl⟩ : ∃ a b : Fin 128, y = (ix2 a b : S128x128.Idx) :=
    ⟨y 0, y 1, funext fun a => match a with | ⟨0, _⟩ => rfl | ⟨1, _⟩ => rfl⟩
  obtain rfl : i = a := Fin.ext hi
  have bound : 128 * p + b.val < 2048 := by
    have := b.isLt
    clear hl
    omega
  obtain rfl : l = ⟨128 * p + b.val, bound⟩ := Fin.ext hl
  refine pair_lane (chunk x0 x1 x2 x4 x5 x6 x7 x8 x9) p hp hh hr he hh' hr' he' _ _ _ _ _ _ _ _ _ _ _ ?_ ?_ ?_ ?_
    (lower x10 hm0) (upper x10 hm1) ?_ ?_ ?_ ?_ ?_ i b
  · intro i h
    pointwise [k0_pay2]
    rfl
  · intro i h
    pointwise [k0_pay3]
    rfl
  · intro h j
    pointwise [k0_pay4]
    rfl
  · intro h j
    pointwise [k0_pay5]
    rfl
  · exact fun j n => View.ld_unit_apply_of x1 _ _ ib _ _ (fun a => match a with
      | ⟨0, _⟩ => rfl | ⟨1, _⟩ => (Nat.zero_add _).symm | ⟨2, _⟩ => rfl)
  · exact fun j n => View.ld_unit_apply_of x2 _ _ ib _ _ (fun a => match a with
      | ⟨0, _⟩ => rfl | ⟨1, _⟩ => (Nat.zero_add _).symm | ⟨2, _⟩ => rfl)
  · exact fun j n => View.ld_unit_apply_of x0 _ _ ix _ _ (fun a => match a with
      | ⟨0, _⟩ => rfl | ⟨1, _⟩ => (Nat.zero_add _).symm | ⟨2, _⟩ => rfl)
  · exact fun n l => View.ld_unit_apply_of x8 _ _ is _ _ (fun a => match a with
      | ⟨0, _⟩ => rfl | ⟨1, _⟩ => rfl | ⟨2, _⟩ => rfl | ⟨3, _⟩ => (Nat.zero_add _).symm | ⟨4, _⟩ => rfl)
  · exact fun n l => View.ld_unit_apply_of x9 _ _ is _ _ (fun a => match a with
      | ⟨0, _⟩ => rfl | ⟨1, _⟩ => rfl | ⟨2, _⟩ => rfl | ⟨3, _⟩ => (Nat.zero_add _).symm | ⟨4, _⟩ => rfl)

/-- What the body leaves in its block, row by row. -/
theorem out_apply (c : Dev nD) (i : grid0.Coords) (arg2 : Memref sig .tc .vmem S1x128x2048 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x2048 .bf16) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x8x128x256 .bf16) (harg10 : arg10.IsWhole) (arg11 : Memref sig .tc .vmem S1x1x8x128x256 .bf16) (harg11 : arg11.IsWhole) (arg12 : Memref sig .tc .vmem S2x128x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S2048x1024 .bf16) (harg15 : arg15.IsWhole) (arg16 : Memref sig .tc .vmem S1x128x1024 .f32) (harg16 : arg16.IsWhole) (arg17 : Memref sig .tc .vmem S1x6x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x128x1024 .f32) (harg20 : arg20.IsWhole) (arg21 : Memref sig .tc .vmem S128x2048 .f32) (harg21 : arg21.IsWhole)
    (x0 : Vec Ideal S1x128x2048 .bf16) (x1 : Vec Ideal S1x128x1024 .bf16) (x2 : Vec Ideal S1x128x1024 .bf16) (x3 : Vec Ideal S1x128x2048 .bf16) (x4 : Vec Ideal S1x128x128 .f32) (x5 : Vec Ideal S1x128x128 .f32) (x6 : Vec Ideal S1x1x128x128 .f32) (x7 : Vec Ideal S1x1x128x128 .f32) (x8 : Vec Ideal S1x1x8x128x256 .bf16) (x9 : Vec Ideal S1x1x8x128x256 .bf16) (x10 : Vec Ideal S2x128x128 .f32) (x11 : Vec Ideal S1x2048 .f32) (x12 : Vec Ideal S1x2048 .f32) (x13 : Vec Ideal S2048x1024 .bf16) (x14 : Vec Ideal S1x128x1024 .f32) (x15 : Vec Ideal S1x6x1024 .f32) (x16 : Vec Ideal S1x1024 .f32) (x17 : Vec Ideal S1x1024 .f32)
    (hm0 : ∀ i j : Fin 128, x10 (ix3 0 i j) = if j.val ≤ i.val then 1 else 0)
    (hm1 : ∀ i j : Fin 128, x10 (ix3 1 i j) = if i.val ≤ j.val then 1 else 0) (q : Fin 128) (j : Fin 1024) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
        x0 x1 x2 x3 x4 x5 x6 x7 x8 x9 x10 x11 x12 x13 x14 x15 x16 x17 (ix3 0 q j)
      = ssdRow (mixed (chunk x0 x1 x2 x4 x5 x6 x7 x8 x9) q) (fun l => x0 (ix3 0 q l)) (fun l => x11 (ix2 0 l))
          (fun l => x3 (ix3 0 q l)) (fun l => x12 (ix2 0 l)) (fun l j => x13 (ix2 l j)) (fun j => x14 (ix3 0 q j))
          (fun j => x15 (ix3 0 2 j)) (fun j => x16 (ix2 0 j)) (fun j => x17 (ix2 0 j)) j := by
  frame_open
  simp (disch := decide) only [↓ View.readCov_skip, ↓ View.readCov_cons_toLoadRect, ↓ View.readCov_fill]
  frame_out
  refine (SsdTail.rows _ x0 x3 x11 x12 x13 x14 x15 x16 x17 q j).trans
    (congrArg (fun y => ssdRow y _ _ _ _ _ _ _ _ _ j) (funext fun l => ?_))
  rw [View.readCov_eq_canon']
  have hl := l.isLt
  have hq := q.isLt
  have he : (Rect.unit ![0, 0] ![128, 2048] inb_S128x2048_S128x2048_0_0).toLoadRect.idx (ix2 q l) = (ix2 q l : S128x2048.Idx) :=
    funext fun a => Fin.ext (match a with | ⟨0, _⟩ => by simp | ⟨1, _⟩ => by simp)
  dsimp only
  rw [he]
  canon_tiles x h
  case piece0 => exact tile x0 x1 x2 x4 x5 x6 x7 x8 x9 x10 hm0 hm1 15 (by decide) x q l h0 h1
  case piece1 => exact tile x0 x1 x2 x4 x5 x6 x7 x8 x9 x10 hm0 hm1 14 (by decide) x q l h0 h1
  case piece2 => exact tile x0 x1 x2 x4 x5 x6 x7 x8 x9 x10 hm0 hm1 13 (by decide) x q l h0 h1
  case piece3 => exact tile x0 x1 x2 x4 x5 x6 x7 x8 x9 x10 hm0 hm1 12 (by decide) x q l h0 h1
  case piece4 => exact tile x0 x1 x2 x4 x5 x6 x7 x8 x9 x10 hm0 hm1 11 (by decide) x q l h0 h1
  case piece5 => exact tile x0 x1 x2 x4 x5 x6 x7 x8 x9 x10 hm0 hm1 10 (by decide) x q l h0 h1
  case piece6 => exact tile x0 x1 x2 x4 x5 x6 x7 x8 x9 x10 hm0 hm1 9 (by decide) x q l h0 h1
  case piece7 => exact tile x0 x1 x2 x4 x5 x6 x7 x8 x9 x10 hm0 hm1 8 (by decide) x q l h0 h1
  case piece8 => exact tile x0 x1 x2 x4 x5 x6 x7 x8 x9 x10 hm0 hm1 7 (by decide) x q l h0 h1
  case piece9 => exact tile x0 x1 x2 x4 x5 x6 x7 x8 x9 x10 hm0 hm1 6 (by decide) x q l h0 h1
  case piece10 => exact tile x0 x1 x2 x4 x5 x6 x7 x8 x9 x10 hm0 hm1 5 (by decide) x q l h0 h1
  case piece11 => exact tile x0 x1 x2 x4 x5 x6 x7 x8 x9 x10 hm0 hm1 4 (by decide) x q l h0 h1
  case piece12 => exact tile x0 x1 x2 x4 x5 x6 x7 x8 x9 x10 hm0 hm1 3 (by decide) x q l h0 h1
  case piece13 => exact tile x0 x1 x2 x4 x5 x6 x7 x8 x9 x10 hm0 hm1 2 (by decide) x q l h0 h1
  case piece14 => exact tile x0 x1 x2 x4 x5 x6 x7 x8 x9 x10 hm0 hm1 1 (by decide) x q l h0 h1
  case piece15 => exact tile x0 x1 x2 x4 x5 x6 x7 x8 x9 x10 hm0 hm1 0 (by decide) x q l h0 (h1.trans (Nat.zero_add _).symm)

end Cert.Proof.SsdBlock

end
-- ==== Proof.SsdArray.lean ====
/- What the state-space kernel leaves in its result array: every row the state-space sub-layer of the arguments' rows. -/
module

public import proofs.«01_k».proof.Proof.SsdBlock
public import proofs.«01_k».proof.Proof.Gen.SsdIdeal.Value
public import Idealize.ShloMosaic.Lib.StableHlo.Run

@[expose] public section

set_option maxRecDepth 16384

noncomputable section

namespace Cert.Proof.SsdArray

open Idealize.ShloMosaic Idealize.ShloMosaic.TcCoe Idealize.ShloMosaic.StableHlo Idealize.SL.Sem Idealize.ShloMosaic.Pipeline
open Cert.SsdIdeal Cert.SsdIdeal.Gen Cert.SsdIdeal.Value Cert.Spec

variable (m : (ℓ : Loc nD τ sig) → Buf (Elt Ideal) ℓ) (ρ : Dev nD → PrngReg)

/-! ## The arrays the host prepares -/

/-- The projection's weight is the argument, its cast having no effect on an exact value. -/
theorem V_v3 (c : Dev nD) : V m c main_v3 = m ((c : Thread nD τ).loc main_arg12) := by
  show after hostOps0 (fun b => m (c, b)) (main_v3 : DevRef τ sig) = _
  after_results
  rfl
/-- The skip weights, each head's repeated over its 64 lanes. -/
theorem V_v2 (c : Dev nD) (l : Fin 2048) :
    V m c main_v2 (ix2 0 l) = m ((c : Thread nD τ).loc main_arg10) (ix1 ⟨l.val / 64, by omega⟩) := by
  have h : V m c main_v2 = shapeCast S1x2048 (shapeCast S2048 (broadcastInDim S32x64 ![0] bcast_S32_S32x64_0
      (m ((c : Thread nD τ).loc main_arg10))) shapeCasts_S32x64_S2048) shapeCasts_S2048_S1x2048 := by
    show after hostOps0 (fun b => m (c, b)) (main_v2 : DevRef τ sig) = _
    after_results
    rfl
  rw [h]
  pointwise
/-- The root-mean-square gain as one row. -/
theorem V_v12 (c : Dev nD) (l : Fin 2048) :
    V m c main_v12 (ix2 0 l) = m ((c : Thread nD τ).loc main_arg11) (ix1 l) := by
  have h : V m c main_v12 = shapeCast S1x2048 (m ((c : Thread nD τ).loc main_arg11)) shapeCasts_S2048_S1x2048 := by
    show after hostOps0 (fun b => m (c, b)) (main_v12 : DevRef τ sig) = _
    after_results
    rfl
  rw [h]
  pointwise
/-- The layer normalisation's gain as one row. -/
theorem V_v13 (c : Dev nD) (j : Fin 1024) :
    V m c main_v13 (ix2 0 j) = m ((c : Thread nD τ).loc main_arg13) (ix1 j) := by
  have h : V m c main_v13 = shapeCast S1x1024 (m ((c : Thread nD τ).loc main_arg13)) shapeCasts_S1024_S1x1024 := by
    show after hostOps0 (fun b => m (c, b)) (main_v13 : DevRef τ sig) = _
    after_results
    rfl
  rw [h]
  pointwise
/-- The layer normalisation's bias as one row. -/
theorem V_v14 (c : Dev nD) (j : Fin 1024) :
    V m c main_v14 (ix2 0 j) = m ((c : Thread nD τ).loc main_arg14) (ix1 j) := by
  have h : V m c main_v14 = shapeCast S1x1024 (m ((c : Thread nD τ).loc main_arg14)) shapeCasts_S1024_S1x1024 := by
    show after hostOps0 (fun b => m (c, b)) (main_v14 : DevRef τ sig) = _
    after_results
    rfl
  rw [h]
  pointwise
/-- The table of kept pairs: those at or below the diagonal, and those at or above it. -/
def kept : FVec Ideal S2x128x128 .f32 := uitofp .f32 (concatenate S2x128x128 0
    [⟨S1x128x128, broadcastInDim S1x128x128 ![1, 2] bcast_S128x128_S1x128x128_1_2
        (cmpi .sle (iotaInDim S128x128 32 1) (iotaInDim S128x128 32 0))⟩,
      ⟨S1x128x128, broadcastInDim S1x128x128 ![1, 2] bcast_S128x128_S1x128x128_1_2
        (cmpi .sge (iotaInDim S128x128 32 1) (iotaInDim S128x128 32 0))⟩]
    concatenates_S1x128x128_S1x128x128_S2x128x128_d0)
/-- The host's table is that. -/
theorem V_v11 (c : Dev nD) : V m c main_v11 = kept := by
  show after hostOps0 (fun b => m (c, b)) (main_v11 : DevRef τ sig) = _
  after_results
  rfl
/-- A flag as a float. -/
theorem flag_one : (FloatOps.uitofp .f32 1#1 : Ideal .f32) = (1 : EReal) := by
  show (((1#1 : BitVec 1).toNat : ℝ) : EReal) = 1
  simp
theorem flag_zero : (FloatOps.uitofp .f32 0#1 : Ideal .f32) = (0 : EReal) := by
  show (((0#1 : BitVec 1).toNat : ℝ) : EReal) = 0
  simp
/-- The table's first half is one on the pairs at or below the diagonal, -/
theorem kept_low (c : Dev nD) (i j : Fin 128) :
    V m c main_v11 (ix3 0 i j) = if j.val ≤ i.val then (1 : EReal) else 0 := by
  rw [V_v11]
  pointwise [kept]
  rw [WordCmp.cmpi_sle_ofNat (by omega) (by omega)]
  by_cases h : j.val ≤ i.val <;> simp [h, flag_one, flag_zero]
/-- and its second half on those at or above it. -/
theorem kept_high (c : Dev nD) (i j : Fin 128) :
    V m c main_v11 (ix3 1 i j) = if i.val ≤ j.val then (1 : EReal) else 0 := by
  rw [V_v11]
  pointwise [kept]
  rw [WordCmp.cmpi_sge_ofNat (by omega) (by omega)]
  by_cases h : i.val ≤ j.val <;> simp [h, flag_one, flag_zero]

/-! ## Where a window's block lies in its array -/

theorem index0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem index1 : ∀ t : Fin cfg0.N, win0_1.index t (0 : Fin 3) = t.val / 32 ∧ win0_1.index t (1 : Fin 3) = t.val % 32 ∧ win0_1.index t (2 : Fin 3) = 2 :=
  (by decide +kernel : ∀ t : Fin grid0.N, _)
theorem index2 : ∀ t : Fin cfg0.N, win0_2.index t (0 : Fin 3) = t.val / 32 ∧ win0_2.index t (1 : Fin 3) = t.val % 32 ∧ win0_2.index t (2 : Fin 3) = 3 :=
  (by decide +kernel : ∀ t : Fin grid0.N, _)
theorem index3 : ∀ t : Fin cfg0.N, win0_3.index t (0 : Fin 3) = t.val / 32 ∧ win0_3.index t (1 : Fin 3) = t.val % 32 ∧ win0_3.index t (2 : Fin 3) = 0 :=
  (by decide +kernel : ∀ t : Fin grid0.N, _)
theorem index4 : ∀ t : Fin cfg0.N, win0_4.index t (0 : Fin 3) = t.val / 32 ∧ win0_4.index t (1 : Fin 3) = t.val % 32 ∧ win0_4.index t (2 : Fin 3) = 0 :=
  (by decide +kernel : ∀ t : Fin grid0.N, _)
theorem index5 : ∀ t : Fin cfg0.N, win0_5.index t (0 : Fin 3) = t.val / 32 ∧ win0_5.index t (1 : Fin 3) = t.val % 32 ∧ win0_5.index t (2 : Fin 3) = 0 :=
  (by decide +kernel : ∀ t : Fin grid0.N, _)
theorem index6 : ∀ t : Fin cfg0.N, win0_6.index t (0 : Fin 4) = t.val / 32 ∧ win0_6.index t (1 : Fin 4) = t.val % 32 ∧ win0_6.index t (2 : Fin 4) = 0 ∧ win0_6.index t (3 : Fin 4) = 0 :=
  (by decide +kernel : ∀ t : Fin grid0.N, _)
theorem index7 : ∀ t : Fin cfg0.N, win0_7.index t (0 : Fin 4) = t.val / 32 ∧ win0_7.index t (1 : Fin 4) = t.val % 32 ∧ win0_7.index t (2 : Fin 4) = 0 ∧ win0_7.index t (3 : Fin 4) = 0 :=
  (by decide +kernel : ∀ t : Fin grid0.N, _)
theorem index8 : ∀ t : Fin cfg0.N, win0_8.index t (0 : Fin 5) = t.val / 32 ∧ win0_8.index t (1 : Fin 5) = t.val % 32 ∧ win0_8.index t (2 : Fin 5) = 0 ∧ win0_8.index t (3 : Fin 5) = 0 ∧ win0_8.index t (4 : Fin 5) = 0 :=
  (by decide +kernel : ∀ t : Fin grid0.N, _)
theorem index9 : ∀ t : Fin cfg0.N, win0_9.index t (0 : Fin 5) = t.val / 32 ∧ win0_9.index t (1 : Fin 5) = t.val % 32 ∧ win0_9.index t (2 : Fin 5) = 0 ∧ win0_9.index t (3 : Fin 5) = 0 ∧ win0_9.index t (4 : Fin 5) = 0 :=
  (by decide +kernel : ∀ t : Fin grid0.N, _)
theorem index10 : ∀ t : Fin cfg0.N, win0_10.index t (0 : Fin 3) = 0 ∧ win0_10.index t (1 : Fin 3) = 0 ∧ win0_10.index t (2 : Fin 3) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)
theorem index13 : ∀ t : Fin cfg0.N, win0_13.index t (0 : Fin 2) = 0 ∧ win0_13.index t (1 : Fin 2) = 0 :=
  (by decide +kernel : ∀ t : Fin grid0.N, _)
theorem index14 : ∀ t : Fin cfg0.N, win0_14.index t (0 : Fin 3) = t.val / 32 ∧ win0_14.index t (1 : Fin 3) = t.val % 32 ∧ win0_14.index t (2 : Fin 3) = 0 :=
  (by decide +kernel : ∀ t : Fin grid0.N, _)
theorem index15 : ∀ t : Fin cfg0.N, win0_15.index t (0 : Fin 3) = t.val / 32 ∧ win0_15.index t (1 : Fin 3) = 0 ∧ win0_15.index t (2 : Fin 3) = 0 :=
  (by decide +kernel : ∀ t : Fin grid0.N, _)
theorem index16 : ∀ t : Fin cfg0.N, win0_16.index t (0 : Fin 2) = 0 ∧ win0_16.index t (1 : Fin 2) = 0 :=
  (by decide +kernel : ∀ t : Fin grid0.N, _)
theorem index17 : ∀ t : Fin cfg0.N, win0_17.index t (0 : Fin 2) = 0 ∧ win0_17.index t (1 : Fin 2) = 0 :=
  (by decide +kernel : ∀ t : Fin grid0.N, _)
theorem index18 : ∀ t : Fin cfg0.N, win0_18.index t (0 : Fin 3) = t.val / 32 ∧ win0_18.index t (1 : Fin 3) = t.val % 32 ∧ win0_18.index t (2 : Fin 3) = 0 :=
  (by decide +kernel : ∀ t : Fin grid0.N, _)

/-- The batch element of a grid point, -/
abbrev bat (t : Fin cfg0.N) : Fin 8 := ⟨t.val / 32, by have h : t.val < 256 := t.isLt; omega⟩
/-- and its chunk. -/
abbrev chk (t : Fin cfg0.N) : Fin 32 := ⟨t.val % 32, by omega⟩

/-- The input block's rows of `x`, -/
theorem iblk0 (c : Dev nD) (t : Fin cfg0.N) (i : Fin 128) (l : Fin 2048) :
    iblk m c 0 t (ix3 0 i l) = m ((c : Thread nD τ).loc main_arg0) (ix3 (bat t) (tok (chk t) i) ⟨l.val, by omega⟩) := by
  rw [← V_main_arg0 m c]
  show V m c main_arg0 (((cfg0.win 0).blk t).view.emb (ix3 0 i l)) = _
  refine congrArg _ (funext fun a => Fin.ext ?_)
  obtain ⟨h0, h1, h2⟩ := index0 t
  match a with
  | ⟨0, _⟩ => show win0_0.index t (0 : Fin 3) * 1 + 1 * 0 = t.val / 32; omega
  | ⟨1, _⟩ => show win0_0.index t (1 : Fin 3) * 128 + 1 * i.val = t.val % 32 * 128 + i.val; omega
  | ⟨2, _⟩ => show win0_0.index t (2 : Fin 3) * 2048 + 1 * l.val = l.val; omega

/-- of `b`, -/
theorem iblk1 (c : Dev nD) (t : Fin cfg0.N) (i : Fin 128) (n : Fin 1024) :
    iblk m c 1 t (ix3 0 i n) = m ((c : Thread nD τ).loc main_arg0) (ix3 (bat t) (tok (chk t) i) ⟨2048 + n.val, by omega⟩) := by
  rw [← V_main_arg0 m c]
  show V m c main_arg0 (((cfg0.win 1).blk t).view.emb (ix3 0 i n)) = _
  refine congrArg _ (funext fun a => Fin.ext ?_)
  obtain ⟨h0, h1, h2⟩ := index1 t
  match a with
  | ⟨0, _⟩ => show win0_1.index t (0 : Fin 3) * 1 + 1 * 0 = t.val / 32; omega
  | ⟨1, _⟩ => show win0_1.index t (1 : Fin 3) * 128 + 1 * i.val = t.val % 32 * 128 + i.val; omega
  | ⟨2, _⟩ => show win0_1.index t (2 : Fin 3) * 1024 + 1 * n.val = 2048 + n.val; omega

/-- and of `c`. -/
theorem iblk2 (c : Dev nD) (t : Fin cfg0.N) (i : Fin 128) (n : Fin 1024) :
    iblk m c 2 t (ix3 0 i n) = m ((c : Thread nD τ).loc main_arg0) (ix3 (bat t) (tok (chk t) i) ⟨3072 + n.val, by omega⟩) := by
  rw [← V_main_arg0 m c]
  show V m c main_arg0 (((cfg0.win 2).blk t).view.emb (ix3 0 i n)) = _
  refine congrArg _ (funext fun a => Fin.ext ?_)
  obtain ⟨h0, h1, h2⟩ := index2 t
  match a with
  | ⟨0, _⟩ => show win0_2.index t (0 : Fin 3) * 1 + 1 * 0 = t.val / 32; omega
  | ⟨1, _⟩ => show win0_2.index t (1 : Fin 3) * 128 + 1 * i.val = t.val % 32 * 128 + i.val; omega
  | ⟨2, _⟩ => show win0_2.index t (2 : Fin 3) * 1024 + 1 * n.val = 3072 + n.val; omega

/-- The gate's rows. -/
theorem iblk3 (c : Dev nD) (t : Fin cfg0.N) (i : Fin 128) (l : Fin 2048) :
    iblk m c 3 t (ix3 0 i l) = m ((c : Thread nD τ).loc main_arg1) (ix3 (bat t) (tok (chk t) i) l) := by
  rw [← V_main_arg1 m c]
  show V m c main_arg1 (((cfg0.win 3).blk t).view.emb (ix3 0 i l)) = _
  refine congrArg _ (funext fun a => Fin.ext ?_)
  obtain ⟨h0, h1, h2⟩ := index3 t
  match a with
  | ⟨0, _⟩ => show win0_3.index t (0 : Fin 3) * 1 + 1 * 0 = t.val / 32; omega
  | ⟨1, _⟩ => show win0_3.index t (1 : Fin 3) * 128 + 1 * i.val = t.val % 32 * 128 + i.val; omega
  | ⟨2, _⟩ => show win0_3.index t (2 : Fin 3) * 2048 + 1 * l.val = l.val; omega

/-- The forward decays' columns, -/
theorem iblk4 (c : Dev nD) (t : Fin cfg0.N) (i : Fin 128) (h : Fin 128) :
    iblk m c 4 t (ix3 0 i h) = m ((c : Thread nD τ).loc main_arg2) (ix3 (bat t) (tok (chk t) i) h) := by
  rw [← V_main_arg2 m c]
  show V m c main_arg2 (((cfg0.win 4).blk t).view.emb (ix3 0 i h)) = _
  refine congrArg _ (funext fun a => Fin.ext ?_)
  obtain ⟨h0, h1, h2⟩ := index4 t
  match a with
  | ⟨0, _⟩ => show win0_4.index t (0 : Fin 3) * 1 + 1 * 0 = t.val / 32; omega
  | ⟨1, _⟩ => show win0_4.index t (1 : Fin 3) * 128 + 1 * i.val = t.val % 32 * 128 + i.val; omega
  | ⟨2, _⟩ => show win0_4.index t (2 : Fin 3) * 128 + 1 * h.val = h.val; omega

/-- the backward ones', -/
theorem iblk5 (c : Dev nD) (t : Fin cfg0.N) (i : Fin 128) (h : Fin 128) :
    iblk m c 5 t (ix3 0 i h) = m ((c : Thread nD τ).loc main_arg3) (ix3 (bat t) (tok (chk t) i) h) := by
  rw [← V_main_arg3 m c]
  show V m c main_arg3 (((cfg0.win 5).blk t).view.emb (ix3 0 i h)) = _
  refine congrArg _ (funext fun a => Fin.ext ?_)
  obtain ⟨h0, h1, h2⟩ := index5 t
  match a with
  | ⟨0, _⟩ => show win0_5.index t (0 : Fin 3) * 1 + 1 * 0 = t.val / 32; omega
  | ⟨1, _⟩ => show win0_5.index t (1 : Fin 3) * 128 + 1 * i.val = t.val % 32 * 128 + i.val; omega
  | ⟨2, _⟩ => show win0_5.index t (2 : Fin 3) * 128 + 1 * h.val = h.val; omega

/-- the forward decays' rows, -/
theorem iblk6 (c : Dev nD) (t : Fin cfg0.N) (h : Fin 128) (j : Fin 128) :
    iblk m c 6 t (ix4 0 0 h j) = m ((c : Thread nD τ).loc main_arg4) (ix4 (bat t) (chk t) h j) := by
  rw [← V_main_arg4 m c]
  show V m c main_arg4 (((cfg0.win 6).blk t).view.emb (ix4 0 0 h j)) = _
  refine congrArg _ (funext fun a => Fin.ext ?_)
  obtain ⟨h0, h1, h2, h3⟩ := index6 t
  match a with
  | ⟨0, _⟩ => show win0_6.index t (0 : Fin 4) * 1 + 1 * 0 = t.val / 32; omega
  | ⟨1, _⟩ => show win0_6.index t (1 : Fin 4) * 1 + 1 * 0 = t.val % 32; omega
  | ⟨2, _⟩ => show win0_6.index t (2 : Fin 4) * 128 + 1 * h.val = h.val; omega
  | ⟨3, _⟩ => show win0_6.index t (3 : Fin 4) * 128 + 1 * j.val = j.val; omega

/-- and the backward ones'. -/
theorem iblk7 (c : Dev nD) (t : Fin cfg0.N) (h : Fin 128) (j : Fin 128) :
    iblk m c 7 t (ix4 0 0 h j) = m ((c : Thread nD τ).loc main_arg5) (ix4 (bat t) (chk t) h j) := by
  rw [← V_main_arg5 m c]
  show V m c main_arg5 (((cfg0.win 7).blk t).view.emb (ix4 0 0 h j)) = _
  refine congrArg _ (funext fun a => Fin.ext ?_)
  obtain ⟨h0, h1, h2, h3⟩ := index7 t
  match a with
  | ⟨0, _⟩ => show win0_7.index t (0 : Fin 4) * 1 + 1 * 0 = t.val / 32; omega
  | ⟨1, _⟩ => show win0_7.index t (1 : Fin 4) * 1 + 1 * 0 = t.val % 32; omega
  | ⟨2, _⟩ => show win0_7.index t (2 : Fin 4) * 128 + 1 * h.val = h.val; omega
  | ⟨3, _⟩ => show win0_7.index t (3 : Fin 4) * 128 + 1 * j.val = j.val; omega

/-- The forward states, -/
theorem iblk8 (c : Dev nD) (t : Fin cfg0.N) (g : Fin 8) (n : Fin 128) (q : Fin 256) :
    iblk m c 8 t (ix5 0 0 g n q) = m ((c : Thread nD τ).loc main_arg6) (ix5 (bat t) (chk t) g n q) := by
  rw [← V_main_arg6 m c]
  show V m c main_arg6 (((cfg0.win 8).blk t).view.emb (ix5 0 0 g n q)) = _
  refine congrArg _ (funext fun a => Fin.ext ?_)
  obtain ⟨h0, h1, h2, h3, h4⟩ := index8 t
  match a with
  | ⟨0, _⟩ => show win0_8.index t (0 : Fin 5) * 1 + 1 * 0 = t.val / 32; omega
  | ⟨1, _⟩ => show win0_8.index t (1 : Fin 5) * 1 + 1 * 0 = t.val % 32; omega
  | ⟨2, _⟩ => show win0_8.index t (2 : Fin 5) * 8 + 1 * g.val = g.val; omega
  | ⟨3, _⟩ => show win0_8.index t (3 : Fin 5) * 128 + 1 * n.val = n.val; omega
  | ⟨4, _⟩ => show win0_8.index t (4 : Fin 5) * 256 + 1 * q.val = q.val; omega

/-- and the backward ones. -/
theorem iblk9 (c : Dev nD) (t : Fin cfg0.N) (g : Fin 8) (n : Fin 128) (q : Fin 256) :
    iblk m c 9 t (ix5 0 0 g n q) = m ((c : Thread nD τ).loc main_arg7) (ix5 (bat t) (chk t) g n q) := by
  rw [← V_main_arg7 m c]
  show V m c main_arg7 (((cfg0.win 9).blk t).view.emb (ix5 0 0 g n q)) = _
  refine congrArg _ (funext fun a => Fin.ext ?_)
  obtain ⟨h0, h1, h2, h3, h4⟩ := index9 t
  match a with
  | ⟨0, _⟩ => show win0_9.index t (0 : Fin 5) * 1 + 1 * 0 = t.val / 32; omega
  | ⟨1, _⟩ => show win0_9.index t (1 : Fin 5) * 1 + 1 * 0 = t.val % 32; omega
  | ⟨2, _⟩ => show win0_9.index t (2 : Fin 5) * 8 + 1 * g.val = g.val; omega
  | ⟨3, _⟩ => show win0_9.index t (3 : Fin 5) * 128 + 1 * n.val = n.val; omega
  | ⟨4, _⟩ => show win0_9.index t (4 : Fin 5) * 256 + 1 * q.val = q.val; omega

/-- The table of kept pairs, whole. -/
theorem iblk10 (c : Dev nD) (t : Fin cfg0.N) (s : Fin 2) (i : Fin 128) (j : Fin 128) :
    iblk m c 10 t (ix3 s i j) = V m c main_v11 (ix3 s i j) := by
  show V m c main_v11 (((cfg0.win 10).blk t).view.emb (ix3 s i j)) = _
  refine congrArg _ (funext fun a => Fin.ext ?_)
  obtain ⟨h0, h1, h2⟩ := index10 t
  match a with
  | ⟨0, _⟩ => show win0_10.index t (0 : Fin 3) * 2 + 1 * s.val = s.val; omega
  | ⟨1, _⟩ => show win0_10.index t (1 : Fin 3) * 128 + 1 * i.val = i.val; omega
  | ⟨2, _⟩ => show win0_10.index t (2 : Fin 3) * 128 + 1 * j.val = j.val; omega

/-- The skip weights, whole. -/
theorem iblk11 (c : Dev nD) (t : Fin cfg0.N) (l : Fin 2048) :
    iblk m c 11 t (ix2 0 l) = m ((c : Thread nD τ).loc main_arg10) (ix1 ⟨l.val / 64, by omega⟩) := by
  rw [← V_v2 m c]
  show V m c main_v2 (((cfg0.win 11).blk t).view.emb (ix2 0 l)) = _
  refine congrArg _ (funext fun a => Fin.ext ?_)
  obtain ⟨h0, h1⟩ := index11 t
  match a with
  | ⟨0, _⟩ => show win0_11.index t (0 : Fin 2) * 1 + 1 * 0 = 0; omega
  | ⟨1, _⟩ => show win0_11.index t (1 : Fin 2) * 2048 + 1 * l.val = l.val; omega

/-- The root-mean-square gain. -/
theorem iblk12 (c : Dev nD) (t : Fin cfg0.N) (l : Fin 2048) :
    iblk m c 12 t (ix2 0 l) = m ((c : Thread nD τ).loc main_arg11) (ix1 l) := by
  rw [← V_v12 m c]
  show V m c main_v12 (((cfg0.win 12).blk t).view.emb (ix2 0 l)) = _
  refine congrArg _ (funext fun a => Fin.ext ?_)
  obtain ⟨h0, h1⟩ := index12 t
  match a with
  | ⟨0, _⟩ => show win0_12.index t (0 : Fin 2) * 1 + 1 * 0 = 0; omega
  | ⟨1, _⟩ => show win0_12.index t (1 : Fin 2) * 2048 + 1 * l.val = l.val; omega

/-- The projection's weight, whole. -/
theorem iblk13 (c : Dev nD) (t : Fin cfg0.N) (l : Fin 2048) (j : Fin 1024) :
    iblk m c 13 t (ix2 l j) = m ((c : Thread nD τ).loc main_arg12) (ix2 l j) := by
  rw [← V_v3 m c]
  show V m c main_v3 (((cfg0.win 13).blk t).view.emb (ix2 l j)) = _
  refine congrArg _ (funext fun a => Fin.ext ?_)
  obtain ⟨h0, h1⟩ := index13 t
  match a with
  | ⟨0, _⟩ => show win0_13.index t (0 : Fin 2) * 2048 + 1 * l.val = l.val; omega
  | ⟨1, _⟩ => show win0_13.index t (1 : Fin 2) * 1024 + 1 * j.val = j.val; omega

/-- The residual's rows. -/
theorem iblk14 (c : Dev nD) (t : Fin cfg0.N) (i : Fin 128) (j : Fin 1024) :
    iblk m c 14 t (ix3 0 i j) = m ((c : Thread nD τ).loc main_arg8) (ix3 (bat t) (tok (chk t) i) j) := by
  rw [← V_main_arg8 m c]
  show V m c main_arg8 (((cfg0.win 14).blk t).view.emb (ix3 0 i j)) = _
  refine congrArg _ (funext fun a => Fin.ext ?_)
  obtain ⟨h0, h1, h2⟩ := index14 t
  match a with
  | ⟨0, _⟩ => show win0_14.index t (0 : Fin 3) * 1 + 1 * 0 = t.val / 32; omega
  | ⟨1, _⟩ => show win0_14.index t (1 : Fin 3) * 128 + 1 * i.val = t.val % 32 * 128 + i.val; omega
  | ⟨2, _⟩ => show win0_14.index t (2 : Fin 3) * 1024 + 1 * j.val = j.val; omega

/-- The modulation of the batch element. -/
theorem iblk15 (c : Dev nD) (t : Fin cfg0.N) (q : Fin 6) (j : Fin 1024) :
    iblk m c 15 t (ix3 0 q j) = m ((c : Thread nD τ).loc main_arg9) (ix3 (bat t) q j) := by
  rw [← V_main_arg9 m c]
  show V m c main_arg9 (((cfg0.win 15).blk t).view.emb (ix3 0 q j)) = _
  refine congrArg _ (funext fun a => Fin.ext ?_)
  obtain ⟨h0, h1, h2⟩ := index15 t
  match a with
  | ⟨0, _⟩ => show win0_15.index t (0 : Fin 3) * 1 + 1 * 0 = t.val / 32; omega
  | ⟨1, _⟩ => show win0_15.index t (1 : Fin 3) * 6 + 1 * q.val = q.val; omega
  | ⟨2, _⟩ => show win0_15.index t (2 : Fin 3) * 1024 + 1 * j.val = j.val; omega

/-- The layer normalisation's gain, -/
theorem iblk16 (c : Dev nD) (t : Fin cfg0.N) (j : Fin 1024) :
    iblk m c 16 t (ix2 0 j) = m ((c : Thread nD τ).loc main_arg13) (ix1 j) := by
  rw [← V_v13 m c]
  show V m c main_v13 (((cfg0.win 16).blk t).view.emb (ix2 0 j)) = _
  refine congrArg _ (funext fun a => Fin.ext ?_)
  obtain ⟨h0, h1⟩ := index16 t
  match a with
  | ⟨0, _⟩ => show win0_16.index t (0 : Fin 2) * 1 + 1 * 0 = 0; omega
  | ⟨1, _⟩ => show win0_16.index t (1 : Fin 2) * 1024 + 1 * j.val = j.val; omega

/-- and its bias. -/
theorem iblk17 (c : Dev nD) (t : Fin cfg0.N) (j : Fin 1024) :
    iblk m c 17 t (ix2 0 j) = m ((c : Thread nD τ).loc main_arg14) (ix1 j) := by
  rw [← V_v14 m c]
  show V m c main_v14 (((cfg0.win 17).blk t).view.emb (ix2 0 j)) = _
  refine congrArg _ (funext fun a => Fin.ext ?_)
  obtain ⟨h0, h1⟩ := index17 t
  match a with
  | ⟨0, _⟩ => show win0_17.index t (0 : Fin 2) * 1 + 1 * 0 = 0; omega
  | ⟨1, _⟩ => show win0_17.index t (1 : Fin 2) * 1024 + 1 * j.val = j.val; omega

/-- The output block's place in the result array. -/
theorem emb18 (t : Fin cfg0.N) (i : Fin 128) (j : Fin 1024) :
    ((cfg0.win 18).blk t).view.emb (ix3 0 i j) = ((ix3 (bat t) (tok (chk t) i) j) : S8x4096x1024.Idx) := by
  refine funext fun a => Fin.ext ?_
  obtain ⟨h0, h1, h2⟩ := index18 t
  match a with
  | ⟨0, _⟩ => show win0_18.index t (0 : Fin 3) * 1 + 1 * 0 = t.val / 32; omega
  | ⟨1, _⟩ => show win0_18.index t (1 : Fin 3) * 128 + 1 * i.val = t.val % 32 * 128 + i.val; omega
  | ⟨2, _⟩ => show win0_18.index t (2 : Fin 3) * 1024 + 1 * j.val = j.val; omega

/-! ## The result array -/

/-- The result array as one function of the arguments. -/
def G (c : Dev nD) : Vec Ideal S8x4096x1024 .f32 := fun i =>
  ssdArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (i 0)
    ⟨(i 1).val / 128, by have h : (i 1).val < 4096 := (i 1).isLt; omega⟩ ⟨(i 1).val % 128, by omega⟩ (i 2)

/-- The chunk a grid point's blocks bring is the arrays'. -/
theorem chunk_eq (c : Dev nD) (t : Fin cfg0.N) :
    SsdBlock.chunk (iblk m c 0 t) (iblk m c 1 t) (iblk m c 2 t) (iblk m c 4 t) (iblk m c 5 t) (iblk m c 6 t) (iblk m c 7 t)
        (iblk m c 8 t) (iblk m c 9 t)
      = chunkOf (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (bat t) (chk t) := by
  unfold SsdBlock.chunk chunkOf
  simp only [iblk0, iblk1, iblk2, iblk4, iblk5, iblk6, iblk7, iblk8, iblk9]

/-- The function at row `i` of a grid point's chunk. -/
theorem G_apply (c : Dev nD) (t : Fin cfg0.N) (i : Fin 128) (j : Fin 1024) :
    G m c (ix3 (bat t) (tok (chk t) i) j)
      = ssdArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (bat t) (chk t) i j := by
  have hc : (⟨(t.val % 32 * 128 + i.val) / 128, by omega⟩ : Fin 32) = chk t := Fin.ext (by dsimp only; omega)
  have hi : (⟨(t.val % 32 * 128 + i.val) % 128, by omega⟩ : Fin 128) = i := Fin.ext (by dsimp only; omega)
  exact congrArg₂ (fun c' i' => ssdArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (bat t) c' i' j) hc hi

/-- What a grid point writes back is its block of that function. -/
theorem flushed_eq (c : Dev nD) (t : Fin cfg0.N) :
    (dats m 0 c).flushed 18 t = ((cfg0.win 18).blk t).view.read (Elt Ideal) (G m c) := by
  rw [flushed18_A]
  funext y
  obtain ⟨i, j, rfl⟩ : ∃ (i : Fin 128) (j : Fin 1024), y = (ix3 0 i j : S1x128x1024.Idx) :=
    ⟨y 1, y 2, funext fun a => match a with
      | ⟨0, _⟩ => Fin.ext (by have h : (y 0).val < 1 := (y 0).isLt; show (y 0).val = 0; omega) | ⟨1, _⟩ => rfl | ⟨2, _⟩ => rfl⟩
  show out0_A_18 _ _ _ _ _ _ _ _ _ _ _ _ _ _ _ _ _ _ _ _ _ _ _ _ _ _ _ _ _ _ _ _ _ _ _ _ _ _ _ _ _ _ _ _ _ _ _ _ _ _ _ _ _ _
      _ _ _ _ _ _ (ix3 0 i j) = G m c (((cfg0.win 18).blk t).view.emb (ix3 0 i j))
  rw [emb18, G_apply]
  refine (SsdBlock.out_apply _ _ _ _ _ _ _ _ _ _ _ _ _ _ _ _ _ _ _ _ _ _ _ _ _ _ _ _ _ _ _ _ _ _ _ _ _ _ _ _ _ _ _ _ _ _ _ _ _ _
    _ _ _ _ _ _ _ _ _ _ (fun i j => (iblk10 m c t 0 i j).trans (kept_low m c i j))
    (fun i j => (iblk10 m c t 1 i j).trans (kept_high m c i j)) i j).trans ?_
  rw [chunk_eq]
  simp only [iblk0, iblk3, iblk11, iblk12, iblk13, iblk14, iblk15, iblk16, iblk17]
  rfl

/-- Every index of the result array lies in some grid point's block. -/
theorem cover (x : S8x4096x1024.Idx) :
    ∃ t : Fin cfg0.N, (cfg0.win 18).flush t = true ∧ x ∈ ((cfg0.win 18).blk t).view.set := by
  have hx0 : (x 0).val < 8 := (x 0).isLt
  have hx1 : (x 1).val < 4096 := (x 1).isLt
  let t : Fin cfg0.N := ⟨(x 0).val * 32 + (x 1).val / 128, by show _ < 256; omega⟩
  have e : ((cfg0.win 18).blk t).view.emb (ix3 0 (⟨(x 1).val % 128, by omega⟩ : Fin 128) (x 2 : Fin 1024)) = x := by
    refine (emb18 t _ _).trans (funext fun a => Fin.ext ?_)
    match a with
    | ⟨0, _⟩ => show ((x 0).val * 32 + (x 1).val / 128) / 32 = (x 0).val; omega
    | ⟨1, _⟩ => show ((x 0).val * 32 + (x 1).val / 128) % 32 * 128 + (x 1).val % 128 = (x 1).val; omega
    | ⟨2, _⟩ => rfl
  exact ⟨t, flush0_18 _, e ▸ ((cfg0.win 18).blk t).view.emb_mem_set _⟩

/-- The result array after the run. -/
theorem final (c : Dev nD) : (dats m 0 c).arrAt 18 cfg0.N = G m c :=
  (dats m 0 c).arrAt_eq_of_cover 18 (G m c) (fun t _ => flushed_eq m c t) cover

/-- The kernel's run: it ends with the result array at that function of the arguments, and the arguments unchanged. -/
theorem run : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (run_blocks m ρ)

end Cert.Proof.SsdArray

end
-- ==== Proof.SsdRef.lean ====
/- What the state-space reference computes: every row the state-space sub-layer of its chunk's inputs. -/
module

public import Idealize.ShloMosaic.Lib.WordCmp
public import proofs.«01_k».proof.Proof.SsdSpec
public import proofs.«01_k».proof.Proof.Gen.SsdRefIdeal.Run

@[expose] public section

set_option maxRecDepth 16384

noncomputable section

namespace Cert.Proof.SsdRef

open Idealize.ShloMosaic Idealize.ShloMosaic.TcCoe Idealize.ShloMosaic.StableHlo Idealize.SL.Sem
open Cert.SsdRefIdeal Cert.SsdRefIdeal.Gen Cert.SsdRefIdeal.Value Cert.Spec

variable (V : Valuation τ sig (Elt Ideal))

/-- The chunk the reference's arguments hold. -/
abbrev chunk (b : Fin 8) (c : Fin 32) : Chunk :=
  chunkOf (V (Proc.devRef .tc main_arg0)) (V (Proc.devRef .tc main_arg2)) (V (Proc.devRef .tc main_arg3))
    (V (Proc.devRef .tc main_arg4)) (V (Proc.devRef .tc main_arg5)) (V (Proc.devRef .tc main_arg6))
    (V (Proc.devRef .tc main_arg7)) b c

/-- Lane `p` of head `r` of group `g`. -/
abbrev laneIx (g : Fin 8) (r : Fin 4) (p : Fin 64) : Fin 2048 := ⟨g.val * 256 + r.val * 64 + p.val, by omega⟩

/-- The word the mask puts where it drops is minus infinity. -/
theorem dropped : (id (constant (F := Ideal) S_ .f32 0xFF800000#32) ix0 : EReal) = ⊥ := by
  show Ideal.ofBits .f32 0xFF800000#32 = ⊥
  simp [Ideal.ofBits, Ideal.ieee]

/-- The scores. -/
theorem scores (b : Fin 8) (c : Fin 32) (g : Fin 8) (i j : Fin 128) :
    res_main_v9 V (ix5 b c g i j) = score (chunk V b c) g i j := by
  pointwise [res_main_v9, res_main_v6, res_main_v0]
  rfl

/-- Both directions' sums, by group, head of the group, row and lane of the head. -/
theorem directions (b : Fin 8) (c : Fin 32) (g : Fin 8) (r : Fin 4) (i : Fin 128) (p : Fin 64) :
    res_main_v66 V (ix6 b c g r i p)
      = lane (chunk V b c) g ⟨g.val * 4 + r.val, by omega⟩ (laneIx g r p) ⟨r.val * 64 + p.val, by omega⟩ i := by
  pointwise [res_main_v66, res_main_v2, res_main_v6, res_main_v0, res_main_v7, res_main_v8]
  simp only [dropped, scores]
  have hle : ∀ x : Fin 128, IntOp.cmpi .sle (BitVec.ofNat 32 x.val) (BitVec.ofNat 32 i.val) = BitVec.ofBool (decide (x.val ≤ i.val)) :=
    fun x => WordCmp.cmpi_sle_ofNat (by omega) (by omega)
  have hge : ∀ x : Fin 128, IntOp.cmpi .sge (BitVec.ofNat 32 x.val) (BitVec.ofNat 32 i.val) = BitVec.ofBool (decide (i.val ≤ x.val)) :=
    fun x => WordCmp.cmpi_sge_ofNat (by omega) (by omega)
  simp only [hle, hge, WordCmp.select_decide]
  rfl

/-- A lane of the whole row by its group, head and lane. -/
theorem mixed_laneIx (k : Chunk) (i : Fin 128) (g : Fin 8) (r : Fin 4) (p : Fin 64) :
    mixed k i (laneIx g r p)
      = lane k g ⟨g.val * 4 + r.val, by omega⟩ (laneIx g r p) ⟨r.val * 64 + p.val, by omega⟩ i := by
  have e1 : (⟨(laneIx g r p).val / 256, by omega⟩ : Fin 8) = g := Fin.ext (by dsimp only; omega)
  have e2 : (⟨(laneIx g r p).val / 64, by omega⟩ : Fin 32) = ⟨g.val * 4 + r.val, by omega⟩ := Fin.ext (by dsimp only; omega)
  have e3 : (⟨(laneIx g r p).val % 256, by omega⟩ : Fin 256) = ⟨r.val * 64 + p.val, by omega⟩ := Fin.ext (by dsimp only; omega)
  unfold mixed
  rw [e1, e2, e3]

/-- The gated row at a lane given by its group, head and place. -/
theorem gate_at (b : Fin 8) (c : Fin 32) (i : Fin 128) (g : Fin 8) (r : Fin 4) (p : Fin 64) :
    res_main_v76 V (ix3 b ⟨c.val * 128 + i.val, by omega⟩ ⟨g.val * 256 + r.val * 64 + p.val, by omega⟩)
      = gated (fun _ => res_main_v66 V (ix6 b c g r i p)) (fun l => V (Proc.devRef .tc main_arg0) (ix3 b (tok c i) ⟨l.val, by omega⟩))
          (fun _ => V (Proc.devRef .tc main_arg10) (ix1 ⟨g.val * 4 + r.val, by omega⟩))
          (fun l => V (Proc.devRef .tc main_arg1) (ix3 b (tok c i) l)) (laneIx g r p) := by
  pointwise [res_main_v76, res_main_v74, res_main_v2, res_main_v0]
  rfl

/-- The gated row. -/
theorem gate (b : Fin 8) (c : Fin 32) (i : Fin 128) (l : Fin 2048) :
    res_main_v76 V (ix3 b (tok c i) l)
      = gated (mixed (chunk V b c) i) (fun l => V (Proc.devRef .tc main_arg0) (ix3 b (tok c i) ⟨l.val, by omega⟩))
          (fun l => V (Proc.devRef .tc main_arg10) (ix1 ⟨l.val / 64, by omega⟩))
          (fun l => V (Proc.devRef .tc main_arg1) (ix3 b (tok c i) l)) l := by
  obtain ⟨g, r, p, rfl⟩ : ∃ g r p, l = laneIx g r p :=
    ⟨⟨l.val / 256, by omega⟩, ⟨l.val / 64 % 4, by omega⟩, ⟨l.val % 64, by omega⟩, Fin.ext (by show _ = _ * 256 + _ * 64 + _; dsimp only; omega)⟩
  have e2 : (⟨(laneIx g r p).val / 64, by omega⟩ : Fin 32) = ⟨g.val * 4 + r.val, by omega⟩ := Fin.ext (by dsimp only; omega)
  refine (gate_at V b c i g r p).trans ?_
  rw [directions, ← mixed_laneIx]
  unfold gated
  exact congrArg (fun v => (mixed (chunk V b c) i (laneIx g r p) + _ * v) * _)
    (congrArg (fun h => V (Proc.devRef .tc main_arg10) (ix1 h)) e2.symm)

/-- The residual after the root-mean-square normalisation and the projection. -/
theorem residual (b : Fin 8) (s : Fin 4096) (j : Fin 1024) :
    res_main_v96 V (ix3 b s j)
      = resRow (fun j => V (Proc.devRef .tc main_arg8) (ix3 b s j)) (fun j => V (Proc.devRef .tc main_arg9) (ix3 b 2 j))
          (project (rmsRow (fun l => res_main_v76 V (ix3 b s l)) (fun l => V (Proc.devRef .tc main_arg11) (ix1 l)))
            (fun l j => V (Proc.devRef .tc main_arg12) (ix2 l j))) j := by
  pointwise [res_main_v96]
  rfl

/-- The residual less its mean. -/
theorem centered (b : Fin 8) (s : Fin 4096) (j : Fin 1024) :
    res_main_v102 V (ix3 b s j) = center (fun j => res_main_v96 V (ix3 b s j)) j := by
  pointwise [res_main_v102, res_main_v100]
  rfl

/-- The reference's array, as its run states it. -/
def out : (⟨S8x4096x1024, .f32⟩ : BufTy).Contents (Elt Ideal) :=
  addf (mulf (mulf (subf (res_main_v96 V) (broadcastInDim S8x4096x1024 ![0, 1, 2] bcast_S8x4096x1_S8x4096x1024_0_1_2 (res_main_v100 V))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v102 V) (res_main_v102 V)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (V (Proc.devRef .tc main_arg13))))) (broadcastInDim S8x4096x1024 ![0, 1, 2] bcast_S1x1x1024_S8x4096x1024_0_1_2 (broadcastInDim S1x1x1024 ![2] bcast_S1024_S1x1x1024_2 (V (Proc.devRef .tc main_arg14))))

/-- The reference's array normalises the residual's rows. -/
theorem normed (b : Fin 8) (s : Fin 4096) (j : Fin 1024) :
    out V (ix3 b s j) = lnRow (fun j => res_main_v96 V (ix3 b s j)) (fun j => V (Proc.devRef .tc main_arg13) (ix1 j))
      (fun j => V (Proc.devRef .tc main_arg14) (ix1 j)) j := by
  pointwise [out, res_main_v100]
  simp only [centered]
  rfl

/-- The reference's array, row by row of every chunk. -/
theorem result (b : Fin 8) (c : Fin 32) (i : Fin 128) (j : Fin 1024) :
    out V (ix3 b (tok c i) j)
      = ssdArr (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14)) b c i j := by
  rw [normed]
  unfold ssdArr ssdRow
  congr 1
  funext j'
  rw [residual]
  congr 3
  funext l
  exact gate V b c i l

end Cert.Proof.SsdRef

end
-- ==== Proof.SsdEq.lean ====
/- The state-space kernel and its reference compute the same array. -/
module

public import proofs.«01_k».proof.Defs
public import proofs.«01_k».proof.Proof.SsdArray
public import proofs.«01_k».proof.Proof.SsdRef

@[expose] public section

set_option maxRecDepth 16384

noncomputable section

namespace Cert.Proof.SsdEq

open Idealize.ShloMosaic Idealize.ShloMosaic.StableHlo Idealize.SL.Sem Cert.Spec

/-- From equal arguments the kernel's array and the reference's are the same function of them. -/
theorem algebraic : algebraic_SsdIdeal_SsdRefIdeal (hSsdIdeal := Cert.SsdIdeal.Gen.facts) (hSsdRefIdeal := Cert.SsdRefIdeal.Gen.facts) := by
  intro m g m' g' _ h
  refine ⟨SsdArray.G m, SsdArray.run m g, (θ_run _ _ _).mono (fun r hr c => ⟨(hr c).1.trans ?_, (hr c).2⟩)
    (Cert.SsdRefIdeal.Value.run m' g')⟩
  funext x
  obtain ⟨b, s, j, rfl⟩ : ∃ (b : Fin 8) (s : Fin 4096) (j : Fin 1024), x = (ix3 b s j : Cert.SsdIdeal.S8x4096x1024.Idx) :=
    ⟨x 0, x 1, x 2, funext fun a => match a with | ⟨0, _⟩ => rfl | ⟨1, _⟩ => rfl | ⟨2, _⟩ => rfl⟩
  have hs : s = tok ⟨s.val / 128, by omega⟩ ⟨s.val % 128, by omega⟩ := Fin.ext (by dsimp only; omega)
  obtain ⟨h0, h1, h2, h3, h4, h5, h6, h7, h8, h9, h10, h11, h12, h13, h14⟩ := h c
  refine (congrArg (fun s => SsdRef.out (launchContents m' c) (ix3 b s j)) hs).trans
    ((SsdRef.result _ b ⟨s.val / 128, by omega⟩ ⟨s.val % 128, by omega⟩ j).trans ?_)
  repeat rw [launchContents_devRef]
  rw [h0, h1, h2, h3, h4, h5, h6, h7, h8, h9, h10, h11, h12, h13, h14]
  rfl

end Cert.Proof.SsdEq

end
-- ==== Proof.FiniteSpec.lean ====
/- A row of reals stays a row of reals through the feed-forward sub-layer; and a product with a permutation of such rows. -/
module

public import proofs.«01_k».proof.Proof.Spec

@[expose] public section

noncomputable section

namespace Cert.Spec

open Idealize.ShloMosaic

/-- The value is a real number, neither of the infinities. -/
def Finite (x : EReal) : Prop := ∃ r : ℝ, x = (r : EReal)

namespace Finite

theorem coe (r : ℝ) : Finite (r : EReal) := ⟨r, rfl⟩
theorem zero : Finite 0 := ⟨0, rfl⟩
theorem one : Finite 1 := ⟨1, rfl⟩
theorem add {x y : EReal} : Finite x → Finite y → Finite (x + y)
  | ⟨a, ha⟩, ⟨b, hb⟩ => ⟨a + b, by rw [ha, hb, EReal.coe_add]⟩
theorem sub {x y : EReal} : Finite x → Finite y → Finite (x - y)
  | ⟨a, ha⟩, ⟨b, hb⟩ => ⟨a - b, by rw [ha, hb, EReal.coe_sub]⟩
theorem mul {x y : EReal} : Finite x → Finite y → Finite (x * y)
  | ⟨a, ha⟩, ⟨b, hb⟩ => ⟨a * b, by rw [ha, hb, EReal.coe_mul]⟩
theorem max {x y : EReal} (hx : Finite x) (hy : Finite y) : Finite (max x y) := by
  rcases max_choice x y with h | h
  · rw [h]; exact hx
  · rw [h]; exact hy
theorem sum {n : ℕ} {f : Fin n → EReal} (h : ∀ k, Finite (f k)) : Finite (∑ k, f k) :=
  Finset.sum_induction f Finite (fun _ _ => add) zero fun k _ => h k
/-- A value of absolute value below infinity is a real. -/
theorem of_abs {x : EReal} (h : Max.max x (-x) < ⊤) : Finite x := by
  induction x with
  | bot => simp at h
  | top => simp at h
  | coe r => exact coe r
/-- A real less itself is nothing. -/
theorem sub_self {x : EReal} : Finite x → x - x = 0
  | ⟨a, ha⟩ => by rw [ha, ← EReal.coe_sub, _root_.sub_self, EReal.coe_zero]

end Finite

theorem width_eq : width = ((1024 : ℝ) : EReal) := by
  simp [width, Ideal.ofBits, Ideal.ieee, -EReal.coe_mul]
  norm_num
theorem alpha_finite : Finite alpha := by
  simp only [alpha, Ideal.ofBits, Ideal.ieee]
  exact ⟨_, rfl⟩
/-- What is added to the variance is a positive real. -/
theorem lnEps_pos : ∃ e : ℝ, 0 < e ∧ lnEps = (e : EReal) := by
  refine ⟨10995116 * (2 ^ 40)⁻¹, by positivity, ?_⟩
  simp [lnEps, Ideal.ofBits, Ideal.ieee, -EReal.coe_mul]

/-- The mean's division keeps a real a real. -/
theorem Finite.div_width {x : EReal} (h : Finite x) : Finite (Ideal.div x width) := by
  rw [width_eq, Ideal.div_coe (by norm_num)]
  exact h.mul (Finite.coe _)

theorem Finite.center {v : Fin 1024 → EReal} (h : ∀ k, Finite (v k)) (j : Fin 1024) : Finite (center v j) :=
  (h j).sub (Finite.sum h).div_width

/-- A square of a real is not negative. -/
theorem Finite.sq_nonneg {x : EReal} : Finite x → 0 ≤ x * x
  | ⟨a, ha⟩ => by rw [ha, ← EReal.coe_mul]; exact_mod_cast mul_self_nonneg a

/-- The reciprocal root of a row's variance is a real, the variance being at least zero and the constant above it. -/
theorem Finite.rsqrt_var {v : Fin 1024 → EReal} (h : ∀ k, Finite (v k)) :
    Finite (Ideal.rsqrt (Ideal.div (∑ k, v k * v k) width + lnEps)) := by
  obtain ⟨e, he, hl⟩ := lnEps_pos
  have h0 : 0 ≤ ∑ k, v k * v k := Finset.sum_nonneg fun k _ => (h k).sq_nonneg
  obtain ⟨s, hs⟩ := Finite.sum fun k => (h k).mul (h k)
  rw [hs] at h0 ⊢
  have hs0 : 0 ≤ s := by exact_mod_cast h0
  rw [width_eq, Ideal.div_coe (by norm_num), hl, ← EReal.coe_mul, ← EReal.coe_add, Ideal.rsqrt_coe]
  have hp : 0 < s * (1 / 1024) + e := by positivity
  rw [if_neg (not_lt.2 hp.le), if_neg hp.ne']
  exact Finite.coe _

theorem Finite.lnRow {v g b : Fin 1024 → EReal} (hv : ∀ k, Finite (v k)) (hg : ∀ k, Finite (g k)) (hb : ∀ k, Finite (b k))
    (j : Fin 1024) : Finite (lnRow v g b j) :=
  (((Finite.center hv j).mul (Finite.rsqrt_var (Finite.center hv))).mul (hg j)).add (hb j)

/-- The feed-forward sub-layer of a row of reals, of real modulation and weights. -/
theorem Finite.ffnRow {x shift scale gate g b : Fin 1024 → EReal} {w1 : Fin 1024 → Fin 4096 → EReal} {w2 : Fin 4096 → Fin 1024 → EReal}
    (hx : ∀ k, Finite (x k)) (hsh : ∀ k, Finite (shift k)) (hsc : ∀ k, Finite (scale k)) (hga : ∀ k, Finite (gate k))
    (h1 : ∀ k f, Finite (w1 k f)) (h2 : ∀ f j, Finite (w2 f j)) (hg : ∀ k, Finite (g k)) (hb : ∀ k, Finite (b k)) (j : Fin 1024) :
    Finite (ffnRow x shift scale gate w1 w2 g b j) := by
  have hm : ∀ k, Finite (modRow x shift scale k) := fun k => ((hx k).mul (Finite.one.add (hsc k))).add (hsh k)
  have hu : ∀ f, Finite (Max.max (∑ k, modRow x shift scale k * w1 k f) 0) := fun f =>
    (Finite.sum fun k => (hm k).mul (h1 k f)).max Finite.zero
  exact Finite.lnRow (fun k => (alpha_finite.mul (hx k)).add ((hga k).mul (Finite.sum fun f => ((hu f).mul (hu f)).mul (h2 f k)))) hg hb j

/-- A product with one row of a permutation matrix, `σ` the column of the row's one, of reals split in a part and what is left
    of them: the real in that column. -/
theorem perm_sum {n : ℕ} {p y : Fin n → EReal} (s : Fin n) (hp : ∀ c, p c = if c = s then 1 else 0) (hy : ∀ c, Finite (y c)) :
    (∑ c, p c * y c) + (∑ c, p c * (y c - y c)) + (∑ c, p c * (y c - y c - (y c - y c))) = y s := by
  have h : ∀ c, y c - y c = 0 := fun c => (hy c).sub_self
  simp only [h, hp, ite_mul, one_mul, zero_mul, mul_zero, _root_.sub_self, Finset.sum_const_zero, add_zero,
    Finset.sum_ite_eq', Finset.mem_univ, if_true, sub_zero, ite_self]

/-! ## The snake order -/

/-- The place a row is read from: of every 128 rows, two lines of the picture, the first line is kept and the second runs
    backwards. -/
def snakeAt (n : Nat) : Nat := 128 * (n / 128) + if n % 128 < 64 then n % 128 else 191 - n % 128

theorem snakeAt_lt {n : Nat} (q : Nat) (h : n < 128 * q) : snakeAt n < 128 * q := by
  unfold snakeAt
  split <;> omega

theorem snakeAt_add (s : Nat) {n : Nat} (h : n < 128) : snakeAt (128 * s + n) = 128 * s + snakeAt n := by
  unfold snakeAt
  rw [show (128 * s + n) % 128 = n by omega, show (128 * s + n) / 128 = s by omega, show n % 128 = n by omega, show n / 128 = 0 by omega]
  omega

end Cert.Spec

end
-- ==== Proof.LastBlock.lean ====
/- What one grid point of the last feed-forward kernel leaves in its block: the feed-forward sub-layer of the block's rows, and
   each strip of 128 of them multiplied by the permutation that the kernel is handed. -/
module

public import proofs.«01_k».proof.Proof.FiniteSpec
public import proofs.«01_k».proof.Proof.FfnBlock
public import proofs.«01_k».proof.Proof.Gen.LastIdeal.Frame

@[expose] public section

set_option maxRecDepth 16384

noncomputable section

namespace Cert.Proof.LastBlock

open Idealize.ShloMosaic Idealize.SL.Sem Cert.LastIdeal Cert.LastIdeal.Gen Cert.Spec

/-- The modulated rows of the block. -/
theorem modulated (v0 : Vec Ideal S1x6x1024 .f32) (v2 : Vec Ideal S512x1024 .f32) (i : Fin 512) (k : Fin 1024) :
    k0_pay3 v0 v2 (ix2 i k) = modRow (fun k => v2 (ix2 i k)) (fun k => v0 (ix3 0 3 k)) (fun k => v0 (ix3 0 4 k)) k := by
  exact FfnBlock.modulated v0 v2 i k

/-- The first two quarters of the hidden units, summed. -/
theorem half (v0 : Vec Ideal S1x6x1024 .f32) (v2 : Vec Ideal S512x1024 .f32) (a b c d : Vec Ideal S1024x1024 .bf16)
    (i : Fin 512) (j : Fin 1024) :
    k0_pay4 v0 v2 a b c d (ix2 i j)
      = (∑ f : Fin 1024, hidden (fun k => k0_pay3 v0 v2 (ix2 i k)) (fun k => a (ix2 k f)) * b (ix2 f j))
        + ∑ f : Fin 1024, hidden (fun k => k0_pay3 v0 v2 (ix2 i k)) (fun k => c (ix2 k f)) * d (ix2 f j) := by
  exact FfnBlock.half v0 v2 a b c d i j

/-- The residual row, less its mean: the last two quarters of the hidden units are added to what came before. -/
theorem centered (v1 : FVec Ideal S6x1024 .f32) (v2 : Vec Ideal S512x1024 .f32) (h : FVec Ideal S512x1024 .bf16)
    (y : FVec Ideal S512x1024 .f32) (a b c d : Vec Ideal S1024x1024 .bf16) (i : Fin 512) (j : Fin 1024) :
    k0_pay7 v1 v2 h y a b c d (ix2 i j)
      = center (resRow (fun k => v2 (ix2 i k)) (fun k => v1 (ix2 5 k)) (fun j => y (ix2 i j)
          + (∑ f : Fin 1024, hidden (fun k => h (ix2 i k)) (fun k => a (ix2 k f)) * b (ix2 f j))
          + ∑ f : Fin 1024, hidden (fun k => h (ix2 i k)) (fun k => c (ix2 k f)) * d (ix2 f j))) j := by
  exact FfnBlock.centered v1 v2 h y a b c d i j

/-- The row less its mean, of the block's arrays. -/
theorem centered_all (x0 : Vec Ideal S512x1024 .f32) (x1 : Vec Ideal S1x6x1024 .f32) (x2 : Vec Ideal S1024x4096 .bf16)
    (x3 : Vec Ideal S4096x1024 .bf16) (i : Fin 512) (j : Fin 1024) :
    k0_pay7 (k0_pay2 x1) x0 (k0_pay3 x1 x0)
      (k0_pay4 x1 x0 (View.ld x2 r0_2) (View.ld x3 r0_3) (View.ld x2 r0_4) (View.ld x3 r0_5))
      (View.ld x2 r0_6) (View.ld x3 r0_7) (View.ld x2 r0_8) (View.ld x3 r0_9) (ix2 i j)
      = center (resRow (fun k => x0 (ix2 i k)) (fun k => x1 (ix3 0 5 k))
          (mlpRow (modRow (fun k => x0 (ix2 i k)) (fun k => x1 (ix3 0 3 k)) (fun k => x1 (ix3 0 4 k)))
            (fun k f => x2 (ix2 k f)) (fun f j => x3 (ix2 f j)))) j := by
  rw [centered]
  have hg : (fun k => k0_pay2 x1 (ix2 5 k)) = fun k => x1 (ix3 0 5 k) := by
    funext k
    pointwise [k0_pay2]
  rw [hg]
  congr 2
  funext j
  simp only [half, modulated]
  unfold mlpRow
  rw [sum_quarters]
  pointwise

/-- The rows of the block before they are moved: the feed-forward sub-layer, row by row. -/
theorem normed (x0 : Vec Ideal S512x1024 .f32) (x1 : Vec Ideal S1x6x1024 .f32) (x2 : Vec Ideal S1024x4096 .bf16)
    (x3 : Vec Ideal S4096x1024 .bf16) (x4 x5 : Vec Ideal S1x1024 .f32) (x6 : Vec Ideal S128x128 .bf16) (i : Fin 512) (j : Fin 1024) :
    k0_pay9 (k0_pay22 x0 x1 x2 x3 x4 x5 x6) (k0_pay23 x0 x1 x2 x3 x4 x5 x6) (k0_pay24 x0 x1 x2 x3 x4 x5 x6)
        (k0_pay25 x0 x1 x2 x3 x4 x5 x6) (ix2 i j)
      = ffnRow (fun k => x0 (ix2 i k)) (fun k => x1 (ix3 0 3 k)) (fun k => x1 (ix3 0 4 k)) (fun k => x1 (ix3 0 5 k))
          (fun k f => x2 (ix2 k f)) (fun f j => x3 (ix2 f j)) (fun j => x4 (ix2 0 j)) (fun j => x5 (ix2 0 j)) j := by
  have hz : (![0, 0] : Fin 2 → Nat) = fun _ => 0 := funext fun a => by fin_cases a <;> rfl
  have hz3 : (![0, 0, 0] : Fin 3 → Nat) = fun _ => 0 := funext fun a => by fin_cases a <;> rfl
  unfold k0_pay25 k0_pay24 k0_pay23 k0_pay22 k0_pay21 k0_pay20 k0_pay19
  rw [View.ld_unit_zero (S := S512x1024) hz, View.ld_unit_zero (S := S1x6x1024) hz3,
    View.ld_unit_zero (S := S1x1024) hz, View.ld_unit_zero (S := S1x1024) hz]
  pointwise [k0_pay9, k0_pay5, k0_pay6, k0_pay8]
  simp only [centered_all]
  rfl

/-! ## The four strips -/

/-- A row of the permutation times a strip's rows, each split in its cast and what the cast leaves, twice over. -/
def strip (p y : Fin 128 → EReal) : EReal :=
  (∑ c, p c * y c) + (∑ c, p c * (y c - y c)) + ∑ c, p c * (y c - y c - (y c - y c))

variable (a b : FVec Ideal S1x1024 .f32) (u : FVec Ideal S512x1024 .f32) (v : FVec Ideal S512x1 .f32) (p : Vec Ideal S128x128 .bf16)

theorem strip0 (r : Fin 128) (j : Fin 1024) :
    k0_pay10 a b u v p (ix2 r j) = strip (fun c => p (ix2 r c)) (fun c => k0_pay9 a b u v (ix2 ⟨c.val, by omega⟩ j)) := by
  pointwise [k0_pay10]
  rfl

theorem strip1 (r : Fin 128) (j : Fin 1024) :
    k0_pay11 a b u v p (ix2 r j) = strip (fun c => p (ix2 r c)) (fun c => k0_pay9 a b u v (ix2 ⟨128 + c.val, by omega⟩ j)) := by
  pointwise [k0_pay11]
  rfl

/-- The whole block: the four strips one below another. -/
theorem strips (x : FVec Ideal S512x1024 .f32) (hx : x = k0_pay9 a b u v) (s : Fin 4) (r : Fin 128) (j : Fin 1024) :
    k0_pay1 x p (k0_pay10 a b u v p) (k0_pay11 a b u v p) (k0_pay16 a b u v) (k0_pay17 a b u v p) (k0_pay18 a b u v p)
        (ix2 ⟨128 * s.val + r.val, by omega⟩ j)
      = strip (fun c => p (ix2 r c)) (fun c => x (ix2 ⟨128 * s.val + c.val, by omega⟩ j)) := by
  subst hx
  have e : ∀ (n : Nat) (h : n < 128), n = r.val → (⟨n, h⟩ : Fin 128) = r := fun _ _ q => Fin.ext q
  fin_cases s
  · pointwise [k0_pay1]
    exact strip0 a b u v p r j
  · pointwise [k0_pay1]
    exact strip1 a b u v p r j
  · pointwise [k0_pay1, k0_pay18, k0_pay17, k0_pay16, k0_pay15, k0_pay14, k0_pay13, k0_pay12]
    rw [dif_neg (by omega), dif_neg (by omega), dif_pos (by omega)]
    simp only [e _ _ (show 256 + r.val - 128 - 128 = r.val by omega)]
    rfl
  · pointwise [k0_pay1]
    rw [dif_neg (by omega), dif_neg (by omega), dif_neg (by omega)]
    simp only [e _ _ (show 384 + r.val - 128 - 128 - 128 = r.val by omega)]
    rfl

/-- The body's result in the block, handed the permutation: row `i` is the feed-forward sub-layer of the row it is read from,
    where the sub-layer's rows are reals. -/
theorem out_apply (x0 : Vec Ideal S512x1024 .f32) (x1 : Vec Ideal S1x6x1024 .f32) (x2 : Vec Ideal S1024x4096 .bf16)
    (x3 : Vec Ideal S4096x1024 .bf16) (x4 x5 : Vec Ideal S1x1024 .f32) (x6 : Vec Ideal S128x128 .bf16)
    (hp : ∀ r c : Fin 128, x6 (ix2 r c) = if c.val = snakeAt r.val then 1 else 0) (i : Fin 512) (j : Fin 1024)
    (hy : ∀ i : Fin 512, Finite (ffnRow (fun k => x0 (ix2 i k)) (fun k => x1 (ix3 0 3 k)) (fun k => x1 (ix3 0 4 k))
      (fun k => x1 (ix3 0 5 k)) (fun k f => x2 (ix2 k f)) (fun f j => x3 (ix2 f j)) (fun j => x4 (ix2 0 j)) (fun j => x5 (ix2 0 j)) j)) :
    out0_7 x0 x1 x2 x3 x4 x5 x6 (ix2 i j)
      = ffnRow (fun k => x0 (ix2 (⟨snakeAt i.val, snakeAt_lt 4 i.isLt⟩ : Fin 512) k)) (fun k => x1 (ix3 0 3 k)) (fun k => x1 (ix3 0 4 k))
          (fun k => x1 (ix3 0 5 k)) (fun k f => x2 (ix2 k f)) (fun f j => x3 (ix2 f j)) (fun j => x4 (ix2 0 j)) (fun j => x5 (ix2 0 j)) j := by
  have hz : (![0, 0] : Fin 2 → Nat) = fun _ => 0 := funext fun a => by fin_cases a <;> rfl
  obtain ⟨s, r, rfl⟩ : ∃ (s : Fin 4) (r : Fin 128), i = ⟨128 * s.val + r.val, by omega⟩ :=
    ⟨⟨i.val / 128, by omega⟩, ⟨i.val % 128, by omega⟩, Fin.ext (by show i.val = 128 * (i.val / 128) + i.val % 128; omega)⟩
  unfold out0_7
  rw [View.canon_unit_zero (S := S512x1024) hz, View.ld_unit_zero (S := S128x128) hz, strips _ _ _ _ _ _ rfl]
  simp only [normed]
  refine (perm_sum (⟨snakeAt r.val, snakeAt_lt 1 r.isLt⟩ : Fin 128) (fun c => ?_) fun c => hy _).trans ?_
  · rw [hp]
    simp only [Fin.ext_iff]
  · have e : (⟨128 * s.val + snakeAt r.val, by have := snakeAt_lt 1 r.isLt; omega⟩ : Fin 512)
        = ⟨snakeAt (128 * s.val + r.val), snakeAt_lt 4 (by omega)⟩ := Fin.ext (snakeAt_add s.val r.isLt).symm
    show ffnRow (fun k => x0 (ix2 (⟨128 * s.val + snakeAt r.val, _⟩ : Fin 512) k)) _ _ _ _ _ _ _ j = _
    rw [e]

end Cert.Proof.LastBlock

end
-- ==== Proof.LastPerm.lean ====
/- The permutation the last feed-forward kernel is handed, entry by entry. -/
module

public import proofs.«01_k».proof.Proof.FiniteSpec
public import proofs.«01_k».proof.LastIdeal

@[expose] public section

set_option maxRecDepth 16384

noncomputable section

namespace Cert.Proof.LastPerm

open Idealize.ShloMosaic Cert.LastIdeal Cert.Spec

/-- The constant's words: in each row of 128 the float one where the row is read from, and zeros elsewhere. -/
theorem words : ∀ r c : Fin 128, lit0 ⟨r.val * 128 + c.val, by omega⟩ = if c.val = snakeAt r.val then 0x3F80#16 else 0x0000#16 := by
  decide +kernel

end Cert.Proof.LastPerm

end
-- ==== Proof.LastArray.lean ====
/- What the last feed-forward kernel leaves in its result array, of real arguments: every row the feed-forward sub-layer of the row
   it is read from in snake order. -/
module

public import proofs.«01_k».proof.Proof.LastBlock
public import proofs.«01_k».proof.Proof.LastPerm
public import proofs.«01_k».proof.Proof.Gen.LastIdeal.Value
public import Idealize.ShloMosaic.Lib.StableHlo.Run
public import Idealize.ShloMosaic.Lib.IdealHost

@[expose] public section

set_option maxRecDepth 16384

noncomputable section

namespace Cert.Proof.LastArray

open Idealize.ShloMosaic Idealize.ShloMosaic.TcCoe Idealize.ShloMosaic.StableHlo Idealize.SL.Sem Idealize.ShloMosaic.Pipeline
open Cert.LastIdeal Cert.LastIdeal.Gen Cert.LastIdeal.Value Cert.Spec

variable (m : (ℓ : Loc nD τ sig) → Buf (Elt Ideal) ℓ) (ρ : Dev nD → PrngReg)

/-! ## The arrays the host prepares -/

/-- The first weight is the argument, its cast having no effect on an exact value. -/
theorem V_v0 (c : Dev nD) : V m c main_v0 = m ((c : Thread nD τ).loc main_arg2) := by
  show after hostOps0 (fun b => m (c, b)) (main_v0 : DevRef τ sig) = _
  after_results
  rfl
/-- So is the second weight. -/
theorem V_v1 (c : Dev nD) : V m c main_v1 = m ((c : Thread nD τ).loc main_arg3) := by
  show after hostOps0 (fun b => m (c, b)) (main_v1 : DevRef τ sig) = _
  after_results
  rfl
/-- The gain as one row. -/
theorem V_v2 (c : Dev nD) (j : Fin 1024) :
    V m c main_v2 (ix2 0 j) = m ((c : Thread nD τ).loc main_arg4) (ix1 j) := by
  have h : V m c main_v2 = shapeCast S1x1024 (m ((c : Thread nD τ).loc main_arg4)) shapeCasts_S1024_S1x1024 := by
    show after hostOps0 (fun b => m (c, b)) (main_v2 : DevRef τ sig) = _
    after_results
    rfl
  rw [h]
  pointwise
/-- The bias as one row. -/
theorem V_v3 (c : Dev nD) (j : Fin 1024) :
    V m c main_v3 (ix2 0 j) = m ((c : Thread nD τ).loc main_arg5) (ix1 j) := by
  have h : V m c main_v3 = shapeCast S1x1024 (m ((c : Thread nD τ).loc main_arg5)) shapeCasts_S1024_S1x1024 := by
    show after hostOps0 (fun b => m (c, b)) (main_v3 : DevRef τ sig) = _
    after_results
    rfl
  rw [h]
  pointwise

/-- The permutation, as the host holds it. -/
def perm : FVec Ideal S128x128 .bf16 := fun i => FloatOps.ofBits .bf16 (lit0 (S128x128.rowMajor i))

theorem V_cst (c : Dev nD) : V m c main_cst = perm := by
  show after hostOps0 (fun b => m (c, b)) (main_cst : DevRef τ sig) = _
  after_results
  rfl

/-- Its entries: a one where the row is read from. -/
theorem perm_apply (r c : Fin 128) : perm (ix2 r c) = if c.val = snakeAt r.val then 1 else 0 := by
  have hr : S128x128.rowMajor (ix2 r c) = ⟨r.val * 128 + c.val, by show _ < 128 * 128; omega⟩ := Fin.ext
    (rowMajor_val2 _ 128 rfl)
  show Ideal.ofBits .bf16 (lit0 (S128x128.rowMajor (ix2 r c))) = _
  rw [hr, LastPerm.words]
  split
  · exact Ideal.ofBits_one_bf16
  · exact Ideal.ofBits_zero_bf16

/-! ## Where a window's block lies in its array -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

/-- Row `i` of grid point `t`'s block is row `512 t + i` of the array. -/
abbrev row (t : Fin cfg0.N) (i : Fin 512) : Fin 32768 :=
  ⟨512 * t.val + i.val, by have h : t.val < 64 := t.isLt; omega⟩

/-- The input block's rows. -/
theorem iblk0 (c : Dev nD) (t : Fin cfg0.N) (i : Fin 512) (k : Fin 1024) :
    iblk m c 0 t (ix2 i k) = m ((c : Thread nD τ).loc main_arg0) (ix2 (row t i) k) := by
  rw [← V_main_arg0 m c]
  show V m c main_arg0 (((cfg0.win 0).blk t).view.emb (ix2 i k)) = _
  refine congrArg _ (funext fun a => Fin.ext ?_)
  obtain ⟨h0, h1⟩ := index0 t
  match a with
  | ⟨0, _⟩ => show win0_0.index t (0 : Fin 2) * 512 + 1 * i.val = 512 * t.val + i.val; omega
  | ⟨1, _⟩ => show win0_0.index t (1 : Fin 2) * 1024 + 1 * k.val = k.val; omega

/-- The modulation block is the batch element's, eight grid points to a batch element. -/
theorem iblk1 (c : Dev nD) (t : Fin cfg0.N) (i : Fin 512) (q : Fin 6) (k : Fin 1024) :
    iblk m c 1 t (ix3 0 q k) = m ((c : Thread nD τ).loc main_arg1) (ix3 ⟨(row t i).val / 4096, by omega⟩ q k) := by
  rw [← V_main_arg1 m c]
  show V m c main_arg1 (((cfg0.win 1).blk t).view.emb (ix3 0 q k)) = _
  refine congrArg _ (funext fun a => Fin.ext ?_)
  obtain ⟨h0, h1, h2⟩ := index1 t
  match a with
  | ⟨0, _⟩ => show win0_1.index t (0 : Fin 3) * 1 + 1 * 0 = (512 * t.val + i.val) / 4096; omega
  | ⟨1, _⟩ => show win0_1.index t (1 : Fin 3) * 6 + 1 * q.val = q.val; omega
  | ⟨2, _⟩ => show win0_1.index t (2 : Fin 3) * 1024 + 1 * k.val = k.val; omega

/-- The first weight's block is the whole weight, -/
theorem iblk2 (c : Dev nD) (t : Fin cfg0.N) (k : Fin 1024) (f : Fin 4096) :
    iblk m c 2 t (ix2 k f) = m ((c : Thread nD τ).loc main_arg2) (ix2 k f) := by
  rw [← V_v0 m c]
  show V m c main_v0 (((cfg0.win 2).blk t).view.emb (ix2 k f)) = _
  refine congrArg _ (funext fun a => Fin.ext ?_)
  obtain ⟨h0, h1⟩ := index2 t
  match a with
  | ⟨0, _⟩ => show win0_2.index t (0 : Fin 2) * 1024 + 1 * k.val = k.val; omega
  | ⟨1, _⟩ => show win0_2.index t (1 : Fin 2) * 4096 + 1 * f.val = f.val; omega

/-- the second weight's likewise, -/
theorem iblk3 (c : Dev nD) (t : Fin cfg0.N) (f : Fin 4096) (j : Fin 1024) :
    iblk m c 3 t (ix2 f j) = m ((c : Thread nD τ).loc main_arg3) (ix2 f j) := by
  rw [← V_v1 m c]
  show V m c main_v1 (((cfg0.win 3).blk t).view.emb (ix2 f j)) = _
  refine congrArg _ (funext fun a => Fin.ext ?_)
  obtain ⟨h0, h1⟩ := index3 t
  match a with
  | ⟨0, _⟩ => show win0_3.index t (0 : Fin 2) * 4096 + 1 * f.val = f.val; omega
  | ⟨1, _⟩ => show win0_3.index t (1 : Fin 2) * 1024 + 1 * j.val = j.val; omega

/-- and the gain's -/
theorem iblk4 (c : Dev nD) (t : Fin cfg0.N) (j : Fin 1024) :
    iblk m c 4 t (ix2 0 j) = m ((c : Thread nD τ).loc main_arg4) (ix1 j) := by
  rw [← V_v2 m c]
  show V m c main_v2 (((cfg0.win 4).blk t).view.emb (ix2 0 j)) = _
  refine congrArg _ (funext fun a => Fin.ext ?_)
  obtain ⟨h0, h1⟩ := index4 t
  match a with
  | ⟨0, _⟩ => show win0_4.index t (0 : Fin 2) * 1 + 1 * 0 = 0; omega
  | ⟨1, _⟩ => show win0_4.index t (1 : Fin 2) * 1024 + 1 * j.val = j.val; omega

/-- and the bias's. -/
theorem iblk5 (c : Dev nD) (t : Fin cfg0.N) (j : Fin 1024) :
    iblk m c 5 t (ix2 0 j) = m ((c : Thread nD τ).loc main_arg5) (ix1 j) := by
  rw [← V_v3 m c]
  show V m c main_v3 (((cfg0.win 5).blk t).view.emb (ix2 0 j)) = _
  refine congrArg _ (funext fun a => Fin.ext ?_)
  obtain ⟨h0, h1⟩ := index5 t
  match a with
  | ⟨0, _⟩ => show win0_5.index t (0 : Fin 2) * 1 + 1 * 0 = 0; omega
  | ⟨1, _⟩ => show win0_5.index t (1 : Fin 2) * 1024 + 1 * j.val = j.val; omega

/-- The permutation's block is the whole of it. -/
theorem iblk6 (c : Dev nD) (t : Fin cfg0.N) (r q : Fin 128) : iblk m c 6 t (ix2 r q) = perm (ix2 r q) := by
  rw [← V_cst m c]
  show V m c main_cst (((cfg0.win 6).blk t).view.emb (ix2 r q)) = _
  refine congrArg _ (funext fun a => Fin.ext ?_)
  obtain ⟨h0, h1⟩ := index6 t
  match a with
  | ⟨0, _⟩ => show win0_6.index t (0 : Fin 2) * 128 + 1 * r.val = r.val; omega
  | ⟨1, _⟩ => show win0_6.index t (1 : Fin 2) * 128 + 1 * q.val = q.val; omega

/-- The output block's place in the result array. -/
theorem emb7 (t : Fin cfg0.N) (i : Fin 512) (j : Fin 1024) :
    ((cfg0.win 7).blk t).view.emb (ix2 i j) = (ix2 (row t i) j : S32768x1024.Idx) := by
  refine funext fun a => Fin.ext ?_
  obtain ⟨h0, h1⟩ := index7 t
  match a with
  | ⟨0, _⟩ => show win0_7.index t (0 : Fin 2) * 512 + 1 * i.val = 512 * t.val + i.val; omega
  | ⟨1, _⟩ => show win0_7.index t (1 : Fin 2) * 1024 + 1 * j.val = j.val; omega

/-! ## The result array -/

/-- The result array as one function of the arguments. -/
def G (c : Dev nD) : Vec Ideal S32768x1024 .f32 := fun i =>
  ffnArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨snakeAt (i 0).val, snakeAt_lt 256 (i 0).isLt⟩ (i 1)

/-- The arguments are reals. -/
def Reals (c : Dev nD) : Prop :=
  (∀ i, Finite ((m ((c : Thread nD τ).loc main_arg0) : FVec Ideal S32768x1024 .f32) i))
    ∧ (∀ i, Finite ((m ((c : Thread nD τ).loc main_arg1) : FVec Ideal S8x6x1024 .f32) i))
    ∧ (∀ i, Finite ((m ((c : Thread nD τ).loc main_arg2) : FVec Ideal S1024x4096 .f32) i))
    ∧ (∀ i, Finite ((m ((c : Thread nD τ).loc main_arg3) : FVec Ideal S4096x1024 .f32) i))
    ∧ (∀ i, Finite ((m ((c : Thread nD τ).loc main_arg4) : FVec Ideal S1024 .f32) i))
    ∧ (∀ i, Finite ((m ((c : Thread nD τ).loc main_arg5) : FVec Ideal S1024 .f32) i))

/-- What a grid point writes back is its block of that function, the arguments being reals. -/
theorem flushed_eq (c : Dev nD) (hc : Reals m c) (t : Fin cfg0.N) :
    (dats m 0 c).flushed 7 t = ((cfg0.win 7).blk t).view.read (Elt Ideal) (G m c) := by
  rw [flushed7]
  funext y
  obtain ⟨i, j, rfl⟩ : ∃ (i : Fin 512) (j : Fin 1024), y = (ix2 i j : S512x1024.Idx) :=
    ⟨y 0, y 1, funext fun a => match a with | ⟨0, _⟩ => rfl | ⟨1, _⟩ => rfl⟩
  show out0_7 _ _ _ _ _ _ _ (ix2 i j) = G m c (((cfg0.win 7).blk t).view.emb (ix2 i j))
  obtain ⟨f0, f1, f2, f3, f4, f5⟩ := hc
  rw [emb7, LastBlock.out_apply]
  · simp only [iblk0, iblk1 m c t ⟨snakeAt i.val, snakeAt_lt 4 i.isLt⟩, iblk2, iblk3, iblk4, iblk5]
    have e : row t ⟨snakeAt i.val, snakeAt_lt 4 i.isLt⟩ = ⟨snakeAt (row t i).val, snakeAt_lt 256 (row t i).isLt⟩ := Fin.ext (by
      show 512 * t.val + snakeAt i.val = snakeAt (512 * t.val + i.val)
      unfold snakeAt
      split <;> split <;> omega)
    refine Eq.trans (b := ffnArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (row t ⟨snakeAt i.val, snakeAt_lt 4 i.isLt⟩) j) rfl ?_
    rw [e]
    rfl
  · intro r q
    rw [iblk6, perm_apply]
  · intro i
    simp only [iblk0, iblk1 m c t i, iblk2, iblk3, iblk4, iblk5]
    exact Finite.ffnRow (fun k => f0 _) (fun k => f1 _) (fun k => f1 _) (fun k => f1 _) (fun k f => f2 _) (fun f k => f3 _)
      (fun k => f4 _) (fun k => f5 _) j

/-- Every index of the result array lies in some grid point's block. -/
theorem cover (x : S32768x1024.Idx) :
    ∃ t : Fin cfg0.N, (cfg0.win 7).flush t = true ∧ x ∈ ((cfg0.win 7).blk t).view.set := by
  have hx0 : (x 0).val < 32768 := (x 0).isLt
  let t : Fin cfg0.N := ⟨(x 0).val / 512, by show _ < 64; omega⟩
  have e : ((cfg0.win 7).blk t).view.emb (ix2 (⟨(x 0).val % 512, by omega⟩ : Fin 512) (x 1 : Fin 1024)) = x := by
    refine (emb7 t _ _).trans (funext fun a => Fin.ext ?_)
    match a with
    | ⟨0, _⟩ => show 512 * ((x 0).val / 512) + (x 0).val % 512 = (x 0).val; omega
    | ⟨1, _⟩ => rfl
  exact ⟨t, flush0_7 _, e ▸ ((cfg0.win 7).blk t).view.emb_mem_set _⟩

/-- The result array after the run. -/
theorem final (c : Dev nD) (hc : Reals m c) : (dats m 0 c).arrAt 7 cfg0.N = G m c :=
  (dats m 0 c).arrAt_eq_of_cover 7 (G m c) (fun t _ => flushed_eq m c hc t) cover

/-- The kernel's run: it ends with the result array at that function of the arguments, and the arguments unchanged. -/
theorem run (hm : ∀ c, Reals m c) : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hm c)), (h c).2⟩) (run_blocks m ρ)

end Cert.Proof.LastArray

end
-- ==== Proof.LastRef.lean ====
/- What the last feed-forward reference computes: every row the feed-forward sub-layer of the row it is read from in snake order. -/
module

public import proofs.«01_k».proof.Proof.FiniteSpec
public import proofs.«01_k».proof.Proof.FfnRef
public import proofs.«01_k».proof.Proof.Gen.LastRefIdeal.Read

@[expose] public section

set_option maxRecDepth 16384

noncomputable section

namespace Cert.Proof.LastRef

open Idealize.ShloMosaic Idealize.ShloMosaic.TcCoe Idealize.ShloMosaic.StableHlo Idealize.SL.Sem
open Cert.LastRefIdeal Cert.LastRefIdeal.Gen Cert.LastRefIdeal.Read Cert.Spec

variable (x0 : (⟨S32768x1024, .f32⟩ : BufTy).Contents (Elt Ideal)) (x1 : (⟨S8x6x1024, .f32⟩ : BufTy).Contents (Elt Ideal))
  (x2 : (⟨S1024x4096, .f32⟩ : BufTy).Contents (Elt Ideal)) (x3 : (⟨S4096x1024, .f32⟩ : BufTy).Contents (Elt Ideal))
  (x4 x5 : (⟨S1024, .f32⟩ : BufTy).Contents (Elt Ideal))

/-- Row `s` of batch element `b` in the flat array. -/
abbrev flat (b : Fin 8) (s : Fin 4096) : Fin 32768 := ⟨b.val * 4096 + s.val, by omega⟩

/-- The lines of the picture that run backwards: the odd ones. -/
theorem odd : ∀ q : Fin 64, val_main_v5 (F := Ideal) (ix1 q) = if q.val % 2 = 1 then 1#1 else 0#1 := by
  decide +kernel

/-- The rows by batch element, line of the picture and place in the line. -/
theorem lines (b : Fin 8) (q s : Fin 64) (k : Fin 1024) :
    val_main_v1 x0 (ix4 b q s k) = x0 (ix2 (flat b ⟨64 * q.val + s.val, by omega⟩) k) := by
  pointwise [val_main_v1, val_main_v0]
  exact congrArg (fun n => x0 (ix2 n k)) (Fin.ext (by show b.val * 4096 + (q.val * 64 + s.val) = b.val * 4096 + (64 * q.val + s.val); omega))

/-- The place in the sequence a row is read from. -/
abbrev place (s : Fin 4096) : Fin 4096 := ⟨snakeAt s.val, snakeAt_lt 32 s.isLt⟩

/-- The rows in snake order, by batch element and place in the sequence. -/
theorem rows (b : Fin 8) (s : Fin 4096) (k : Fin 1024) : val_main_v9 x0 (ix3 b s k) = x0 (ix2 (flat b (place s)) k) := by
  pointwise [val_main_v9, val_main_v8, val_main_call1_v0, val_main_v6, val_main_v7]
  show Scalar.select (val_main_v5 (F := Ideal) (ix1 (⟨s.val / 64, by omega⟩ : Fin 64)))
      (val_main_v1 x0 (ix4 b (⟨s.val / 64, by omega⟩ : Fin 64) (Fin.rev (⟨s.val % 64, by omega⟩ : Fin 64)) k))
      (val_main_v1 x0 (ix4 b (⟨s.val / 64, by omega⟩ : Fin 64) (⟨s.val % 64, by omega⟩ : Fin 64) k)) = _
  rw [odd, lines, lines]
  split
  case isTrue h =>
    refine Eq.trans (b := x0 (ix2 (flat b ⟨64 * (s.val / 64) + (Fin.rev (⟨s.val % 64, by omega⟩ : Fin 64)).val, by omega⟩) k)) rfl ?_
    refine congrArg (fun n => x0 (ix2 (flat b n) k)) (Fin.ext ?_)
    show 64 * (s.val / 64) + (64 - (s.val % 64 + 1)) = snakeAt s.val
    dsimp only at h
    unfold snakeAt
    split <;> omega
  case isFalse h =>
    refine Eq.trans (b := x0 (ix2 (flat b ⟨64 * (s.val / 64) + s.val % 64, by omega⟩) k)) rfl ?_
    refine congrArg (fun n => x0 (ix2 (flat b n) k)) (Fin.ext ?_)
    show 64 * (s.val / 64) + s.val % 64 = snakeAt s.val
    dsimp only at h
    unfold snakeAt
    split <;> omega

/-- The argument's rows in snake order. -/
def moved : (⟨S32768x1024, .f32⟩ : BufTy).Contents (Elt Ideal) := fun i => x0 (ix2 ⟨snakeAt (i 0).val, snakeAt_lt 256 (i 0).isLt⟩ (i 1))

/-- A row of `moved`, by batch element and place in the sequence. -/
theorem moved_apply (b : Fin 8) (s : Fin 4096) (k : Fin 1024) : moved x0 (ix2 (flat b s) k) = x0 (ix2 (flat b (place s)) k) := by
  refine congrArg (fun n => x0 (ix2 n k)) (Fin.ext ?_)
  show snakeAt (b.val * 4096 + s.val) = b.val * 4096 + snakeAt s.val
  unfold snakeAt
  split <;> split <;> omega

/-- The rows the sub-layer works on are those of `moved`. -/
theorem start : val_main_v9 (F := Ideal) x0 = FfnRefIdeal.Read.val_main_v0 (moved x0) := by
  funext i
  obtain ⟨b, s, k, rfl⟩ : ∃ (b : Fin 8) (s : Fin 4096) (k : Fin 1024), i = ix3 b s k :=
    ⟨i 0, i 1, i 2, funext fun a => match a with | ⟨0, _⟩ => rfl | ⟨1, _⟩ => rfl | ⟨2, _⟩ => rfl⟩
  exact (rows x0 b s k).trans ((moved_apply x0 b s k).symm.trans (FfnRef.rows (moved x0) b s k).symm)

/-- The modulated rows are those of the sub-layer on `moved`. -/
theorem modulated : val_main_v21 (F := Ideal) x0 x1 = FfnRefIdeal.Read.val_main_v12 (moved x0) x1 := by
  unfold val_main_v21 val_main_v19
  rw [start]
  rfl

/-- The branch's output is that of the sub-layer on `moved`. -/
theorem branch : val_main_v25 (F := Ideal) x0 x1 x2 x3 = FfnRefIdeal.Read.val_main_v16 (moved x0) x1 x2 x3 := by
  unfold val_main_v25 val_main_v24 val_main_v23 val_main_v22
  rw [modulated]
  rfl

/-- The residual is that of the sub-layer on `moved`. -/
theorem residual : val_main_v30 (F := Ideal) x0 x1 x2 x3 = FfnRefIdeal.Read.val_main_v21 (moved x0) x1 x2 x3 := by
  unfold val_main_v30 val_main_v29 val_main_v27
  rw [start, branch]
  rfl

/-- The result is that of the sub-layer on `moved`. -/
theorem whole : val_main_v55 (F := Ideal) x0 x1 x2 x3 x4 x5 = FfnRefIdeal.Read.val_main_v46 (moved x0) x1 x2 x3 x4 x5 := by
  unfold val_main_v55 val_main_v54 val_main_v51 val_main_v48 val_main_v47 val_main_v46 val_main_v45 val_main_v43 val_main_v42
    val_main_v41 val_main_v39 val_main_v38 val_main_v37 val_main_v36 val_main_v35 val_main_v34 val_main_v32 val_main_v31
  rw [residual]
  rfl

/-- The reference's result. -/
theorem result (r : Fin 32768) (j : Fin 1024) :
    val_main_v55 x0 x1 x2 x3 x4 x5 (ix2 r j) = ffnArr x0 x1 x2 x3 x4 x5 ⟨snakeAt r.val, snakeAt_lt 256 r.isLt⟩ j := by
  have hb : (⟨r.val / 4096, by omega⟩ : Fin 8) = ⟨snakeAt r.val / 4096, by have := snakeAt_lt 256 r.isLt; omega⟩ := Fin.ext (by
    show r.val / 4096 = snakeAt r.val / 4096
    unfold snakeAt
    split <;> omega)
  rw [whole, FfnRef.result]
  unfold ffnArr
  rw [hb]
  rfl

end Cert.Proof.LastRef

end
-- ==== Proof.LastEq.lean ====
/- The last feed-forward kernel and its reference compute the same array of finite arguments. -/
module

public import proofs.«01_k».proof.Defs
public import proofs.«01_k».proof.Proof.LastArray
public import proofs.«01_k».proof.Proof.LastRef
public import proofs.«01_k».proof.Proof.Gen.Pre_finite_values

@[expose] public section

set_option maxRecDepth 16384

noncomputable section

namespace Cert.Proof.LastEq

open Idealize.ShloMosaic Idealize.SL.Sem Cert.Spec

/-- An array whose absolute values all compare below infinity holds reals only. -/
theorem reals {s : Shape} (h : Pre_finite_values.S_.BroadcastsInDim s ![]) (x : FVec Ideal s .f32)
    (hx : cmpf .olt (Host.absf x) (broadcastInDim s ![] h (constant (F := Ideal) Pre_finite_values.S_ .f32 0x7F800000#32)) = fun _ => 1#1) (i : s.Idx) :
    Finite (x i) := by
  have hi : Ideal.cmp .olt (Max.max (x i) (-(x i)) : EReal) (Ideal.ofBits .f32 0x7F800000#32) = 1#1 := congrFun hx i
  have ht : Ideal.ofBits .f32 0x7F800000#32 = ⊤ := by simp [Ideal.ofBits, Ideal.ieee]
  rw [ht] at hi
  refine Finite.of_abs ?_
  by_contra hn
  simp [Ideal.cmp, hn] at hi

/-- The precondition, read: every argument holds reals only. -/
theorem reals_of_pre (m : (ℓ : Loc Cert.LastIdeal.nD Cert.LastIdeal.τ Cert.LastIdeal.sig) → Buf (Elt Ideal) ℓ)
    (h : Pre_LastIdeal_finite_values (hPre_finite_values := Cert.Pre_finite_values.Gen.facts) m) (c : Dev Cert.LastIdeal.nD) : LastArray.Reals m c := by
  obtain ⟨h0, h1, h2, h3, h4, h5⟩ := h c
  exact ⟨reals _ _ h0, reals _ _ h1, reals _ _ h2, reals _ _ h3, reals _ _ h4, reals _ _ h5⟩

/-- From equal finite arguments the kernel's array and the reference's are the same function of them. -/
theorem algebraic : algebraic_LastIdeal_LastRefIdeal_pre_finite_values (hLastIdeal := Cert.LastIdeal.Gen.facts)
    (hLastRefIdeal := Cert.LastRefIdeal.Gen.facts) (hPre_finite_values := Cert.Pre_finite_values.Gen.facts) := by
  intro m g m' g' hpre h
  refine ⟨LastArray.G m, LastArray.run m g (reals_of_pre m hpre), (θ_run _ _ _).mono (fun r hr c => ⟨(hr c).1.trans ?_, (hr c).2⟩)
    (Cert.LastRefIdeal.Value.run m' g')⟩
  rw [Cert.LastRefIdeal.Read.val_main_v55_eq]
  funext i
  obtain ⟨r, j, rfl⟩ : ∃ (r : Fin 32768) (j : Fin 1024), i = (ix2 r j : Cert.LastIdeal.S32768x1024.Idx) :=
    ⟨i 0, i 1, funext fun a => match a with | ⟨0, _⟩ => rfl | ⟨1, _⟩ => rfl⟩
  obtain ⟨h0, h1, h2, h3, h4, h5⟩ := h c
  refine (LastRef.result _ _ _ _ _ _ r j).trans ?_
  rw [h0, h1, h2, h3, h4, h5]
  rfl

end Cert.Proof.LastEq

end
-- ==== Proof.ProjSpec.lean ====
/- The projection at the head of a sub-layer: the modulated row times a weight. -/
module

public import proofs.«01_k».proof.Proof.Spec

@[expose] public section

noncomputable section

namespace Cert.Spec

open Idealize.ShloMosaic

/-- A row, shifted and scaled, times one column of a weight. -/
def projRow (x shift scale w : Fin 1024 → EReal) : EReal := ∑ k, modRow x shift scale k * w k

/-- The product of row `r` of a 32768 by 1024 array, shifted and scaled by rows 0 and 1 of its batch element's modulation, with
    a column `w`. -/
def projArr (x : (⟨2, ![32768, 1024]⟩ : Shape).Idx → EReal) (mod : (⟨3, ![8, 6, 1024]⟩ : Shape).Idx → EReal)
    (r : Fin 32768) (w : Fin 1024 → EReal) : EReal :=
  projRow (fun k => x (ix2 r k)) (fun k => mod (ix3 ⟨r.val / 4096, by omega⟩ 0 k))
    (fun k => mod (ix3 ⟨r.val / 4096, by omega⟩ 1 k)) w

/-- Column `c` of a weight, zero from its width on. -/
def colOrZero {W : Nat} (w : Fin 1024 → Fin W → EReal) (c : Nat) (k : Fin 1024) : EReal :=
  if h : c < W then w k ⟨c, h⟩ else 0

/-- The product with a column of zeros is zero. -/
theorem projRow_zero (x shift scale : Fin 1024 → EReal) : projRow x shift scale (fun _ => 0) = 0 := by
  unfold projRow
  simp only [mul_zero, Finset.sum_const_zero]

end Cert.Spec

end
-- ==== Proof.GlaBlock.lean ====
/- What one grid point of the projection kernel leaves in its two blocks: row by row, the modulated row times the weights. -/
module

public import proofs.«01_k».proof.Proof.ProjSpec
public import proofs.«01_k».proof.Proof.Gen.GlaIdeal.Frame
public import Idealize.ShloMosaic.Lib.Pipeline.ValueKit

@[expose] public section

set_option maxRecDepth 16384

noncomputable section

namespace Cert.Proof.GlaBlock

open Idealize.ShloMosaic Idealize.SL.Sem Cert.GlaIdeal Cert.GlaIdeal.Gen Cert.Spec

/-- The modulated rows of the block. -/
theorem modulated (v0 : Vec Ideal S1x6x1024 .f32) (v2 : Vec Ideal S512x1024 .f32) (i : Fin 512) (k : Fin 1024) :
    k0_pay1 v0 v2 (ix2 i k) = modRow (fun k => v2 (ix2 i k)) (fun k => v0 (ix3 0 0 k)) (fun k => v0 (ix3 0 1 k)) k := by
  pointwise [k0_pay1]
  rfl

/-- A strip of 1024 columns of the product, -/
theorem strip (v0 : Vec Ideal S1x6x1024 .f32) (v2 : Vec Ideal S512x1024 .f32) (w : Vec Ideal S1024x1024 .bf16)
    (i : Fin 512) (j : Fin 1024) :
    k0_pay2 v0 v2 w (ix2 i j)
      = projRow (fun k => v2 (ix2 i k)) (fun k => v0 (ix3 0 0 k)) (fun k => v0 (ix3 0 1 k)) (fun k => w (ix2 k j)) := by
  pointwise [k0_pay2]
  simp only [modulated]
  rfl

/-- and the narrow product. -/
theorem narrow (v0 : Vec Ideal S1x6x1024 .f32) (v2 : Vec Ideal S512x1024 .f32) (w : Vec Ideal S1024x128 .bf16)
    (i : Fin 512) (j : Fin 128) :
    k0_pay5 v0 v2 w (ix2 i j)
      = projRow (fun k => v2 (ix2 i k)) (fun k => v0 (ix3 0 0 k)) (fun k => v0 (ix3 0 1 k)) (fun k => w (ix2 k j)) := by
  pointwise [k0_pay5]
  simp only [modulated]
  rfl

/-- The body's first result in its block, row by row: the three strips side by side are the product with the whole weight. -/
theorem wide_apply (x0 : Vec Ideal S512x1024 .f32) (x1 : Vec Ideal S1x6x1024 .f32) (x2 : Vec Ideal S1024x3072 .bf16)
    (x3 : Vec Ideal S1024x128 .bf16) (i : Fin 512) (j : Fin 3072) :
    out0_4 x0 x1 x2 x3 (ix2 i j)
      = projRow (fun k => x0 (ix2 i k)) (fun k => x1 (ix3 0 0 k)) (fun k => x1 (ix3 0 1 k)) (fun k => x2 (ix2 k j)) := by
  have hz : (![0, 0] : Fin 2 → Nat) = fun _ => 0 := funext fun a => by fin_cases a <;> rfl
  have hz3 : (![0, 0, 0] : Fin 3 → Nat) = fun _ => 0 := funext fun a => by fin_cases a <;> rfl
  -- a strip from column `o` on, at column `q` of it
  have one : ∀ (w : Vec Ideal S1024x1024 .bf16) (x : S512x1024.Idx), (x 0).val = i.val →
      (∀ k : Fin 1024, w (ix2 k (x 1)) = x2 (ix2 k j)) →
      k0_pay2 x1 x0 w x
        = projRow (fun k => x0 (ix2 i k)) (fun k => x1 (ix3 0 0 k)) (fun k => x1 (ix3 0 1 k)) (fun k => x2 (ix2 k j)) := by
    intro w x hx hw
    obtain ⟨a, b, rfl⟩ : ∃ (a : Fin 512) (b : Fin 1024), x = (ix2 a b : S512x1024.Idx) :=
      ⟨x 0, x 1, funext fun a => match a with | ⟨0, _⟩ => rfl | ⟨1, _⟩ => rfl⟩
    obtain rfl : a = i := Fin.ext hx
    rw [strip]
    exact congrArg _ (funext hw)
  unfold out0_4
  rw [View.ld_unit_zero (S := S512x1024) hz, View.ld_unit_zero (S := S1x6x1024) hz3]
  canon_tiles x h
  case piece0 =>
    refine one _ x h0.symm fun k => View.ld_unit_apply_of _ _ _ _ _ _ fun a => ?_
    match a with
    | ⟨0, _⟩ => exact (Nat.zero_add _).symm
    | ⟨1, _⟩ => exact h1
  case piece1 =>
    refine one _ x h0.symm fun k => View.ld_unit_apply_of _ _ _ _ _ _ fun a => ?_
    match a with
    | ⟨0, _⟩ => exact (Nat.zero_add _).symm
    | ⟨1, _⟩ => exact h1
  case piece2 =>
    refine one _ x h0.symm fun k => View.ld_unit_apply_of _ _ _ _ _ _ fun a => ?_
    match a with
    | ⟨0, _⟩ => exact (Nat.zero_add _).symm
    | ⟨1, _⟩ => exact h1.trans (Nat.zero_add _).symm

/-- The body's second result in its block, row by row. -/
theorem narrow_apply (x0 : Vec Ideal S512x1024 .f32) (x1 : Vec Ideal S1x6x1024 .f32) (x2 : Vec Ideal S1024x3072 .bf16)
    (x3 : Vec Ideal S1024x128 .bf16) (i : Fin 512) (j : Fin 128) :
    out0_5 x0 x1 x2 x3 (ix2 i j)
      = projRow (fun k => x0 (ix2 i k)) (fun k => x1 (ix3 0 0 k)) (fun k => x1 (ix3 0 1 k)) (fun k => x3 (ix2 k j)) := by
  have hz : (![0, 0] : Fin 2 → Nat) = fun _ => 0 := funext fun a => by fin_cases a <;> rfl
  have hz3 : (![0, 0, 0] : Fin 3 → Nat) = fun _ => 0 := funext fun a => by fin_cases a <;> rfl
  unfold out0_5
  rw [View.canon_unit_zero (S := S512x128) hz, View.ld_unit_zero (S := S512x1024) hz, View.ld_unit_zero (S := S1x6x1024) hz3,
    View.ld_unit_zero (S := S1024x128) hz, narrow]

end Cert.Proof.GlaBlock

end
-- ==== Proof.GlaArray.lean ====
/- What the projection kernel leaves in its two result arrays: every row, modulated, times the weight. -/
module

public import proofs.«01_k».proof.Proof.GlaBlock
public import proofs.«01_k».proof.Proof.Gen.GlaIdeal.Value
public import Idealize.ShloMosaic.Lib.StableHlo.Run
public import Idealize.ShloMosaic.Lib.Routing.OpsOne

@[expose] public section

set_option maxRecDepth 16384

noncomputable section

namespace Cert.Proof.GlaArray

open Idealize.ShloMosaic Idealize.ShloMosaic.TcCoe Idealize.ShloMosaic.StableHlo Idealize.SL.Sem Idealize.ShloMosaic.Pipeline
open Cert.GlaIdeal Cert.GlaIdeal.Gen Cert.GlaIdeal.Value Cert.Spec

variable (m : (ℓ : Loc nD τ sig) → Buf (Elt Ideal) ℓ) (ρ : Dev nD → PrngReg)

/-! ## The arrays the host prepares -/

/-- The weight's first 3072 columns, as the host cuts them out. -/
def wideWeight (c : Dev nD) : FVec Ideal S1024x3072 .bf16 :=
  truncf .bf16 (extractStridedSlice S1024x3072 ![0, 0] (m ((c : Thread nD τ).loc main_arg2) : FVec Ideal S1024x3104 .f32)
    slices_S1024x3104_S1024x3072_0_0) bitsLt_bf16_f32

theorem V_v1 (c : Dev nD) : V m c main_v1 = wideWeight m c := by
  show after hostOps0 (fun b => m (c, b)) (main_v1 : DevRef τ sig) = _
  after_results
  rfl

theorem wideWeight_apply (c : Dev nD) (k : Fin 1024) (j : Fin 3072) :
    wideWeight m c (ix2 k j) = m ((c : Thread nD τ).loc main_arg2) (ix2 k (⟨j.val, by omega⟩ : Fin 3104)) := by
  pointwise [wideWeight]

/-- Where an element of the narrow weight lands in the wider array: at its own place. -/
theorem lands (idx : IVec S1 32) (hidx : idx (ix1 0) = 0#32) (k k' : Fin 1024) (q : Fin 32) (j : Fin 128) :
    scatter_S1024x128_S1_S1024x32_01_n_1_0.resultIdx? (ix2 k' q) idx = some (ix2 k j) ↔ k'.val = k.val ∧ q.val = j.val := by
  have s0 : scatter_S1024x128_S1_S1024x32_01_n_1_0.start (ix2 k' q) idx 0 = 0 := rfl
  have s1 : scatter_S1024x128_S1_S1024x32_01_n_1_0.start (ix2 k' q) idx 1 = 0 := by
    have e : ∀ i : S1.Idx, i = ix1 0 := fun i => funext fun a => match a with | ⟨0, _⟩ => Subsingleton.elim (α := Fin 1) _ _
    unfold ScatterDims.start
    rw [dif_pos (by decide), e (ScatterDims.siIdx _ _ _), hidx]
    rfl
  have w0 : scatter_S1024x128_S1_S1024x32_01_n_1_0.window (ix2 k' q) 0 = k'.val := rfl
  have w1 : scatter_S1024x128_S1_S1024x32_01_n_1_0.window (ix2 k' q) 1 = q.val := rfl
  refine (Routing.resultIdx?_ix2 scatter_S1024x128_S1_S1024x32_01_n_1_0 (ix2 k' q) idx k j).trans ?_
  rw [s0, s1, w0, w1]
  omega

/-- The weight's last 32 columns, as the host writes them over zeros. -/
def narrowWeight (c : Dev nD) : FVec Ideal S1024x128 .bf16 :=
  truncf .bf16 (Host.scatter scatter_S1024x128_S1_S1024x32_01_n_1_0 (fun _ b => b)
    (broadcastInDim S1024x128 ![] bcast_S_S1024x128 (constant (F := Ideal) S_ .f32 0x00000000#32))
    (broadcastInDim S1 ![] bcast_S_S1 (constantI S_ 32 0#32))
    (extractStridedSlice S1024x32 ![0, 3072] (m ((c : Thread nD τ).loc main_arg2) : FVec Ideal S1024x3104 .f32)
      slices_S1024x3104_S1024x32_0_3072)) bitsLt_bf16_f32

theorem V_v6 (c : Dev nD) : V m c main_v6 = narrowWeight m c := by
  show after hostOps0 (fun b => m (c, b)) (main_v6 : DevRef τ sig) = _
  after_results
  rfl

/-- They are followed by zeros. -/
theorem narrowWeight_apply (c : Dev nD) (k : Fin 1024) (j : Fin 128) :
    narrowWeight m c (ix2 k j)
      = colOrZero (fun k (q : Fin 32) => m ((c : Thread nD τ).loc main_arg2) (ix2 k (⟨3072 + q.val, by omega⟩ : Fin 3104))) j.val k := by
  have exact_cast : ∀ (x : FVec Ideal S1024x128 .f32) (i : S1024x128.Idx), truncf .bf16 x bitsLt_bf16_f32 i = x i := fun _ _ => rfl
  unfold narrowWeight
  rw [exact_cast]
  have two : ∀ u : S1024x32.Idx, ∃ (k' : Fin 1024) (q : Fin 32), u = ix2 k' q := fun u =>
    ⟨u 0, u 1, funext fun a => match a with | ⟨0, _⟩ => rfl | ⟨1, _⟩ => rfl⟩
  have hidx : broadcastInDim S1 ![] bcast_S_S1 (constantI S_ 32 0#32) (ix1 0) = 0#32 := rfl
  unfold colOrZero
  split
  case isTrue hj =>
    refine Routing.scatter_set_hit _ _ _ _ _ _ (fun u hu => ?_) (ix2 k (⟨j.val, hj⟩ : Fin 32)) ((lands _ hidx _ _ _ _).2 ⟨rfl, rfl⟩)
    obtain ⟨k', q, rfl⟩ := two u
    obtain ⟨e1, e2⟩ := (lands _ hidx _ _ _ _).1 hu
    obtain rfl : k' = k := Fin.ext e1
    obtain rfl : q = ⟨j.val, hj⟩ := Fin.ext e2
    pointwise
  case isFalse hj =>
    refine (Routing.scatter_set_miss _ _ _ _ _ fun u hu => ?_).trans ?_
    · obtain ⟨k', q, rfl⟩ := two u
      have := ((lands _ hidx _ _ _ _).1 hu).2
      omega
    · pointwise

/-! ## Where a window's block lies in its array -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

/-- Row `i` of grid point `t`'s block is row `512 t + i` of the array. -/
abbrev row (t : Fin cfg0.N) (i : Fin 512) : Fin 32768 :=
  ⟨512 * t.val + i.val, by have h : t.val < 64 := t.isLt; omega⟩

/-- The input block's rows. -/
theorem iblk0 (c : Dev nD) (t : Fin cfg0.N) (i : Fin 512) (k : Fin 1024) :
    iblk m c 0 t (ix2 i k) = m ((c : Thread nD τ).loc main_arg0) (ix2 (row t i) k) := by
  rw [← V_main_arg0 m c]
  show V m c main_arg0 (((cfg0.win 0).blk t).view.emb (ix2 i k)) = _
  refine congrArg _ (funext fun a => Fin.ext ?_)
  obtain ⟨h0, h1⟩ := index0 t
  match a with
  | ⟨0, _⟩ => show win0_0.index t (0 : Fin 2) * 512 + 1 * i.val = 512 * t.val + i.val; omega
  | ⟨1, _⟩ => show win0_0.index t (1 : Fin 2) * 1024 + 1 * k.val = k.val; omega

/-- The modulation block is the batch element's, eight grid points to a batch element. -/
theorem iblk1 (c : Dev nD) (t : Fin cfg0.N) (i : Fin 512) (q : Fin 6) (k : Fin 1024) :
    iblk m c 1 t (ix3 0 q k) = m ((c : Thread nD τ).loc main_arg1) (ix3 ⟨(row t i).val / 4096, by omega⟩ q k) := by
  rw [← V_main_arg1 m c]
  show V m c main_arg1 (((cfg0.win 1).blk t).view.emb (ix3 0 q k)) = _
  refine congrArg _ (funext fun a => Fin.ext ?_)
  obtain ⟨h0, h1, h2⟩ := index1 t
  match a with
  | ⟨0, _⟩ => show win0_1.index t (0 : Fin 3) * 1 + 1 * 0 = (512 * t.val + i.val) / 4096; omega
  | ⟨1, _⟩ => show win0_1.index t (1 : Fin 3) * 6 + 1 * q.val = q.val; omega
  | ⟨2, _⟩ => show win0_1.index t (2 : Fin 3) * 1024 + 1 * k.val = k.val; omega

/-- The wide weight's block is the whole of it, -/
theorem iblk2 (c : Dev nD) (t : Fin cfg0.N) (k : Fin 1024) (j : Fin 3072) : iblk m c 2 t (ix2 k j) = wideWeight m c (ix2 k j) := by
  rw [← V_v1 m c]
  show V m c main_v1 (((cfg0.win 2).blk t).view.emb (ix2 k j)) = _
  refine congrArg _ (funext fun a => Fin.ext ?_)
  obtain ⟨h0, h1⟩ := index2 t
  match a with
  | ⟨0, _⟩ => show win0_2.index t (0 : Fin 2) * 1024 + 1 * k.val = k.val; omega
  | ⟨1, _⟩ => show win0_2.index t (1 : Fin 2) * 3072 + 1 * j.val = j.val; omega

/-- the narrow weight's likewise. -/
theorem iblk3 (c : Dev nD) (t : Fin cfg0.N) (k : Fin 1024) (j : Fin 128) : iblk m c 3 t (ix2 k j) = narrowWeight m c (ix2 k j) := by
  rw [← V_v6 m c]
  show V m c main_v6 (((cfg0.win 3).blk t).view.emb (ix2 k j)) = _
  refine congrArg _ (funext fun a => Fin.ext ?_)
  obtain ⟨h0, h1⟩ := index3 t
  match a with
  | ⟨0, _⟩ => show win0_3.index t (0 : Fin 2) * 1024 + 1 * k.val = k.val; omega
  | ⟨1, _⟩ => show win0_3.index t (1 : Fin 2) * 128 + 1 * j.val = j.val; omega

/-! ## The wide result array -/

/-- The wide output block's place in its array. -/
theorem emb4 (t : Fin cfg0.N) (i : Fin 512) (j : Fin 3072) :
    ((cfg0.win 4).blk t).view.emb (ix2 i j) = (ix2 (row t i) j : S32768x3072.Idx) := by
  refine funext fun a => Fin.ext ?_
  obtain ⟨h0, h1⟩ := index4 t
  match a with
  | ⟨0, _⟩ => show win0_4.index t (0 : Fin 2) * 512 + 1 * i.val = 512 * t.val + i.val; omega
  | ⟨1, _⟩ => show win0_4.index t (1 : Fin 2) * 3072 + 1 * j.val = j.val; omega

/-- The wide result array as one function of the arguments. -/
def G_wide (c : Dev nD) : Vec Ideal S32768x3072 .bf16 := fun i =>
  projArr (m ((c : Thread nD τ).loc main_arg0)) (m ((c : Thread nD τ).loc main_arg1)) (i 0)
    (fun k => m ((c : Thread nD τ).loc main_arg2) (ix2 k ⟨(i 1).val, Nat.lt_of_lt_of_le (i 1).isLt (show 3072 ≤ 3104 by omega)⟩))

/-- What a grid point writes back is its block of that function. -/
theorem flushed_G_wide (c : Dev nD) (t : Fin cfg0.N) :
    (dats m 0 c).flushed 4 t = ((cfg0.win 4).blk t).view.read (Elt Ideal) (G_wide m c) := by
  rw [flushed4]
  funext y
  obtain ⟨i, j, rfl⟩ : ∃ (i : Fin 512) (j : Fin 3072), y = (ix2 i j : S512x3072.Idx) :=
    ⟨y 0, y 1, funext fun a => match a with | ⟨0, _⟩ => rfl | ⟨1, _⟩ => rfl⟩
  show out0_4 _ _ _ _ (ix2 i j) = G_wide m c (((cfg0.win 4).blk t).view.emb (ix2 i j))
  rw [emb4, GlaBlock.wide_apply]
  simp only [iblk0, iblk1 m c t i, iblk2, iblk3, wideWeight_apply, narrowWeight_apply]
  rfl

/-- Every index of the wide result array lies in some grid point's block. -/
theorem cover4 (x : S32768x3072.Idx) :
    ∃ t : Fin cfg0.N, (cfg0.win 4).flush t = true ∧ x ∈ ((cfg0.win 4).blk t).view.set := by
  have hx0 : (x 0).val < 32768 := (x 0).isLt
  let t : Fin cfg0.N := ⟨(x 0).val / 512, by show _ < 64; omega⟩
  have e : ((cfg0.win 4).blk t).view.emb (ix2 (⟨(x 0).val % 512, by omega⟩ : Fin 512) (x 1 : Fin 3072)) = x := by
    refine (emb4 t _ _).trans (funext fun a => Fin.ext ?_)
    match a with
    | ⟨0, _⟩ => show 512 * ((x 0).val / 512) + (x 0).val % 512 = (x 0).val; omega
    | ⟨1, _⟩ => rfl
  exact ⟨t, flush0_4 _, e ▸ ((cfg0.win 4).blk t).view.emb_mem_set _⟩

/-- The wide result array after the run. -/
theorem final4 (c : Dev nD) : (dats m 0 c).arrAt 4 cfg0.N = G_wide m c :=
  (dats m 0 c).arrAt_eq_of_cover 4 (G_wide m c) (fun t _ => flushed_G_wide m c t) cover4

/-! ## The narrow result array -/

/-- The narrow output block's place in its array. -/
theorem emb5 (t : Fin cfg0.N) (i : Fin 512) (j : Fin 128) :
    ((cfg0.win 5).blk t).view.emb (ix2 i j) = (ix2 (row t i) j : S32768x128.Idx) := by
  refine funext fun a => Fin.ext ?_
  obtain ⟨h0, h1⟩ := index5 t
  match a with
  | ⟨0, _⟩ => show win0_5.index t (0 : Fin 2) * 512 + 1 * i.val = 512 * t.val + i.val; omega
  | ⟨1, _⟩ => show win0_5.index t (1 : Fin 2) * 128 + 1 * j.val = j.val; omega

/-- The narrow result array as one function of the arguments. -/
def G_narrow (c : Dev nD) : Vec Ideal S32768x128 .f32 := fun i =>
  projArr (m ((c : Thread nD τ).loc main_arg0)) (m ((c : Thread nD τ).loc main_arg1)) (i 0)
    (colOrZero (fun k (q : Fin 32) => m ((c : Thread nD τ).loc main_arg2) (ix2 k (⟨3072 + q.val, by omega⟩ : Fin 3104))) (i 1).val)

/-- What a grid point writes back is its block of that function. -/
theorem flushed_G_narrow (c : Dev nD) (t : Fin cfg0.N) :
    (dats m 0 c).flushed 5 t = ((cfg0.win 5).blk t).view.read (Elt Ideal) (G_narrow m c) := by
  rw [flushed5]
  funext y
  obtain ⟨i, j, rfl⟩ : ∃ (i : Fin 512) (j : Fin 128), y = (ix2 i j : S512x128.Idx) :=
    ⟨y 0, y 1, funext fun a => match a with | ⟨0, _⟩ => rfl | ⟨1, _⟩ => rfl⟩
  show out0_5 _ _ _ _ (ix2 i j) = G_narrow m c (((cfg0.win 5).blk t).view.emb (ix2 i j))
  rw [emb5, GlaBlock.narrow_apply]
  simp only [iblk0, iblk1 m c t i, iblk2, iblk3, wideWeight_apply, narrowWeight_apply]
  rfl

/-- Every index of the narrow result array lies in some grid point's block. -/
theorem cover5 (x : S32768x128.Idx) :
    ∃ t : Fin cfg0.N, (cfg0.win 5).flush t = true ∧ x ∈ ((cfg0.win 5).blk t).view.set := by
  have hx0 : (x 0).val < 32768 := (x 0).isLt
  let t : Fin cfg0.N := ⟨(x 0).val / 512, by show _ < 64; omega⟩
  have e : ((cfg0.win 5).blk t).view.emb (ix2 (⟨(x 0).val % 512, by omega⟩ : Fin 512) (x 1 : Fin 128)) = x := by
    refine (emb5 t _ _).trans (funext fun a => Fin.ext ?_)
    match a with
    | ⟨0, _⟩ => show 512 * ((x 0).val / 512) + (x 0).val % 512 = (x 0).val; omega
    | ⟨1, _⟩ => rfl
  exact ⟨t, flush0_5 _, e ▸ ((cfg0.win 5).blk t).view.emb_mem_set _⟩

/-- The narrow result array after the run. -/
theorem final5 (c : Dev nD) : (dats m 0 c).arrAt 5 cfg0.N = G_narrow m c :=
  (dats m 0 c).arrAt_eq_of_cover 5 (G_narrow m c) (fun t _ => flushed_G_narrow m c t) cover5

/-- The kernel's run: it ends with the result arrays at those functions of the arguments, and the arguments unchanged. -/
theorem run : θ_run defs (onTc (τ := τ) (main (F := Ideal))) ⟨m, fun _ => 0, ρ⟩ fun r => ∀ c : Dev nD,
      r.2.mem ((c : Thread nD τ).loc main_v7_0) = G_wide m c
      ∧ r.2.mem ((c : Thread nD τ).loc main_v7_1) = G_narrow m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2⟩) (run_blocks m ρ)

end Cert.Proof.GlaArray

end
-- ==== Proof.GlaRef.lean ====
/- What the projection's reference computes: the modulated rows times the weight, cut into its two results. -/
module

public import proofs.«01_k».proof.Proof.ProjSpec
public import proofs.«01_k».proof.Proof.Gen.GlaRefIdeal.Read

@[expose] public section

set_option maxRecDepth 16384

noncomputable section

namespace Cert.Proof.GlaRef

open Idealize.ShloMosaic Idealize.ShloMosaic.TcCoe Idealize.ShloMosaic.StableHlo Idealize.SL.Sem
open Cert.GlaRefIdeal Cert.GlaRefIdeal.Gen Cert.GlaRefIdeal.Read Cert.Spec

variable (x0 : (⟨S32768x1024, .f32⟩ : BufTy).Contents (Elt Ideal)) (x1 : (⟨S8x6x1024, .f32⟩ : BufTy).Contents (Elt Ideal))
  (x2 : (⟨S1024x3104, .f32⟩ : BufTy).Contents (Elt Ideal))

/-- Row `s` of batch element `b` in the flat array. -/
abbrev flat (b : Fin 8) (s : Fin 4096) : Fin 32768 := ⟨b.val * 4096 + s.val, by omega⟩

/-- The rows by batch element and place in the sequence. -/
theorem rows (b : Fin 8) (s : Fin 4096) (k : Fin 1024) : val_main_v6 x0 (ix3 b s k) = x0 (ix2 (flat b s) k) := by
  pointwise [val_main_v6]

/-- The modulated rows. -/
theorem modulated (b : Fin 8) (s : Fin 4096) (k : Fin 1024) :
    val_main_v12 x0 x1 (ix3 b s k) = modRow (fun k => x0 (ix2 (flat b s) k)) (fun k => x1 (ix3 b 0 k)) (fun k => x1 (ix3 b 1 k)) k := by
  pointwise [val_main_v12, val_main_v11, val_main_v10, val_main_v9, val_main_v8, val_main_v7, val_main_cst, val_main_v1, val_main_v0]
  rw [rows]
  rfl

/-- The product. -/
theorem product (r : Fin 32768) (j : Fin 3104) :
    val_main_v14 x0 x1 x2 (ix2 r j) = projArr x0 x1 r (fun k => x2 (ix2 k j)) := by
  have h : val_main_v14 x0 x1 x2 (ix2 r j)
      = val_main_v13 x0 x1 x2 (ix3 (⟨r.val / 4096, by omega⟩ : Fin 8) (⟨r.val % 4096, by omega⟩ : Fin 4096) j) := by
    pointwise [val_main_v14]
  have hr : flat (⟨r.val / 4096, by omega⟩ : Fin 8) (⟨r.val % 4096, by omega⟩ : Fin 4096) = r := Fin.ext (by
    show r.val / 4096 * 4096 + r.val % 4096 = r.val; omega)
  rw [h]
  pointwise [val_main_v13]
  simp only [modulated, hr]
  rfl

/-- The first result: the first 3072 columns. -/
theorem wide (r : Fin 32768) (j : Fin 3072) :
    val_main_v17 x0 x1 x2 (ix2 r j) = projArr x0 x1 r (fun k => x2 (ix2 k ⟨j.val, by omega⟩)) := by
  rw [← product]
  pointwise [val_main_v17, val_main_v15]

/-- The second result: the last 32 columns, -/
theorem narrow_in (r : Fin 32768) (q : Fin 32) :
    val_main_v18 x0 x1 x2 (ix2 r (⟨q.val, by omega⟩ : Fin 128)) = projArr x0 x1 r (fun k => x2 (ix2 k ⟨3072 + q.val, by omega⟩)) := by
  rw [← product]
  have h : q.val < 32 := q.isLt
  pointwise [val_main_v18, val_main_v16]

/-- and zeros to their right. -/
theorem narrow_out (r : Fin 32768) (j : Fin 128) (h : ¬ j.val < 32) : val_main_v18 x0 x1 x2 (ix2 r j) = 0 := by
  pointwise [val_main_v18, val_main_call0_v0, val_main_c]
  rw [dif_neg h]
  show (((0#32 : BitVec 32).toInt : ℝ) : EReal) = 0
  simp

/-- The second result as one function of the arguments. -/
theorem narrow (r : Fin 32768) (j : Fin 128) :
    val_main_v18 x0 x1 x2 (ix2 r j)
      = projArr x0 x1 r (colOrZero (fun k (q : Fin 32) => x2 (ix2 k (⟨3072 + q.val, by omega⟩ : Fin 3104))) j.val) := by
  by_cases h : j.val < 32
  · refine (narrow_in x0 x1 x2 r ⟨j.val, h⟩).trans (congrArg _ (funext fun k => ?_))
    unfold colOrZero
    rw [dif_pos h]
  · rw [narrow_out x0 x1 x2 r j h]
    refine (projRow_zero _ _ _).symm.trans (congrArg _ (funext fun k => ?_))
    unfold colOrZero
    rw [dif_neg h]

end Cert.Proof.GlaRef

end
-- ==== Proof.GlaEq.lean ====
/- The projection kernel and its reference compute the same two arrays. -/
module

public import proofs.«01_k».proof.Defs
public import proofs.«01_k».proof.Proof.GlaArray
public import proofs.«01_k».proof.Proof.GlaRef

@[expose] public section

set_option maxRecDepth 16384

noncomputable section

namespace Cert.Proof.GlaEq

open Idealize.ShloMosaic Idealize.SL.Sem

/-- From equal arguments the kernel's array and the reference's are the same function of them. -/
theorem algebraic : algebraic_GlaIdeal_GlaRefIdeal (hGlaIdeal := Cert.GlaIdeal.Gen.facts) (hGlaRefIdeal := Cert.GlaRefIdeal.Gen.facts) := by
  intro m g m' g' _ h
  refine ⟨GlaArray.G_wide m, GlaArray.G_narrow m, GlaArray.run m g,
    (θ_run _ _ _).mono (fun r hr c => ⟨(hr c).1.trans ?_, (hr c).2.1.trans ?_, (hr c).2.2⟩) (Cert.GlaRefIdeal.Value.run m' g')⟩
  · rw [Cert.GlaRefIdeal.Read.val_main_v17_eq]
    funext i
    obtain ⟨r, j, rfl⟩ : ∃ (r : Fin 32768) (j : Fin 3072), i = (ix2 r j : Cert.GlaIdeal.S32768x3072.Idx) :=
      ⟨i 0, i 1, funext fun a => match a with | ⟨0, _⟩ => rfl | ⟨1, _⟩ => rfl⟩
    obtain ⟨h0, h1, h2⟩ := h c
    refine (GlaRef.wide _ _ _ r j).trans ?_
    rw [h0, h1, h2]
    rfl
  · rw [Cert.GlaRefIdeal.Read.val_main_v18_eq]
    funext i
    obtain ⟨r, j, rfl⟩ : ∃ (r : Fin 32768) (j : Fin 128), i = (ix2 r j : Cert.GlaIdeal.S32768x128.Idx) :=
      ⟨i 0, i 1, funext fun a => match a with | ⟨0, _⟩ => rfl | ⟨1, _⟩ => rfl⟩
    obtain ⟨h0, h1, h2⟩ := h c
    refine (GlaRef.narrow _ _ _ r j).trans ?_
    rw [h0, h1, h2]
    rfl

end Cert.Proof.GlaEq

end
-- ==== Proof.ConvSpec.lean ====
/- The projection followed by a short convolution along the sequence. -/
module

public import proofs.«01_k».proof.Proof.ProjSpec

@[expose] public section

noncomputable section

namespace Cert.Spec

open Idealize.ShloMosaic

/-- A sequence of 4096 values behind `p` zeros and before more zeros. -/
def padded (p : Nat) (f : Fin 4096 → EReal) (n : Nat) : EReal :=
  if h : p ≤ n ∧ n < p + 4096 then f ⟨n - p, by omega⟩ else 0

/-- Five taps on the values from place `n` on, and a bias; -/
def taps5 (t : Nat → EReal) (w : Fin 5 → EReal) (b : EReal) (n : Nat) : EReal :=
  t n * w 0 + t (n + 1) * w 1 + t (n + 2) * w 2 + t (n + 3) * w 3 + t (n + 4) * w 4 + b

/-- and three. -/
def taps3 (t : Nat → EReal) (w : Fin 3 → EReal) (b : EReal) (n : Nat) : EReal :=
  t n * w 0 + t (n + 1) * w 1 + t (n + 2) * w 2 + b

/-- The convolution of a sequence with five taps, centred, at place `s`; -/
def conv5 (f : Fin 4096 → EReal) (w : Fin 5 → EReal) (b : EReal) (s : Nat) : EReal := taps5 (padded 2 f) w b s

/-- and with three. -/
def conv3 (f : Fin 4096 → EReal) (w : Fin 3 → EReal) (b : EReal) (s : Nat) : EReal := taps3 (padded 1 f) w b s

/-- The taps read five values. -/
theorem taps5_congr (t t' : Nat → EReal) (w : Fin 5 → EReal) (b : EReal) (n n' : Nat) (h : ∀ d, d ≤ 4 → t (n + d) = t' (n' + d)) :
    taps5 t w b n = taps5 t' w b n' := by
  unfold taps5
  rw [← h 1 (by omega), ← h 2 (by omega), ← h 3 (by omega), ← h 4 (by omega), ← show t n = t' n' from h 0 (by omega)]

/-- And three. -/
theorem taps3_congr (t t' : Nat → EReal) (w : Fin 3 → EReal) (b : EReal) (n n' : Nat) (h : ∀ d, d ≤ 2 → t (n + d) = t' (n' + d)) :
    taps3 t w b n = taps3 t' w b n' := by
  unfold taps3
  rw [← h 1 (by omega), ← h 2 (by omega), ← show t n = t' n' from h 0 (by omega)]

/-- Columns 6144 to 6207 of a weight, in two groups of 32 with 96 columns of zeros after each. -/
def gapCol (w : Fin 1024 → Fin 6208 → EReal) (c : Fin 256) (k : Fin 1024) : EReal :=
  if h : c.val % 128 < 32 then w k ⟨6144 + (c.val / 128 * 32 + c.val % 128), by omega⟩ else 0

/-- One column of the projection along the sequence of batch element `q`. -/
def projSeq (x : (⟨2, ![32768, 1024]⟩ : Shape).Idx → EReal) (mod : (⟨3, ![8, 6, 1024]⟩ : Shape).Idx → EReal) (q : Fin 8)
    (w : Fin 1024 → EReal) (s : Fin 4096) : EReal :=
  projRow (fun k => x (ix2 ⟨q.val * 4096 + s.val, by omega⟩ k)) (fun k => mod (ix3 q 0 k)) (fun k => mod (ix3 q 1 k)) w

/-- Five taps in the order that starts from the middle one and its bias. -/
theorem conv5_mid (a b c d e w0 w1 w2 w3 w4 z : EReal) :
    c * w2 + z + a * w0 + b * w1 + d * w3 + e * w4 = a * w0 + b * w1 + c * w2 + d * w3 + e * w4 + z := by
  generalize a * w0 = a'
  generalize b * w1 = b'
  generalize c * w2 = c'
  generalize d * w3 = d'
  generalize e * w4 = e'
  abel

/-- Three taps likewise. -/
theorem conv3_mid (a b c w0 w1 w2 z : EReal) : b * w1 + z + a * w0 + c * w2 = a * w0 + b * w1 + c * w2 + z := by
  generalize a * w0 = a'
  generalize b * w1 = b'
  generalize c * w2 = c'
  abel

/-- A block of 512 places with eight more on either side: the row at place `n`, the sides zero where they lie outside the
    sequence. -/
def haloRow (first last : Prop) [Decidable first] [Decidable last] (top mid bot : Nat → Fin 1024 → EReal) (n : Nat) (k : Fin 1024) : EReal :=
  if n < 8 then (if first then 0 else top n k) else if n < 520 then mid (n - 8) k else (if last then 0 else bot (n - 520) k)

/-- Row `n` of an array of `N` rows, zero from `N` on. -/
def rowOf {N : Nat} (x : Fin N → Fin 1024 → EReal) (n : Nat) (k : Fin 1024) : EReal := if h : n < N then x ⟨n, h⟩ k else 0

/-- The product of such a row with a column is the sequence's, padded, when the three parts are the sequence's rows around the
    block's own. -/
theorem halo_tap (first last : Prop) [Decidable first] [Decidable last] (top mid bot : Nat → Fin 1024 → EReal) (w : Fin 1024 → EReal)
    (f : Fin 4096 → EReal) (p o : Nat) (hp : p ≤ 8) (ho : o + 512 ≤ 4096) (hfirst : first ↔ o = 0) (hlast : last ↔ o + 512 = 4096)
    (htop : ∀ n (h : n < 8) (h' : 8 ≤ o), ∑ k, top n k * w k = f ⟨o - 8 + n, by omega⟩)
    (hmid : ∀ n (h : n < 512), ∑ k, mid n k * w k = f ⟨o + n, by omega⟩)
    (hbot : ∀ n (h : n < 8) (h' : o + 512 + 8 ≤ 4096), ∑ k, bot n k * w k = f ⟨o + 512 + n, by omega⟩)
    (h8 : o % 8 = 0) (n : Nat) (h1 : 8 - p ≤ n) (h2 : n < 520 + p) :
    ∑ k, haloRow first last top mid bot n k * w k = padded p f (o + n + p - 8) := by
  unfold haloRow padded
  have at_ : ∀ {i j : Nat} (hi : i < 4096) (hj : j < 4096), i = j → f ⟨i, hi⟩ = f ⟨j, hj⟩ := fun _ _ e => by subst e; rfl
  by_cases n8 : n < 8
  · simp only [if_pos n8]
    by_cases hf : first
    · have := hfirst.1 hf
      simp only [if_pos hf, zero_mul, Finset.sum_const_zero]
      rw [dif_neg (by omega)]
    · have : o ≠ 0 := fun e => hf (hfirst.2 e)
      simp only [if_neg hf]
      rw [htop n n8 (by omega), dif_pos (by omega)]
      exact at_ _ _ (by omega)
  · simp only [if_neg n8]
    by_cases n520 : n < 520
    · simp only [if_pos n520]
      rw [hmid _ (by omega), dif_pos (by omega)]
      exact at_ _ _ (by omega)
    · simp only [if_neg n520]
      by_cases hl : last
      · have := hlast.1 hl
        simp only [if_pos hl, zero_mul, Finset.sum_const_zero]
        rw [dif_neg (by omega)]
      · have : o + 512 ≠ 4096 := fun e => hl (hlast.2 e)
        simp only [if_neg hl]
        rw [hbot _ (by omega) (by omega), dif_pos (by omega)]
        exact at_ _ _ (by omega)

end Cert.Spec

end
-- ==== Proof.SinBlock.lean ====
/- What one grid point of the state-space projection kernel leaves in its three blocks. -/
module

public import proofs.«01_k».proof.Proof.ConvSpec
public import proofs.«01_k».proof.Proof.SsdSpec
public import proofs.«01_k».proof.Proof.Gen.SinIdeal.Frame
public import Idealize.ShloMosaic.Lib.Pipeline.ValueKit

@[expose] public section

set_option maxRecDepth 16384

noncomputable section

namespace Cert.Proof.SinBlock

open Idealize.ShloMosaic Idealize.SL.Sem Cert.SinIdeal Cert.SinIdeal.Gen Cert.Spec

/-- The block's rows with eight on either side, modulated, as one array: the sides zero at the sequence's ends. -/
def wide (i : grid0.Coords) (x0 : Vec Ideal S8x1024 .f32) (x1 : Vec Ideal S512x1024 .f32) (x2 : Vec Ideal S8x1024 .f32)
    (x3 : Vec Ideal S1x6x1024 .f32) : Nat → Fin 1024 → EReal :=
  haloRow ((i 0).val % 8 = 0) ((i 0).val % 8 = 7)
    (fun n => modRow (rowOf (fun a k => x0 (ix2 a k)) n) (fun k => x3 (ix3 0 0 k)) (fun k => x3 (ix3 0 1 k)))
    (fun n => modRow (rowOf (fun a k => x1 (ix2 a k)) n) (fun k => x3 (ix3 0 0 k)) (fun k => x3 (ix3 0 1 k)))
    (fun n => modRow (rowOf (fun a k => x2 (ix2 a k)) n) (fun k => x3 (ix3 0 0 k)) (fun k => x3 (ix3 0 1 k)))

/-- The test for the sequence's end, as the body computes it from its grid coordinate. -/
abbrev atEnd (g e : BitVec 32) : BitVec 1 :=
  Scalar.cmpi .eq (Scalar.select (Scalar.andi (Scalar.xori (Scalar.cmpi .slt (Scalar.remsi g (Scalar.select (Scalar.cmpi .eq 8#32 0#32) 1#32 8#32)) 0#32) (Scalar.cmpi .slt (Scalar.select (Scalar.cmpi .eq 8#32 0#32) 1#32 8#32) 0#32)) (Scalar.cmpi .ne (Scalar.remsi g (Scalar.select (Scalar.cmpi .eq 8#32 0#32) 1#32 8#32)) 0#32)) (Scalar.addi (Scalar.remsi g (Scalar.select (Scalar.cmpi .eq 8#32 0#32) 1#32 8#32)) (Scalar.select (Scalar.cmpi .eq 8#32 0#32) 1#32 8#32)) (Scalar.remsi g (Scalar.select (Scalar.cmpi .eq 8#32 0#32) 1#32 8#32))) e

theorem ends : ∀ n : Fin 64, atEnd (BitVec.ofNat 32 n.val) 0#32 = (if n.val % 8 = 0 then 1#1 else 0#1)
    ∧ atEnd (BitVec.ofNat 32 n.val) 7#32 = if n.val % 8 = 7 then 1#1 else 0#1 := by
  decide +kernel

/-- The rows the body multiplies. -/
theorem wide_apply (i : grid0.Coords) (x0 : Vec Ideal S8x1024 .f32) (x1 : Vec Ideal S512x1024 .f32) (x2 : Vec Ideal S8x1024 .f32)
    (x3 : Vec Ideal S1x6x1024 .f32) (n : Fin 528) (k : Fin 1024) :
    k0_pay6 (k0_pay3 x3) (atEnd (BitVec.ofNat 32 (i 0).val) 7#32) (k0_pay4 (F := Ideal)) (k0_pay5 i x3 x0) x1 x2 (ix2 n k)
      = wide i x0 x1 x2 x3 n.val k := by
  have hsel : ∀ (p : Prop) [Decidable p] (a b : EReal), Scalar.select (if p then 1#1 else 0#1) a b = if p then a else b := by
    intro p _ a b
    split <;> rfl
  have htop : ∀ a : Fin 8, k0_pay5 i x3 x0 (ix2 a k)
      = Scalar.select (atEnd (BitVec.ofNat 32 (i 0).val) 0#32) (0 : EReal)
          (modRow (fun k => x0 (ix2 a k)) (fun k => x3 (ix3 0 0 k)) (fun k => x3 (ix3 0 1 k)) k) := by
    intro a
    pointwise [k0_pay5, k0_pay4, k0_pay3]
    rfl
  have hi : (i 0).val < 64 := (i 0).isLt
  obtain ⟨e0, e7⟩ := ends ⟨(i 0).val, hi⟩
  dsimp only at e0 e7
  pointwise [k0_pay6, k0_pay3]
  simp only [htop]
  rw [e0, e7]
  simp only [hsel]
  have z : ∀ x, k0_pay4 (F := Ideal) x = 0 := fun x => by pointwise [k0_pay4]
  unfold wide haloRow modRow rowOf
  split
  case isTrue h => simp only [dif_pos h]
  case isFalse h =>
    split
    case isTrue h' => rw [if_pos (show n.val < 520 by omega)]; simp only [dif_pos h']
    case isFalse h' =>
      rw [if_neg (show ¬ n.val < 520 by omega)]
      simp only [dif_pos (show n.val - 520 < 8 by omega), z]
      rfl

/-- The convolved and activated tile: one column of 1024 from the rows `u`. -/
theorem tile (u : FVec Ideal S528x1024 .bf16) (w : Vec Ideal S1024x1024 .bf16) (c0 c1 c2 c3 c4 b : Vec Ideal S1x1024 .f32)
    (i : Fin 512) (j : Fin 1024) :
    k0_pay1 (k0_pay19 u w) (k0_pay20 u w c2 b) (k0_pay21 u w) c0 c1 c3 c4 (ix2 i j)
      = silu ((∑ k, u (ix2 ⟨6 + i.val, by omega⟩ k) * w (ix2 k j)) * c0 (ix2 0 j) + (∑ k, u (ix2 ⟨7 + i.val, by omega⟩ k) * w (ix2 k j)) * c1 (ix2 0 j)
        + (∑ k, u (ix2 ⟨8 + i.val, by omega⟩ k) * w (ix2 k j)) * c2 (ix2 0 j) + (∑ k, u (ix2 ⟨9 + i.val, by omega⟩ k) * w (ix2 k j)) * c3 (ix2 0 j)
        + (∑ k, u (ix2 ⟨10 + i.val, by omega⟩ k) * w (ix2 k j)) * c4 (ix2 0 j) + b (ix2 0 j)) := by
  have hp : ∀ n : Fin 528, k0_pay19 u w (ix2 n j) = ∑ k, u (ix2 n k) * w (ix2 k j) := by
    intro n
    pointwise [k0_pay19]
  have e0 : (⟨(8 + i.val + 528 - 2) % 528, by omega⟩ : Fin 528) = ⟨6 + i.val, by omega⟩ := Fin.ext (by show (8 + i.val + 528 - 2) % 528 = 6 + i.val; omega)
  have e1 : (⟨(8 + i.val + 528 - 1) % 528, by omega⟩ : Fin 528) = ⟨7 + i.val, by omega⟩ := Fin.ext (by show (8 + i.val + 528 - 1) % 528 = 7 + i.val; omega)
  have e3 : (⟨(8 + i.val + 528 - 527) % 528, by omega⟩ : Fin 528) = ⟨9 + i.val, by omega⟩ := Fin.ext (by show (8 + i.val + 528 - 527) % 528 = 9 + i.val; omega)
  have e4 : (⟨(8 + i.val + 528 - 526) % 528, by omega⟩ : Fin 528) = ⟨10 + i.val, by omega⟩ := Fin.ext (by show (8 + i.val + 528 - 526) % 528 = 10 + i.val; omega)
  pointwise [k0_pay1, k0_pay20, k0_pay21]
  rw [e0, e1, e3, e4, conv5_mid]
  simp only [hp]
  rfl

variable (v1 : FVec Ideal S6x1024 .f32) (e : BitVec 1) (z t : FVec Ideal S8x1024 .bf16) (x1 : Vec Ideal S512x1024 .f32) (x2 : Vec Ideal S8x1024 .f32)
  (u : FVec Ideal S528x1024 .bf16) (w : Vec Ideal S1024x1024 .bf16) (c0 c1 c2 c3 c4 b : Vec Ideal S1x1024 .f32)

/-- The body writes the same tile in four forms, cut at other places. -/
theorem tile_b : k0_pay18 (k0_pay16 u w) (k0_pay17 u w c2 b) c0 c1 c3 c4
    = k0_pay1 (k0_pay19 u w) (k0_pay20 u w c2 b) (k0_pay21 u w) c0 c1 c3 c4 := rfl

theorem tile_c : k0_pay15 (k0_pay13 u w) (k0_pay14 u w c2) b c0 c1 c3 c4
    = k0_pay1 (k0_pay19 u w) (k0_pay20 u w c2 b) (k0_pay21 u w) c0 c1 c3 c4 := rfl

theorem tile_d : k0_pay12 (k0_pay10 v1 e z t x1 x2 w) (k0_pay11 v1 e z t x1 x2 w c2) b c0 c1 c3 c4
    = k0_pay1 (k0_pay19 (k0_pay6 v1 e z t x1 x2) w) (k0_pay20 (k0_pay6 v1 e z t x1 x2) w c2 b) (k0_pay21 (k0_pay6 v1 e z t x1 x2) w) c0 c1 c3 c4 := rfl

/-- A tile of the product of the block's own rows, -/
theorem plain (i : Fin 512) (j : Fin 1024) :
    k0_pay8 v1 e z t x1 x2 w (ix2 i j) = ∑ k, k0_pay6 v1 e z t x1 x2 (ix2 (⟨8 + i.val, by omega⟩ : Fin 528) k) * w (ix2 k j) := by
  pointwise [k0_pay8, k0_pay7]

theorem plain_b : k0_pay9 v1 e z t x1 x2 w = k0_pay8 v1 e z t x1 x2 w := rfl

/-- and the narrow product. -/
theorem narrow (w : Vec Ideal S1024x256 .bf16) (i : Fin 512) (j : Fin 256) :
    k0_pay2 (k0_pay7 v1 e z t x1 x2) w (ix2 i j) = ∑ k, k0_pay6 v1 e z t x1 x2 (ix2 (⟨8 + i.val, by omega⟩ : Fin 528) k) * w (ix2 k j) := by
  pointwise [k0_pay2, k0_pay7]

/-- In the middle the rows are the block's own. -/
theorem wide_mid (g : grid0.Coords) (x0 : Vec Ideal S8x1024 .f32) (x1 : Vec Ideal S512x1024 .f32) (x2 : Vec Ideal S8x1024 .f32)
    (x3 : Vec Ideal S1x6x1024 .f32) (i : Fin 512) (k : Fin 1024) :
    wide g x0 x1 x2 x3 (8 + i.val) k = modRow (fun k => x1 (ix2 i k)) (fun k => x3 (ix3 0 0 k)) (fun k => x3 (ix3 0 1 k)) k := by
  unfold wide haloRow modRow rowOf
  rw [if_neg (show ¬ 8 + i.val < 8 by omega), if_pos (show 8 + i.val < 520 by omega)]
  simp only [Nat.add_sub_cancel_left, dif_pos i.isLt, Fin.eta]

section results

variable (g : grid0.Coords) (x0 : Vec Ideal S8x1024 .f32) (x1 : Vec Ideal S512x1024 .f32) (x2 : Vec Ideal S8x1024 .f32)
    (x3 : Vec Ideal S1x6x1024 .f32) (x4 : Vec Ideal S1024x2048 .bf16) (x5 : Vec Ideal S1024x4096 .bf16) (x6 : Vec Ideal S5x4096 .f32)
    (x7 : Vec Ideal S1x4096 .f32) (x8 : Vec Ideal S1024x256 .bf16)

/-- The body's first result in its block, row by row. -/
theorem gate_apply (i : Fin 512) (j : Fin 2048) :
    out0_9 g x0 x1 x2 x3 x4 x5 x6 x7 x8 (ix2 i j)
      = projRow (fun k => x1 (ix2 i k)) (fun k => x3 (ix3 0 0 k)) (fun k => x3 (ix3 0 1 k)) (fun k => x4 (ix2 k j)) := by
  have hz : (![0, 0] : Fin 2 → Nat) = fun _ => 0 := funext fun a => by fin_cases a <;> rfl
  have hz3 : (![0, 0, 0] : Fin 3 → Nat) = fun _ => 0 := funext fun a => by fin_cases a <;> rfl
  have one : ∀ (w : Vec Ideal S1024x1024 .bf16) (x : S512x1024.Idx), (x 0).val = i.val →
      (∀ k : Fin 1024, w (ix2 k (x 1)) = x4 (ix2 k j)) →
      k0_pay8 (k0_pay3 x3) (atEnd (BitVec.ofNat 32 (g 0).val) 7#32) (k0_pay4 (F := Ideal)) (k0_pay5 g x3 x0) x1 x2 w x
        = projRow (fun k => x1 (ix2 i k)) (fun k => x3 (ix3 0 0 k)) (fun k => x3 (ix3 0 1 k)) (fun k => x4 (ix2 k j)) := by
    intro w x hx hw
    obtain ⟨a, b, rfl⟩ : ∃ (a : Fin 512) (b : Fin 1024), x = (ix2 a b : S512x1024.Idx) :=
      ⟨x 0, x 1, funext fun a => match a with | ⟨0, _⟩ => rfl | ⟨1, _⟩ => rfl⟩
    obtain rfl : a = i := Fin.ext hx
    rw [plain]
    simp only [wide_apply, wide_mid]
    exact congrArg (projRow _ _ _) (funext hw)
  unfold_out out0_9
  rw [View.ld_unit_zero (S := S512x1024) hz, View.ld_unit_zero (S := S8x1024) hz, View.ld_unit_zero (S := S8x1024) hz, View.ld_unit_zero (S := S1x6x1024) hz3]
  canon_tiles x h
  case piece0 =>
    refine (congrFun (plain_b _ _ _ _ _ _ _) x).trans (one _ x h0.symm fun k => View.ld_unit_apply_of _ _ _ _ _ _ fun a => ?_)
    match a with
    | ⟨0, _⟩ => exact (Nat.zero_add _).symm
    | ⟨1, _⟩ => exact h1
  case piece1 =>
    refine one _ x h0.symm fun k => View.ld_unit_apply_of _ _ _ _ _ _ fun a => ?_
    match a with
    | ⟨0, _⟩ => exact (Nat.zero_add _).symm
    | ⟨1, _⟩ => exact h1.trans (Nat.zero_add _).symm

/-- The body's second result in its block: the five taps on the rows around. -/
theorem conv_apply (i : Fin 512) (j : Fin 4096) :
    out0_10 g x0 x1 x2 x3 x4 x5 x6 x7 x8 (ix2 i j)
      = silu (taps5 (fun n => ∑ k, wide g x0 x1 x2 x3 n k * x5 (ix2 k j)) (fun q => x6 (ix2 q j)) (x7 (ix2 0 j)) (6 + i.val)) := by
  have hz : (![0, 0] : Fin 2 → Nat) = fun _ => 0 := funext fun a => by fin_cases a <;> rfl
  have hz3 : (![0, 0, 0] : Fin 3 → Nat) = fun _ => 0 := funext fun a => by fin_cases a <;> rfl
  have one : ∀ (w : Vec Ideal S1024x1024 .bf16) (c0 c1 c2 c3 c4 b : Vec Ideal S1x1024 .f32) (x : S512x1024.Idx), (x 0).val = i.val →
      (∀ k : Fin 1024, w (ix2 k (x 1)) = x5 (ix2 k j)) → c0 (ix2 0 (x 1)) = x6 (ix2 0 j) → c1 (ix2 0 (x 1)) = x6 (ix2 1 j) →
      c2 (ix2 0 (x 1)) = x6 (ix2 2 j) → c3 (ix2 0 (x 1)) = x6 (ix2 3 j) → c4 (ix2 0 (x 1)) = x6 (ix2 4 j) → b (ix2 0 (x 1)) = x7 (ix2 0 j) →
      ∀ u : FVec Ideal S528x1024 .bf16, u = k0_pay6 (k0_pay3 x3) (atEnd (BitVec.ofNat 32 (g 0).val) 7#32) (k0_pay4 (F := Ideal)) (k0_pay5 g x3 x0) x1 x2 →
      k0_pay1 (k0_pay19 u w) (k0_pay20 u w c2 b) (k0_pay21 u w) c0 c1 c3 c4 x
        = silu (taps5 (fun n => ∑ k, wide g x0 x1 x2 x3 n k * x5 (ix2 k j)) (fun q => x6 (ix2 q j)) (x7 (ix2 0 j)) (6 + i.val)) := by
    intro w c0 c1 c2 c3 c4 b x hx hw h0 h1 h2 h3 h4 hb u hu
    obtain ⟨a, q, rfl⟩ : ∃ (a : Fin 512) (q : Fin 1024), x = (ix2 a q : S512x1024.Idx) :=
      ⟨x 0, x 1, funext fun a => match a with | ⟨0, _⟩ => rfl | ⟨1, _⟩ => rfl⟩
    obtain rfl : a = i := Fin.ext hx
    change ∀ k : Fin 1024, w (ix2 k q) = _ at hw
    change c0 (ix2 0 q) = _ at h0
    change c1 (ix2 0 q) = _ at h1
    change c2 (ix2 0 q) = _ at h2
    change c3 (ix2 0 q) = _ at h3
    change c4 (ix2 0 q) = _ at h4
    change b (ix2 0 q) = _ at hb
    rw [tile, h0, h1, h2, h3, h4, hb, hu]
    simp only [wide_apply, hw]
    unfold taps5
    rw [show 6 + a.val + 1 = 7 + a.val by omega, show 6 + a.val + 2 = 8 + a.val by omega, show 6 + a.val + 3 = 9 + a.val by omega,
      show 6 + a.val + 4 = 10 + a.val by omega]
  unfold_out out0_10
  rw [View.ld_unit_zero (S := S512x1024) hz, View.ld_unit_zero (S := S8x1024) hz, View.ld_unit_zero (S := S8x1024) hz, View.ld_unit_zero (S := S1x6x1024) hz3]
  canon_tiles x h
  case piece0 =>
    refine one _ _ _ _ _ _ _ x h0.symm (fun k => ?_) ?_ ?_ ?_ ?_ ?_ ?_ _ rfl <;> refine View.ld_unit_apply_of _ _ _ _ _ _ fun a => ?_ <;>
      match a with
      | ⟨0, _⟩ => first | rfl | exact (Nat.zero_add _).symm
      | ⟨1, _⟩ => exact h1
  case piece1 =>
    refine (congrFun (tile_b _ _ _ _ _ _ _ _) x).trans (one _ _ _ _ _ _ _ x h0.symm (fun k => ?_) ?_ ?_ ?_ ?_ ?_ ?_ _ rfl) <;>
      refine View.ld_unit_apply_of _ _ _ _ _ _ fun a => ?_ <;>
      match a with
      | ⟨0, _⟩ => first | rfl | exact (Nat.zero_add _).symm
      | ⟨1, _⟩ => exact h1
  case piece2 =>
    refine (congrFun (tile_c _ _ _ _ _ _ _ _) x).trans (one _ _ _ _ _ _ _ x h0.symm (fun k => ?_) ?_ ?_ ?_ ?_ ?_ ?_ _ rfl) <;>
      refine View.ld_unit_apply_of _ _ _ _ _ _ fun a => ?_ <;>
      match a with
      | ⟨0, _⟩ => first | rfl | exact (Nat.zero_add _).symm
      | ⟨1, _⟩ => exact h1
  case piece3 =>
    refine (congrFun (tile_d _ _ _ _ _ _ _ _ _ _ _ _ _) x).trans (one _ _ _ _ _ _ _ x h0.symm (fun k => ?_) ?_ ?_ ?_ ?_ ?_ ?_ _ rfl) <;>
      refine View.ld_unit_apply_of _ _ _ _ _ _ fun a => ?_ <;>
      match a with
      | ⟨0, _⟩ => first | rfl | exact (Nat.zero_add _).symm
      | ⟨1, _⟩ => exact h1.trans (Nat.zero_add _).symm

/-- The body's third result in its block, row by row. -/
theorem narrow_apply (i : Fin 512) (j : Fin 256) :
    out0_11 g x0 x1 x2 x3 x4 x5 x6 x7 x8 (ix2 i j)
      = projRow (fun k => x1 (ix2 i k)) (fun k => x3 (ix3 0 0 k)) (fun k => x3 (ix3 0 1 k)) (fun k => x8 (ix2 k j)) := by
  have hz : (![0, 0] : Fin 2 → Nat) = fun _ => 0 := funext fun a => by fin_cases a <;> rfl
  have hz3 : (![0, 0, 0] : Fin 3 → Nat) = fun _ => 0 := funext fun a => by fin_cases a <;> rfl
  unfold_out out0_11
  rw [View.canon_unit_zero (S := S512x256) hz, View.ld_unit_zero (S := S512x1024) hz, View.ld_unit_zero (S := S8x1024) hz,
    View.ld_unit_zero (S := S8x1024) hz, View.ld_unit_zero (S := S1x6x1024) hz3, View.ld_unit_zero (S := S1024x256) hz, narrow]
  exact (Finset.sum_congr rfl fun k _ => by rw [wide_apply, wide_mid])

end results

end Cert.Proof.SinBlock

end
-- ==== Proof.SinHost.lean ====
/- The arrays the host prepares for the projection with the convolution: parts of the weight, and the bias as a row. -/
module

public import proofs.«01_k».proof.Proof.ConvSpec
public import proofs.«01_k».proof.Proof.Gen.SinIdeal.Frame
public import Idealize.ShloMosaic.Lib.Pointwise
public import Idealize.ShloMosaic.Lib.StableHlo.Run
public import Idealize.ShloMosaic.Lib.Routing.OpsOne

@[expose] public section

set_option maxRecDepth 16384

noncomputable section

namespace Cert.Proof.SinHost

open Idealize.ShloMosaic Idealize.ShloMosaic.TcCoe Idealize.ShloMosaic.StableHlo Idealize.SL.Sem
open Cert.SinIdeal Cert.SinIdeal.Gen Cert.Spec

variable (m : (ℓ : Loc nD τ sig) → Buf (Elt Ideal) ℓ)

/-- The weight's first 6144 columns. -/
def mainWeight (c : Dev nD) : FVec Ideal S1024x6144 .bf16 :=
  truncf .bf16 (extractStridedSlice S1024x6144 ![0, 0] (m ((c : Thread nD τ).loc main_arg2) : FVec Ideal S1024x6208 .f32)
    slices_S1024x6208_S1024x6144_0_0) bitsLt_bf16_f32

/-- Of these the first 2048, -/
def gateWeight (c : Dev nD) : FVec Ideal S1024x2048 .bf16 :=
  extractStridedSlice S1024x2048 ![0, 0] (mainWeight m c) slices_S1024x6144_S1024x2048_0_0

/-- and the other 4096. -/
def convWeight (c : Dev nD) : FVec Ideal S1024x4096 .bf16 :=
  extractStridedSlice S1024x4096 ![0, 2048] (mainWeight m c) slices_S1024x6144_S1024x4096_0_2048

theorem V_v10 (c : Dev nD) : V m c main_v10 = gateWeight m c := by
  show after hostOps0 (fun b => m (c, b)) (main_v10 : DevRef τ sig) = _
  after_results
  rfl

theorem V_v11 (c : Dev nD) : V m c main_v11 = convWeight m c := by
  show after hostOps0 (fun b => m (c, b)) (main_v11 : DevRef τ sig) = _
  after_results
  rfl

theorem gateWeight_apply (c : Dev nD) (k : Fin 1024) (j : Fin 2048) :
    gateWeight m c (ix2 k j) = m ((c : Thread nD τ).loc main_arg2) (ix2 k (⟨j.val, by omega⟩ : Fin 6208)) := by
  pointwise [gateWeight, mainWeight]

theorem convWeight_apply (c : Dev nD) (k : Fin 1024) (j : Fin 4096) :
    convWeight m c (ix2 k j) = m ((c : Thread nD τ).loc main_arg2) (ix2 k (⟨2048 + j.val, by omega⟩ : Fin 6208)) := by
  pointwise [convWeight, mainWeight]

/-- The bias as a row. -/
def biasRow (c : Dev nD) : FVec Ideal S1x4096 .f32 :=
  shapeCast S1x4096 (m ((c : Thread nD τ).loc main_arg4) : FVec Ideal S4096 .f32) shapeCasts_S4096_S1x4096

theorem V_v12 (c : Dev nD) : V m c main_v12 = biasRow m c := by
  show after hostOps0 (fun b => m (c, b)) (main_v12 : DevRef τ sig) = _
  after_results
  rfl

set_option maxRecDepth 65536 in
theorem biasRow_apply (c : Dev nD) (j : Fin 4096) : biasRow m c (ix2 0 j) = m ((c : Thread nD τ).loc main_arg4) (ix1 j) := by
  pointwise [biasRow]

/-- Where an element of 32 columns lands in the wider array, written from column `o` on. -/
theorem lands (idx : IVec S1 32) (o : Nat) (hidx : (idx (ix1 0)).toInt = o) (k k' : Fin 1024) (q : Fin 32) (j : Fin 256) :
    scatter_S1024x256_S1_S1024x32_01_n_1_0.resultIdx? (ix2 k' q) idx = some (ix2 k j) ↔ k'.val = k.val ∧ o + q.val = j.val := by
  have s0 : scatter_S1024x256_S1_S1024x32_01_n_1_0.start (ix2 k' q) idx 0 = 0 := rfl
  have s1 : scatter_S1024x256_S1_S1024x32_01_n_1_0.start (ix2 k' q) idx 1 = o := by
    have e : ∀ i : S1.Idx, i = ix1 0 := fun i => funext fun a => match a with | ⟨0, _⟩ => Subsingleton.elim (α := Fin 1) _ _
    unfold ScatterDims.start
    rw [dif_pos (by decide), e (ScatterDims.siIdx _ _ _)]
    exact hidx
  have w0 : scatter_S1024x256_S1_S1024x32_01_n_1_0.window (ix2 k' q) 0 = k'.val := rfl
  have w1 : scatter_S1024x256_S1_S1024x32_01_n_1_0.window (ix2 k' q) 1 = q.val := rfl
  refine (Routing.resultIdx?_ix2 scatter_S1024x256_S1_S1024x32_01_n_1_0 (ix2 k' q) idx k j).trans ?_
  rw [s0, s1, w0, w1]
  omega

/-- 32 columns written over an array from column `o` on, read there and elsewhere. -/
theorem written (x : FVec Ideal S1024x256 .f32) (idx : IVec S1 32) (o : Nat) (hidx : (idx (ix1 0)).toInt = o) (u : FVec Ideal S1024x32 .f32)
    (k : Fin 1024) (j : Fin 256) :
    Host.scatter scatter_S1024x256_S1_S1024x32_01_n_1_0 (fun _ b => b) x idx u (ix2 k j)
      = if h : o ≤ j.val ∧ j.val < o + 32 then u (ix2 k ⟨j.val - o, by omega⟩) else x (ix2 k j) := by
  have two : ∀ u : S1024x32.Idx, ∃ (k' : Fin 1024) (q : Fin 32), u = ix2 k' q := fun u =>
    ⟨u 0, u 1, funext fun a => match a with | ⟨0, _⟩ => rfl | ⟨1, _⟩ => rfl⟩
  split
  case isTrue hj =>
    refine Routing.scatter_set_hit _ _ _ _ _ _ (fun u hu => ?_) (ix2 k (⟨j.val - o, by omega⟩ : Fin 32))
      ((lands _ o hidx _ _ _ _).2 ⟨rfl, by show o + (j.val - o) = j.val; omega⟩)
    obtain ⟨k', q, rfl⟩ := two u
    obtain ⟨e1, e2⟩ := (lands _ o hidx _ _ _ _).1 hu
    obtain rfl : k' = k := Fin.ext e1
    exact congrArg (fun z => u (ix2 k' z)) (Fin.ext (show q.val = j.val - o by omega))
  case isFalse hj =>
    refine Routing.scatter_set_miss _ _ _ _ _ fun u hu => ?_
    obtain ⟨k', q, rfl⟩ := two u
    have := ((lands _ o hidx _ _ _ _).1 hu).2
    omega

/-- The weight's last 64 columns, written in two groups over zeros. -/
def narrowWeight (c : Dev nD) : FVec Ideal S1024x256 .bf16 :=
  truncf .bf16 (Host.scatter scatter_S1024x256_S1_S1024x32_01_n_1_0 (fun _ b => b)
    (Host.scatter scatter_S1024x256_S1_S1024x32_01_n_1_0 (fun _ b => b)
      (broadcastInDim S1024x256 ![] bcast_S_S1024x256 (constant (F := Ideal) S_ .f32 0x00000000#32))
      (broadcastInDim S1 ![] bcast_S_S1 (constantI S_ 32 0#32))
      (extractStridedSlice S1024x32 ![0, 6144] (m ((c : Thread nD τ).loc main_arg2) : FVec Ideal S1024x6208 .f32)
        slices_S1024x6208_S1024x32_0_6144))
    (broadcastInDim S1 ![] bcast_S_S1 (constantI S_ 32 128#32))
    (extractStridedSlice S1024x32 ![0, 6176] (m ((c : Thread nD τ).loc main_arg2) : FVec Ideal S1024x6208 .f32)
      slices_S1024x6208_S1024x32_0_6176)) bitsLt_bf16_f32

theorem V_v9 (c : Dev nD) : V m c main_v9 = narrowWeight m c := by
  show after hostOps0 (fun b => m (c, b)) (main_v9 : DevRef τ sig) = _
  after_results
  rfl

/-- Each group is followed by zeros. -/
theorem narrowWeight_apply (c : Dev nD) (k : Fin 1024) (j : Fin 256) :
    narrowWeight m c (ix2 k j) = gapCol (fun k q => m ((c : Thread nD τ).loc main_arg2) (ix2 k q)) j k := by
  have exact_cast : ∀ (x : FVec Ideal S1024x256 .f32) (i : S1024x256.Idx), truncf .bf16 x bitsLt_bf16_f32 i = x i := fun _ _ => rfl
  have at_ : ∀ {a b : Nat} (ha : a < 6208) (hb : b < 6208), a = b → m ((c : Thread nD τ).loc main_arg2) (ix2 k (⟨a, ha⟩ : Fin 6208))
      = m ((c : Thread nD τ).loc main_arg2) (ix2 k (⟨b, hb⟩ : Fin 6208)) := fun _ _ e => by subst e; rfl
  unfold narrowWeight
  rw [exact_cast, written _ _ 128 rfl, written _ _ 0 rfl]
  unfold gapCol
  by_cases h1 : 128 ≤ j.val ∧ j.val < 128 + 32
  · rw [dif_pos h1, dif_pos (by omega)]
    pointwise
    exact at_ _ _ (by omega)
  · rw [dif_neg h1]
    by_cases h0 : 0 ≤ j.val ∧ j.val < 0 + 32
    · rw [dif_pos h0, dif_pos (by omega)]
      pointwise
      exact at_ _ _ (by omega)
    · rw [dif_neg h0, dif_neg (by omega)]
      pointwise

end Cert.Proof.SinHost

end
-- ==== Proof.SinArray.lean ====
/- What the projection kernel with the convolution leaves in its three result arrays. -/
module

public import proofs.«01_k».proof.Proof.SinBlock
public import proofs.«01_k».proof.Proof.SinHost
public import proofs.«01_k».proof.Proof.Gen.SinIdeal.Value

@[expose] public section

set_option maxRecDepth 16384

noncomputable section

namespace Cert.Proof.SinArray

open Idealize.ShloMosaic Idealize.ShloMosaic.TcCoe Idealize.ShloMosaic.StableHlo Idealize.SL.Sem Idealize.ShloMosaic.Pipeline
open Cert.SinIdeal Cert.SinIdeal.Gen Cert.SinIdeal.Value Cert.Spec SinHost

variable (m : (ℓ : Loc nD τ sig) → Buf (Elt Ideal) ℓ) (ρ : Dev nD → PrngReg)

/-! ## Where a window's block lies in its array -/

theorem coords : ∀ t : Fin cfg0.N, (grid0.coords t 0).val = t.val :=
  (by decide +kernel : ∀ t : Fin grid0.N, _)
theorem index0 : ∀ t : Fin cfg0.N, win0_0.index t (0 : Fin 2) = 64 * t.val - 1 ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = min (64 * t.val + 64) 4095 ∧ win0_2.index t (1 : Fin 2) = 0 :=
  (by decide +kernel : ∀ t : Fin grid0.N, _)
theorem index3 : ∀ t : Fin cfg0.N, win0_3.index t (0 : Fin 3) = t.val / 8 ∧ win0_3.index t (1 : Fin 3) = 0
    ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)

/-- Row `i` of grid point `t`'s block is row `512 t + i` of the array. -/
abbrev row (t : Fin cfg0.N) (i : Fin 512) : Fin 32768 :=
  ⟨512 * t.val + i.val, by have h : t.val < 64 := t.isLt; omega⟩

/-- The eight rows before the block, -/
theorem iblk0 (c : Dev nD) (t : Fin cfg0.N) (i : Fin 8) (k : Fin 1024) :
    iblk m c 0 t (ix2 i k) = m ((c : Thread nD τ).loc main_arg0)
      (ix2 (⟨8 * (64 * t.val - 1) + i.val, by have h : t.val < 64 := t.isLt; omega⟩ : Fin 32768) k) := by
  rw [← V_main_arg0 m c]
  show V m c main_arg0 (((cfg0.win 0).blk t).view.emb (ix2 i k)) = _
  refine congrArg _ (funext fun a => Fin.ext ?_)
  obtain ⟨h0, h1⟩ := index0 t
  match a with
  | ⟨0, _⟩ => show win0_0.index t (0 : Fin 2) * 8 + 1 * i.val = 8 * (64 * t.val - 1) + i.val; omega
  | ⟨1, _⟩ => show win0_0.index t (1 : Fin 2) * 1024 + 1 * k.val = k.val; omega

/-- its own, -/
theorem iblk1 (c : Dev nD) (t : Fin cfg0.N) (i : Fin 512) (k : Fin 1024) :
    iblk m c 1 t (ix2 i k) = m ((c : Thread nD τ).loc main_arg0) (ix2 (row t i) k) := by
  rw [← V_main_arg0 m c]
  show V m c main_arg0 (((cfg0.win 1).blk t).view.emb (ix2 i k)) = _
  refine congrArg _ (funext fun a => Fin.ext ?_)
  obtain ⟨h0, h1⟩ := index1 t
  match a with
  | ⟨0, _⟩ => show win0_1.index t (0 : Fin 2) * 512 + 1 * i.val = 512 * t.val + i.val; omega
  | ⟨1, _⟩ => show win0_1.index t (1 : Fin 2) * 1024 + 1 * k.val = k.val; omega

/-- and the eight after it. -/
theorem iblk2 (c : Dev nD) (t : Fin cfg0.N) (i : Fin 8) (k : Fin 1024) :
    iblk m c 2 t (ix2 i k) = m ((c : Thread nD τ).loc main_arg0)
      (ix2 (⟨8 * min (64 * t.val + 64) 4095 + i.val, by omega⟩ : Fin 32768) k) := by
  rw [← V_main_arg0 m c]
  show V m c main_arg0 (((cfg0.win 2).blk t).view.emb (ix2 i k)) = _
  refine congrArg _ (funext fun a => Fin.ext ?_)
  obtain ⟨h0, h1⟩ := index2 t
  match a with
  | ⟨0, _⟩ => show win0_2.index t (0 : Fin 2) * 8 + 1 * i.val = 8 * min (64 * t.val + 64) 4095 + i.val; omega
  | ⟨1, _⟩ => show win0_2.index t (1 : Fin 2) * 1024 + 1 * k.val = k.val; omega

/-- The modulation block is the batch element's, eight grid points to a batch element. -/
theorem iblk3 (c : Dev nD) (t : Fin cfg0.N) (i : Fin 512) (q : Fin 6) (k : Fin 1024) :
    iblk m c 3 t (ix3 0 q k) = m ((c : Thread nD τ).loc main_arg1) (ix3 ⟨(row t i).val / 4096, by omega⟩ q k) := by
  rw [← V_main_arg1 m c]
  show V m c main_arg1 (((cfg0.win 3).blk t).view.emb (ix3 0 q k)) = _
  refine congrArg _ (funext fun a => Fin.ext ?_)
  obtain ⟨h0, h1, h2⟩ := index3 t
  match a with
  | ⟨0, _⟩ => show win0_3.index t (0 : Fin 3) * 1 + 1 * 0 = (512 * t.val + i.val) / 4096; omega
  | ⟨1, _⟩ => show win0_3.index t (1 : Fin 3) * 6 + 1 * q.val = q.val; omega
  | ⟨2, _⟩ => show win0_3.index t (2 : Fin 3) * 1024 + 1 * k.val = k.val; omega

/-! The weights', taps' and bias's blocks are the whole of them. -/

theorem iblk4 (c : Dev nD) (t : Fin cfg0.N) (k : Fin 1024) (j : Fin 2048) : iblk m c 4 t (ix2 k j) = gateWeight m c (ix2 k j) := by
  rw [← V_v10 m c]
  show V m c main_v10 (((cfg0.win 4).blk t).view.emb (ix2 k j)) = _
  refine congrArg _ (funext fun a => Fin.ext ?_)
  obtain ⟨h0, h1⟩ := index4 t
  match a with
  | ⟨0, _⟩ => show win0_4.index t (0 : Fin 2) * 1024 + 1 * k.val = k.val; omega
  | ⟨1, _⟩ => show win0_4.index t (1 : Fin 2) * 2048 + 1 * j.val = j.val; omega

theorem iblk5 (c : Dev nD) (t : Fin cfg0.N) (k : Fin 1024) (j : Fin 4096) : iblk m c 5 t (ix2 k j) = convWeight m c (ix2 k j) := by
  rw [← V_v11 m c]
  show V m c main_v11 (((cfg0.win 5).blk t).view.emb (ix2 k j)) = _
  refine congrArg _ (funext fun a => Fin.ext ?_)
  obtain ⟨h0, h1⟩ := index5 t
  match a with
  | ⟨0, _⟩ => show win0_5.index t (0 : Fin 2) * 1024 + 1 * k.val = k.val; omega
  | ⟨1, _⟩ => show win0_5.index t (1 : Fin 2) * 4096 + 1 * j.val = j.val; omega

theorem iblk8 (c : Dev nD) (t : Fin cfg0.N) (k : Fin 1024) (j : Fin 256) : iblk m c 8 t (ix2 k j) = narrowWeight m c (ix2 k j) := by
  rw [← V_v9 m c]
  show V m c main_v9 (((cfg0.win 8).blk t).view.emb (ix2 k j)) = _
  refine congrArg _ (funext fun a => Fin.ext ?_)
  obtain ⟨h0, h1⟩ := index8 t
  match a with
  | ⟨0, _⟩ => show win0_8.index t (0 : Fin 2) * 1024 + 1 * k.val = k.val; omega
  | ⟨1, _⟩ => show win0_8.index t (1 : Fin 2) * 256 + 1 * j.val = j.val; omega

theorem iblk6 (c : Dev nD) (t : Fin cfg0.N) (k : Fin 5) (j : Fin 4096) : iblk m c 6 t (ix2 k j) = m ((c : Thread nD τ).loc main_arg3) (ix2 k j) := by
  rw [← V_main_arg3 m c]
  show V m c main_arg3 (((cfg0.win 6).blk t).view.emb (ix2 k j)) = _
  refine congrArg _ (funext fun a => Fin.ext ?_)
  obtain ⟨h0, h1⟩ := index6 t
  match a with
  | ⟨0, _⟩ => show win0_6.index t (0 : Fin 2) * 5 + 1 * k.val = k.val; omega
  | ⟨1, _⟩ => show win0_6.index t (1 : Fin 2) * 4096 + 1 * j.val = j.val; omega

theorem iblk7 (c : Dev nD) (t : Fin cfg0.N) (j : Fin 4096) : iblk m c 7 t (ix2 0 j) = biasRow m c (ix2 0 j) := by
  rw [← V_v12 m c]
  show V m c main_v12 (((cfg0.win 7).blk t).view.emb (ix2 0 j)) = _
  refine congrArg _ (funext fun a => Fin.ext ?_)
  obtain ⟨h0, h1⟩ := index7 t
  match a with
  | ⟨0, _⟩ => show win0_7.index t (0 : Fin 2) * 1 + 1 * 0 = 0; omega
  | ⟨1, _⟩ => show win0_7.index t (1 : Fin 2) * 4096 + 1 * j.val = j.val; omega

/-! ## The three result arrays as functions of the arguments -/

/-- The gate: the product's first 2048 columns. -/
def G_gate (c : Dev nD) : Vec Ideal S32768x2048 .bf16 := fun i =>
  projArr (m ((c : Thread nD τ).loc main_arg0)) (m ((c : Thread nD τ).loc main_arg1)) (i 0)
    (fun k => m ((c : Thread nD τ).loc main_arg2) (ix2 k ⟨(i 1).val, Nat.lt_of_lt_of_le (i 1).isLt (show 2048 ≤ 6208 by omega)⟩))

/-- The next 4096 columns, convolved along the sequence and activated. -/
def G_conv (c : Dev nD) : Vec Ideal S32768x4096 .bf16 := fun i =>
  silu (conv5 (projSeq (m ((c : Thread nD τ).loc main_arg0)) (m ((c : Thread nD τ).loc main_arg1))
      ⟨(i 0).val / 4096, Nat.div_lt_of_lt_mul (i 0).isLt⟩
      (fun k => m ((c : Thread nD τ).loc main_arg2) (ix2 k ⟨2048 + (i 1).val, by have h : (i 1).val < 4096 := (i 1).isLt; omega⟩)))
    (fun q => m ((c : Thread nD τ).loc main_arg3) (ix2 q (i 1))) (m ((c : Thread nD τ).loc main_arg4) (ix1 (i 1))) ((i 0).val % 4096))

/-- The last 64 columns, in two groups with zeros after each. -/
def G_gap (c : Dev nD) : Vec Ideal S32768x256 .f32 := fun i =>
  projArr (m ((c : Thread nD τ).loc main_arg0)) (m ((c : Thread nD τ).loc main_arg1)) (i 0)
    (gapCol (fun k q => m ((c : Thread nD τ).loc main_arg2) (ix2 k q)) (i 1))

/-- The product of the rows around a block with a column is the padded sequence's. -/
theorem around (c : Dev nD) (t : Fin cfg0.N) (i : Fin 512) (w : Fin 1024 → EReal) (n : Nat) (h1 : 6 ≤ n) (h2 : n < 522) :
    ∑ k, SinBlock.wide (grid0.coords t) (iblk m c 0 t) (iblk m c 1 t) (iblk m c 2 t) (iblk m c 3 t) n k * w k
      = padded 2 (projSeq (m ((c : Thread nD τ).loc main_arg0)) (m ((c : Thread nD τ).loc main_arg1))
          ⟨(row t i).val / 4096, by omega⟩ w) (t.val % 8 * 512 + n + 2 - 8) := by
  have ht : t.val < 64 := t.isLt
  have hc := coords t
  have at_ : ∀ {a b : Nat} (ha : a < 32768) (hb : b < 32768), a = b → ∀ k : Fin 1024,
      m ((c : Thread nD τ).loc main_arg0) (ix2 (⟨a, ha⟩ : Fin 32768) k) = m ((c : Thread nD τ).loc main_arg0) (ix2 (⟨b, hb⟩ : Fin 32768) k) :=
    fun _ _ e k => by subst e; rfl
  refine halo_tap _ _ _ _ _ w _ 2 (t.val % 8 * 512) (by omega) (by omega) (by rw [hc]; omega) (by rw [hc]; omega) ?_ ?_ ?_ (by omega) n (by omega) (by omega)
  · intro n h h'
    unfold rowOf
    simp only [dif_pos h, iblk0, iblk3 m c t i]
    refine congrArg (fun x => projRow x _ _ w) (funext fun k => at_ _ _ ?_ k)
    dsimp only
    omega
  · intro n h
    unfold rowOf
    simp only [dif_pos h, iblk1, iblk3 m c t i]
    refine congrArg (fun x => projRow x _ _ w) (funext fun k => at_ _ _ ?_ k)
    dsimp only
    omega
  · intro n h h'
    unfold rowOf
    simp only [dif_pos h, iblk2, iblk3 m c t i]
    refine congrArg (fun x => projRow x _ _ w) (funext fun k => at_ _ _ ?_ k)
    dsimp only
    omega

/-! ## The gate result array -/

/-- The block's place in the array. -/
theorem emb9 (t : Fin cfg0.N) (i : Fin 512) (j : Fin 2048) :
    ((cfg0.win 9).blk t).view.emb (ix2 i j) = (ix2 (row t i) j : S32768x2048.Idx) := by
  refine funext fun a => Fin.ext ?_
  obtain ⟨h0, h1⟩ := index9 t
  match a with
  | ⟨0, _⟩ => show win0_9.index t (0 : Fin 2) * 512 + 1 * i.val = 512 * t.val + i.val; omega
  | ⟨1, _⟩ => show win0_9.index t (1 : Fin 2) * 2048 + 1 * j.val = j.val; omega

/-- What a grid point writes back is its block of the array's function. -/
theorem flushed_G_gate (c : Dev nD) (t : Fin cfg0.N) :
    (dats m 0 c).flushed 9 t = ((cfg0.win 9).blk t).view.read (Elt Ideal) (G_gate m c) := by
  rw [flushed9]
  funext y
  obtain ⟨i, j, rfl⟩ : ∃ (i : Fin 512) (j : Fin 2048), y = (ix2 i j : S512x2048.Idx) :=
    ⟨y 0, y 1, funext fun a => match a with | ⟨0, _⟩ => rfl | ⟨1, _⟩ => rfl⟩
  show out0_9 _ _ _ _ _ _ _ _ _ _ (ix2 i j) = G_gate m c (((cfg0.win 9).blk t).view.emb (ix2 i j))
  rw [emb9, SinBlock.gate_apply]
  simp only [iblk1, iblk3 m c t i, iblk4, gateWeight_apply]
  rfl

/-- Every index of the array lies in some grid point's block. -/
theorem cover9 (x : S32768x2048.Idx) :
    ∃ t : Fin cfg0.N, (cfg0.win 9).flush t = true ∧ x ∈ ((cfg0.win 9).blk t).view.set := by
  have hx0 : (x 0).val < 32768 := (x 0).isLt
  let t : Fin cfg0.N := ⟨(x 0).val / 512, by show _ < 64; omega⟩
  have e : ((cfg0.win 9).blk t).view.emb (ix2 (⟨(x 0).val % 512, by omega⟩ : Fin 512) (x 1 : Fin 2048)) = x := by
    refine (emb9 t _ _).trans (funext fun a => Fin.ext ?_)
    match a with
    | ⟨0, _⟩ => show 512 * ((x 0).val / 512) + (x 0).val % 512 = (x 0).val; omega
    | ⟨1, _⟩ => rfl
  exact ⟨t, flush0_9 _, e ▸ ((cfg0.win 9).blk t).view.emb_mem_set _⟩

/-- The array after the run. -/
theorem final9 (c : Dev nD) : (dats m 0 c).arrAt 9 cfg0.N = G_gate m c :=
  (dats m 0 c).arrAt_eq_of_cover 9 (G_gate m c) (fun t _ => flushed_G_gate m c t) cover9

/-! ## The convolved result array -/

/-- The block's place in the array. -/
theorem emb10 (t : Fin cfg0.N) (i : Fin 512) (j : Fin 4096) :
    ((cfg0.win 10).blk t).view.emb (ix2 i j) = (ix2 (row t i) j : S32768x4096.Idx) := by
  refine funext fun a => Fin.ext ?_
  obtain ⟨h0, h1⟩ := index10 t
  match a with
  | ⟨0, _⟩ => show win0_10.index t (0 : Fin 2) * 512 + 1 * i.val = 512 * t.val + i.val; omega
  | ⟨1, _⟩ => show win0_10.index t (1 : Fin 2) * 4096 + 1 * j.val = j.val; omega

/-- What a grid point writes back is its block of the array's function. -/
theorem flushed_G_conv (c : Dev nD) (t : Fin cfg0.N) :
    (dats m 0 c).flushed 10 t = ((cfg0.win 10).blk t).view.read (Elt Ideal) (G_conv m c) := by
  rw [flushed10]
  funext y
  obtain ⟨i, j, rfl⟩ : ∃ (i : Fin 512) (j : Fin 4096), y = (ix2 i j : S512x4096.Idx) :=
    ⟨y 0, y 1, funext fun a => match a with | ⟨0, _⟩ => rfl | ⟨1, _⟩ => rfl⟩
  show out0_10 _ _ _ _ _ _ _ _ _ _ (ix2 i j) = G_conv m c (((cfg0.win 10).blk t).view.emb (ix2 i j))
  rw [emb10, SinBlock.conv_apply]
  simp only [iblk5, iblk6, iblk7, convWeight_apply, biasRow_apply]
  refine congrArg silu (taps5_congr _ _ _ _ _ _ fun d hd => ?_)
  refine (around m c t i _ (6 + i.val + d) (by omega) (by omega)).trans (congrArg _ ?_)
  show t.val % 8 * 512 + (6 + i.val + d) + 2 - 8 = (512 * t.val + i.val) % 4096 + d
  omega

/-- Every index of the array lies in some grid point's block. -/
theorem cover10 (x : S32768x4096.Idx) :
    ∃ t : Fin cfg0.N, (cfg0.win 10).flush t = true ∧ x ∈ ((cfg0.win 10).blk t).view.set := by
  have hx0 : (x 0).val < 32768 := (x 0).isLt
  let t : Fin cfg0.N := ⟨(x 0).val / 512, by show _ < 64; omega⟩
  have e : ((cfg0.win 10).blk t).view.emb (ix2 (⟨(x 0).val % 512, by omega⟩ : Fin 512) (x 1 : Fin 4096)) = x := by
    refine (emb10 t _ _).trans (funext fun a => Fin.ext ?_)
    match a with
    | ⟨0, _⟩ => show 512 * ((x 0).val / 512) + (x 0).val % 512 = (x 0).val; omega
    | ⟨1, _⟩ => rfl
  exact ⟨t, flush0_10 _, e ▸ ((cfg0.win 10).blk t).view.emb_mem_set _⟩

/-- The array after the run. -/
theorem final10 (c : Dev nD) : (dats m 0 c).arrAt 10 cfg0.N = G_conv m c :=
  (dats m 0 c).arrAt_eq_of_cover 10 (G_conv m c) (fun t _ => flushed_G_conv m c t) cover10

/-! ## The narrow result array -/

/-- The block's place in the array. -/
theorem emb11 (t : Fin cfg0.N) (i : Fin 512) (j : Fin 256) :
    ((cfg0.win 11).blk t).view.emb (ix2 i j) = (ix2 (row t i) j : S32768x256.Idx) := by
  refine funext fun a => Fin.ext ?_
  obtain ⟨h0, h1⟩ := index11 t
  match a with
  | ⟨0, _⟩ => show win0_11.index t (0 : Fin 2) * 512 + 1 * i.val = 512 * t.val + i.val; omega
  | ⟨1, _⟩ => show win0_11.index t (1 : Fin 2) * 256 + 1 * j.val = j.val; omega

/-- What a grid point writes back is its block of the array's function. -/
theorem flushed_G_gap (c : Dev nD) (t : Fin cfg0.N) :
    (dats m 0 c).flushed 11 t = ((cfg0.win 11).blk t).view.read (Elt Ideal) (G_gap m c) := by
  rw [flushed11]
  funext y
  obtain ⟨i, j, rfl⟩ : ∃ (i : Fin 512) (j : Fin 256), y = (ix2 i j : S512x256.Idx) :=
    ⟨y 0, y 1, funext fun a => match a with | ⟨0, _⟩ => rfl | ⟨1, _⟩ => rfl⟩
  show out0_11 _ _ _ _ _ _ _ _ _ _ (ix2 i j) = G_gap m c (((cfg0.win 11).blk t).view.emb (ix2 i j))
  rw [emb11, SinBlock.narrow_apply]
  simp only [iblk1, iblk3 m c t i, iblk8, narrowWeight_apply]
  rfl

/-- Every index of the array lies in some grid point's block. -/
theorem cover11 (x : S32768x256.Idx) :
    ∃ t : Fin cfg0.N, (cfg0.win 11).flush t = true ∧ x ∈ ((cfg0.win 11).blk t).view.set := by
  have hx0 : (x 0).val < 32768 := (x 0).isLt
  let t : Fin cfg0.N := ⟨(x 0).val / 512, by show _ < 64; omega⟩
  have e : ((cfg0.win 11).blk t).view.emb (ix2 (⟨(x 0).val % 512, by omega⟩ : Fin 512) (x 1 : Fin 256)) = x := by
    refine (emb11 t _ _).trans (funext fun a => Fin.ext ?_)
    match a with
    | ⟨0, _⟩ => show 512 * ((x 0).val / 512) + (x 0).val % 512 = (x 0).val; omega
    | ⟨1, _⟩ => rfl
  exact ⟨t, flush0_11 _, e ▸ ((cfg0.win 11).blk t).view.emb_mem_set _⟩

/-- The array after the run. -/
theorem final11 (c : Dev nD) : (dats m 0 c).arrAt 11 cfg0.N = G_gap m c :=
  (dats m 0 c).arrAt_eq_of_cover 11 (G_gap m c) (fun t _ => flushed_G_gap m c t) cover11

/-- The kernel's run: it ends with the result arrays at those functions of the arguments, and the arguments unchanged. -/
theorem run : θ_run defs (onTc (τ := τ) (main (F := Ideal))) ⟨m, fun _ => 0, ρ⟩ fun r => ∀ c : Dev nD,
      r.2.mem ((c : Thread nD τ).loc main_v13_0) = G_gate m c
      ∧ r.2.mem ((c : Thread nD τ).loc main_v13_1) = G_conv m c
      ∧ r.2.mem ((c : Thread nD τ).loc main_v13_2) = G_gap m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final9 m c), (h c).2.1.trans (final10 m c), (h c).2.2.1.trans (final11 m c), (h c).2.2.2⟩)
    (run_blocks m ρ)

end Cert.Proof.SinArray

end
-- ==== Proof.SinRef.lean ====
/- What the reference of the projection with the convolution computes. -/
module

public import proofs.«01_k».proof.Proof.ConvSpec
public import proofs.«01_k».proof.Proof.SsdSpec
public import proofs.«01_k».proof.Proof.Gen.SinRefIdeal.Read

@[expose] public section

set_option maxRecDepth 16384

noncomputable section

namespace Cert.Proof.SinRef

open Idealize.ShloMosaic Idealize.ShloMosaic.TcCoe Idealize.ShloMosaic.StableHlo Idealize.SL.Sem
open Cert.SinRefIdeal Cert.SinRefIdeal.Gen Cert.SinRefIdeal.Read Cert.Spec

variable (x0 : (⟨S32768x1024, .f32⟩ : BufTy).Contents (Elt Ideal)) (x1 : (⟨S8x6x1024, .f32⟩ : BufTy).Contents (Elt Ideal))
  (x2 : (⟨S1024x6208, .f32⟩ : BufTy).Contents (Elt Ideal)) (x3 : (⟨S5x4096, .f32⟩ : BufTy).Contents (Elt Ideal))
  (x4 : (⟨S4096, .f32⟩ : BufTy).Contents (Elt Ideal))

/-- Row `s` of batch element `b` in the flat array. -/
abbrev flat (b : Fin 8) (s : Fin 4096) : Fin 32768 := ⟨b.val * 4096 + s.val, by omega⟩

/-- The rows by batch element and place in the sequence. -/
theorem rows (b : Fin 8) (s : Fin 4096) (k : Fin 1024) : val_main_v6 x0 (ix3 b s k) = x0 (ix2 (flat b s) k) := by
  pointwise [val_main_v6]

/-- The modulated rows. -/
theorem modulated (b : Fin 8) (s : Fin 4096) (k : Fin 1024) :
    val_main_v12 x0 x1 (ix3 b s k) = modRow (fun k => x0 (ix2 (flat b s) k)) (fun k => x1 (ix3 b 0 k)) (fun k => x1 (ix3 b 1 k)) k := by
  pointwise [val_main_v12, val_main_v11, val_main_v10, val_main_v9, val_main_v8, val_main_v7, val_main_cst, val_main_v1, val_main_v0]
  rw [rows]
  rfl

/-- The product, along the sequence. -/
theorem product (b : Fin 8) (s : Fin 4096) (j : Fin 6208) :
    val_main_v13 x0 x1 x2 (ix3 b s j) = projSeq x0 x1 b (fun k => x2 (ix2 k j)) s := by
  pointwise [val_main_v13]
  simp only [modulated]
  rfl

/-- One row of it. -/
theorem product_row (r : Fin 32768) (j : Fin 6208) :
    val_main_v13 x0 x1 x2 (ix3 (⟨r.val / 4096, by omega⟩ : Fin 8) (⟨r.val % 4096, by omega⟩ : Fin 4096) j)
      = projArr x0 x1 r (fun k => x2 (ix2 k j)) := by
  have hr : (⟨r.val / 4096 * 4096 + r.val % 4096, by omega⟩ : Fin 32768) = r := Fin.ext (by
    show r.val / 4096 * 4096 + r.val % 4096 = r.val; omega)
  rw [product]
  unfold projSeq projArr
  simp only [hr]

/-- The first result: the first 2048 columns. -/
theorem gate (r : Fin 32768) (j : Fin 2048) :
    val_main_v59 x0 x1 x2 (ix2 r j) = projArr x0 x1 r (fun k => x2 (ix2 k ⟨j.val, by omega⟩)) := by
  rw [← product_row]
  pointwise [val_main_v59, val_main_v58, val_main_v14]

/-- The integer the arrays are padded with, as a number. -/
theorem int_zero : (FloatOps.sitofp (F := Ideal) .f32 (0#32 : BitVec 32) : EReal) = 0 := by
  show (((0#32 : BitVec 32).toInt : ℝ) : EReal) = 0
  simp

/-- The next 4096 columns along the sequence, behind and before two rows of zeros. -/
theorem padded_rows (b : Fin 8) (n : Fin 4100) (j : Fin 4096) :
    val_main_v17 x0 x1 x2 (ix3 b n j) = padded 2 (projSeq x0 x1 b (fun k => x2 (ix2 k ⟨2048 + j.val, by omega⟩))) n.val := by
  pointwise [val_main_v17, val_main_v15, val_main_call0_v0, val_main_c]
  unfold padded
  by_cases h : 2 ≤ n.val ∧ n.val - 2 < 4096
  · rw [dif_pos h, dif_pos (by omega), product]
  · rw [dif_neg h, dif_neg (by omega)]
    exact int_zero

/-- The convolution. -/
theorem conv (b : Fin 8) (s : Fin 4096) (j : Fin 4096) :
    val_main_v54 x0 x1 x2 x3 x4 (ix3 b s j)
      = conv5 (projSeq x0 x1 b (fun k => x2 (ix2 k ⟨2048 + j.val, by omega⟩))) (fun q => x3 (ix2 q j)) (x4 (ix1 j)) s.val := by
  pointwise [val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_v18]
  simp only [padded_rows]
  unfold conv5 taps5
  rw [Nat.add_comm s.val 1, Nat.add_comm s.val 2, Nat.add_comm s.val 3, Nat.add_comm s.val 4]

/-- Its activation. -/
theorem active (b : Fin 8) (s : Fin 4096) (j : Fin 4096) :
    val_main_v55 x0 x1 x2 x3 x4 (ix3 b s j) = silu (val_main_v54 x0 x1 x2 x3 x4 (ix3 b s j)) := by
  pointwise [val_main_v55, val_main_call1_v5, val_main_call1_v4, val_main_call1_cst_0, val_main_call1_v3, val_main_call1_v2, val_main_call1_cst,
    val_main_call1_v1, val_main_call1_v0]
  rfl

/-- The second result. -/
theorem convolved (r : Fin 32768) (j : Fin 4096) :
    val_main_v61 x0 x1 x2 x3 x4 (ix2 r j)
      = silu (conv5 (projSeq x0 x1 ⟨r.val / 4096, by omega⟩ (fun k => x2 (ix2 k ⟨2048 + j.val, by omega⟩))) (fun q => x3 (ix2 q j)) (x4 (ix1 j))
          (r.val % 4096)) := by
  have h : val_main_v61 x0 x1 x2 x3 x4 (ix2 r j)
      = val_main_v55 x0 x1 x2 x3 x4 (ix3 (⟨r.val / 4096, by omega⟩ : Fin 8) (⟨r.val % 4096, by omega⟩ : Fin 4096) j) := by
    pointwise [val_main_v61, val_main_v60]
  rw [h, active, conv]

/-- The third result: the last 64 columns in two groups, each followed by zeros. -/
theorem narrow (r : Fin 32768) (j : Fin 256) :
    val_main_v62 x0 x1 x2 (ix2 r j) = projArr x0 x1 r (gapCol (fun k q => x2 (ix2 k q)) j) := by
  have h : val_main_v62 x0 x1 x2 (ix2 r j)
      = val_main_v57 x0 x1 x2 (ix3 r (⟨j.val / 128, by omega⟩ : Fin 2) (⟨j.val % 128, by omega⟩ : Fin 128)) := by
    pointwise [val_main_v62]
  have h' : ∀ (g : Fin 2) (q : Fin 32), val_main_v56 x0 x1 x2 (ix3 r g q)
      = val_main_v13 x0 x1 x2 (ix3 (⟨r.val / 4096, by omega⟩ : Fin 8) (⟨r.val % 4096, by omega⟩ : Fin 4096)
          (⟨6144 + (g.val * 32 + q.val), by omega⟩ : Fin 6208)) := by
    intro g q
    pointwise [val_main_v56, val_main_v16]
  rw [h]
  by_cases hj : j.val % 128 < 32
  · have : gapCol (fun k q => x2 (ix2 k q)) j = fun k => x2 (ix2 k ⟨6144 + (j.val / 128 * 32 + j.val % 128), by omega⟩) := by
      funext k
      unfold gapCol
      rw [dif_pos hj]
    rw [this, ← product_row, ← h' ⟨j.val / 128, by omega⟩ ⟨j.val % 128, hj⟩]
    pointwise [val_main_v57]
    exact dif_pos ⟨by omega, hj⟩
  · have : gapCol (fun k q => x2 (ix2 k q)) j = fun _ => 0 := by
      funext k
      unfold gapCol
      rw [dif_neg hj]
    rw [this]
    refine Eq.trans ?_ (projRow_zero _ _ _).symm
    pointwise [val_main_v57, val_main_call2_v0, val_main_c_0]
    exact (dif_neg fun h => hj h.2).trans int_zero

end Cert.Proof.SinRef

end
-- ==== Proof.SinEq.lean ====
/- The projection kernel with the convolution and its reference compute the same three arrays. -/
module

public import proofs.«01_k».proof.Defs
public import proofs.«01_k».proof.Proof.SinArray
public import proofs.«01_k».proof.Proof.SinRef

@[expose] public section

set_option maxRecDepth 16384

noncomputable section

namespace Cert.Proof.SinEq

open Idealize.ShloMosaic Idealize.SL.Sem

/-- From equal arguments the kernel's arrays and the reference's are the same functions of them. -/
theorem algebraic : algebraic_SinIdeal_SinRefIdeal (hSinIdeal := Cert.SinIdeal.Gen.facts) (hSinRefIdeal := Cert.SinRefIdeal.Gen.facts) := by
  intro m g m' g' _ h
  refine ⟨SinArray.G_gate m, SinArray.G_conv m, SinArray.G_gap m, SinArray.run m g,
    (θ_run _ _ _).mono (fun r hr c => ⟨(hr c).1.trans ?_, (hr c).2.1.trans ?_, (hr c).2.2.1.trans ?_, (hr c).2.2.2⟩) (Cert.SinRefIdeal.Value.run m' g')⟩
  · rw [Cert.SinRefIdeal.Read.val_main_v59_eq]
    funext i
    obtain ⟨r, j, rfl⟩ : ∃ (r : Fin 32768) (j : Fin 2048), i = (ix2 r j : Cert.SinIdeal.S32768x2048.Idx) :=
      ⟨i 0, i 1, funext fun a => match a with | ⟨0, _⟩ => rfl | ⟨1, _⟩ => rfl⟩
    obtain ⟨h0, h1, h2, h3, h4⟩ := h c
    refine (SinRef.gate _ _ _ r j).trans ?_
    rw [h0, h1, h2]
    rfl
  · rw [Cert.SinRefIdeal.Read.val_main_v61_eq]
    funext i
    obtain ⟨r, j, rfl⟩ : ∃ (r : Fin 32768) (j : Fin 4096), i = (ix2 r j : Cert.SinIdeal.S32768x4096.Idx) :=
      ⟨i 0, i 1, funext fun a => match a with | ⟨0, _⟩ => rfl | ⟨1, _⟩ => rfl⟩
    obtain ⟨h0, h1, h2, h3, h4⟩ := h c
    refine (SinRef.convolved _ _ _ _ _ r j).trans ?_
    rw [h0, h1, h2, h3, h4]
    rfl
  · rw [Cert.SinRefIdeal.Read.val_main_v62_eq]
    funext i
    obtain ⟨r, j, rfl⟩ : ∃ (r : Fin 32768) (j : Fin 256), i = (ix2 r j : Cert.SinIdeal.S32768x256.Idx) :=
      ⟨i 0, i 1, funext fun a => match a with | ⟨0, _⟩ => rfl | ⟨1, _⟩ => rfl⟩
    obtain ⟨h0, h1, h2, h3, h4⟩ := h c
    refine (SinRef.narrow _ _ _ r j).trans ?_
    rw [h0, h1, h2]
    rfl

end Cert.Proof.SinEq

end
-- ==== Proof.HinBlock.lean ====
/- What one grid point of the three-way projection with a short convolution leaves in its blocks. -/
module

public import proofs.«01_k».proof.Proof.SinBlock
public import proofs.«01_k».proof.Proof.Gen.HinIdeal.Frame

@[expose] public section

set_option maxRecDepth 16384

noncomputable section

namespace Cert.Proof.HinBlock

open Idealize.ShloMosaic Idealize.SL.Sem Cert.HinIdeal Cert.HinIdeal.Gen Cert.Spec
open SinBlock (wide atEnd)

/-- The rows the body multiplies are the other convolved projection's. -/
theorem wide_apply (i : grid0.Coords) (x0 : Vec Ideal S8x1024 .f32) (x1 : Vec Ideal S512x1024 .f32) (x2 : Vec Ideal S8x1024 .f32)
    (x3 : Vec Ideal S1x6x1024 .f32) (n : Fin 528) (k : Fin 1024) :
    k0_pay5 (k0_pay2 x3) (atEnd (BitVec.ofNat 32 (i 0).val) 7#32) (k0_pay3 (F := Ideal)) (k0_pay4 i x3 x0) x1 x2 (ix2 n k)
      = wide i x0 x1 x2 x3 n.val k :=
  SinBlock.wide_apply i x0 x1 x2 x3 n k

/-- The convolved tile from the rows `u`. -/
theorem tile (u : FVec Ideal S528x1024 .bf16) (w : Vec Ideal S1024x1024 .bf16) (c0 c1 c2 b : Vec Ideal S1x1024 .f32)
    (i : Fin 512) (j : Fin 1024) :
    k0_pay1 (k0_pay12 u w) (k0_pay13 u w c1) b c0 c2 (ix2 i j)
      = (∑ k, u (ix2 ⟨7 + i.val, by omega⟩ k) * w (ix2 k j)) * c0 (ix2 0 j) + (∑ k, u (ix2 ⟨8 + i.val, by omega⟩ k) * w (ix2 k j)) * c1 (ix2 0 j)
        + (∑ k, u (ix2 ⟨9 + i.val, by omega⟩ k) * w (ix2 k j)) * c2 (ix2 0 j) + b (ix2 0 j) := by
  have hp : ∀ n : Fin 528, k0_pay12 u w (ix2 n j) = ∑ k, u (ix2 n k) * w (ix2 k j) := by
    intro n
    pointwise [k0_pay12]
  have e0 : (⟨(8 + i.val + 528 - 1) % 528, by omega⟩ : Fin 528) = ⟨7 + i.val, by omega⟩ := Fin.ext (by show (8 + i.val + 528 - 1) % 528 = 7 + i.val; omega)
  have e2 : (⟨(8 + i.val + 528 - 527) % 528, by omega⟩ : Fin 528) = ⟨9 + i.val, by omega⟩ := Fin.ext (by show (8 + i.val + 528 - 527) % 528 = 9 + i.val; omega)
  pointwise [k0_pay1, k0_pay13]
  rw [e0, e2, conv3_mid]
  simp only [hp]

/-- The body writes the same tile in three forms, cut at other places. -/
theorem tile_b (u : FVec Ideal S528x1024 .bf16) (w : Vec Ideal S1024x1024 .bf16) (c0 c1 c2 b : Vec Ideal S1x1024 .f32) :
    k0_pay11 u w c1 b c0 c2 = k0_pay1 (k0_pay12 u w) (k0_pay13 u w c1) b c0 c2 := rfl

theorem tile_c (v1 : FVec Ideal S6x1024 .f32) (e : BitVec 1) (z t : FVec Ideal S8x1024 .bf16) (x1 : Vec Ideal S512x1024 .f32) (x2 : Vec Ideal S8x1024 .f32)
    (w : Vec Ideal S1024x1024 .bf16) (c0 c1 c2 b : Vec Ideal S1x1024 .f32) :
    k0_pay10 (k0_pay7 v1 e z t x1 x2 w c1 b c0) (k0_pay8 v1 e z t x1 x2 w) (k0_pay9 c2)
      = k0_pay1 (k0_pay12 (k0_pay5 v1 e z t x1 x2) w) (k0_pay13 (k0_pay5 v1 e z t x1 x2) w c1) b c0 c2 := rfl

section results

variable (g : grid0.Coords) (x0 : Vec Ideal S8x1024 .f32) (x1 : Vec Ideal S512x1024 .f32) (x2 : Vec Ideal S8x1024 .f32)
    (x3 : Vec Ideal S1x6x1024 .f32) (x4 : Vec Ideal S1024x1024 .bf16) (x5 : Vec Ideal S3x1024 .f32) (x6 : Vec Ideal S1x1024 .f32)
    (x7 : Vec Ideal S1024x1024 .bf16) (x8 : Vec Ideal S3x1024 .f32) (x9 : Vec Ideal S1x1024 .f32)
    (x10 : Vec Ideal S1024x1024 .bf16) (x11 : Vec Ideal S3x1024 .f32) (x12 : Vec Ideal S1x1024 .f32)

/-- One of the three results in its block: the three taps on the rows around, with that result's weight, taps and bias. -/
def out3 (w : Vec Ideal S1024x1024 .bf16) (c : Vec Ideal S3x1024 .f32) (b : Vec Ideal S1x1024 .f32) (i : Fin 512) (j : Fin 1024) : EReal :=
  taps3 (fun n => ∑ k, wide g x0 x1 x2 x3 n k * w (ix2 k j)) (fun q => c (ix2 q j)) (b (ix2 0 j)) (7 + i.val)

/-- The tile of the rows the body multiplies. -/
theorem tile_wide (w : Vec Ideal S1024x1024 .bf16) (c : Vec Ideal S3x1024 .f32) (b : Vec Ideal S1x1024 .f32) (i : Fin 512) (j : Fin 1024)
    (u : FVec Ideal S528x1024 .bf16)
    (hu : u = k0_pay5 (k0_pay2 x3) (atEnd (BitVec.ofNat 32 (g 0).val) 7#32) (k0_pay3 (F := Ideal)) (k0_pay4 g x3 x0) x1 x2) :
    k0_pay1 (k0_pay12 u w) (k0_pay13 u w (View.ld c r0_4)) b (View.ld c r0_6) (View.ld c r0_7) (ix2 i j)
      = out3 g x0 x1 x2 x3 w c b i j := by
  have h1 : View.ld c r0_4 (ix2 0 j) = c (ix2 1 j) := View.ld_unit_apply_of _ _ _ _ _ _ fun a => match a with
    | ⟨0, _⟩ => rfl
    | ⟨1, _⟩ => (Nat.zero_add _).symm
  have h0 : View.ld c r0_6 (ix2 0 j) = c (ix2 0 j) := View.ld_unit_apply_of _ _ _ _ _ _ fun a => match a with
    | ⟨0, _⟩ => rfl
    | ⟨1, _⟩ => (Nat.zero_add _).symm
  have h2 : View.ld c r0_7 (ix2 0 j) = c (ix2 2 j) := View.ld_unit_apply_of _ _ _ _ _ _ fun a => match a with
    | ⟨0, _⟩ => rfl
    | ⟨1, _⟩ => (Nat.zero_add _).symm
  rw [tile, h0, h1, h2, hu]
  simp only [wide_apply]
  unfold out3 taps3
  rw [show 7 + i.val + 1 = 8 + i.val by omega, show 7 + i.val + 2 = 9 + i.val by omega]

/-- The first result, -/
theorem first_apply (i : Fin 512) (j : Fin 1024) :
    out0_13 g x0 x1 x2 x3 x4 x5 x6 x7 x8 x9 x10 x11 x12 (ix2 i j) = out3 g x0 x1 x2 x3 x4 x5 x6 i j := by
  have hz : (![0, 0] : Fin 2 → Nat) = fun _ => 0 := funext fun a => by fin_cases a <;> rfl
  have hz3 : (![0, 0, 0] : Fin 3 → Nat) = fun _ => 0 := funext fun a => by fin_cases a <;> rfl
  unfold_out out0_13
  rw [View.canon_unit_zero (S := S512x1024) hz, View.ld_unit_zero (S := S512x1024) hz, View.ld_unit_zero (S := S8x1024) hz,
    View.ld_unit_zero (S := S8x1024) hz, View.ld_unit_zero (S := S1x6x1024) hz3, View.ld_unit_zero (S := S1024x1024) hz, View.ld_unit_zero (S := S1x1024) hz,
    tile_c]
  exact tile_wide g x0 x1 x2 x3 x4 x5 x6 i j _ rfl

/-- the second, -/
theorem second_apply (i : Fin 512) (j : Fin 1024) :
    out0_14 g x0 x1 x2 x3 x4 x5 x6 x7 x8 x9 x10 x11 x12 (ix2 i j) = out3 g x0 x1 x2 x3 x7 x8 x9 i j := by
  have hz : (![0, 0] : Fin 2 → Nat) = fun _ => 0 := funext fun a => by fin_cases a <;> rfl
  have hz3 : (![0, 0, 0] : Fin 3 → Nat) = fun _ => 0 := funext fun a => by fin_cases a <;> rfl
  unfold_out out0_14
  rw [View.canon_unit_zero (S := S512x1024) hz, View.ld_unit_zero (S := S512x1024) hz, View.ld_unit_zero (S := S8x1024) hz,
    View.ld_unit_zero (S := S8x1024) hz, View.ld_unit_zero (S := S1x6x1024) hz3, View.ld_unit_zero (S := S1024x1024) hz, View.ld_unit_zero (S := S1x1024) hz,
    tile_b]
  exact tile_wide g x0 x1 x2 x3 x7 x8 x9 i j _ rfl

/-- and the third. -/
theorem third_apply (i : Fin 512) (j : Fin 1024) :
    out0_15 g x0 x1 x2 x3 x4 x5 x6 x7 x8 x9 x10 x11 x12 (ix2 i j) = out3 g x0 x1 x2 x3 x10 x11 x12 i j := by
  have hz : (![0, 0] : Fin 2 → Nat) = fun _ => 0 := funext fun a => by fin_cases a <;> rfl
  have hz3 : (![0, 0, 0] : Fin 3 → Nat) = fun _ => 0 := funext fun a => by fin_cases a <;> rfl
  unfold_out out0_15
  rw [View.canon_unit_zero (S := S512x1024) hz, View.ld_unit_zero (S := S512x1024) hz, View.ld_unit_zero (S := S8x1024) hz,
    View.ld_unit_zero (S := S8x1024) hz, View.ld_unit_zero (S := S1x6x1024) hz3, View.ld_unit_zero (S := S1024x1024) hz, View.ld_unit_zero (S := S1x1024) hz]
  exact tile_wide g x0 x1 x2 x3 x10 x11 x12 i j _ rfl

end results

end Cert.Proof.HinBlock

end
-- ==== Proof.HinArray.lean ====
/- What the three-way projection with a short convolution leaves in its three result arrays. -/
module

public import proofs.«01_k».proof.Proof.HinBlock
public import proofs.«01_k».proof.Proof.Gen.HinIdeal.Value
public import Idealize.ShloMosaic.Lib.StableHlo.Run

@[expose] public section

set_option maxRecDepth 16384

noncomputable section

namespace Cert.Proof.HinArray

open Idealize.ShloMosaic Idealize.ShloMosaic.TcCoe Idealize.ShloMosaic.StableHlo Idealize.SL.Sem Idealize.ShloMosaic.Pipeline
open Cert.HinIdeal Cert.HinIdeal.Gen Cert.HinIdeal.Value Cert.Spec

variable (m : (ℓ : Loc nD τ sig) → Buf (Elt Ideal) ℓ) (ρ : Dev nD → PrngReg)

/-! ## The arrays the host prepares: each third of the weight, the taps and the bias -/

/-- The bias's third from column `o` on, as a row. -/
theorem bias_row (v : FVec Ideal S3072 .f32) (o : Nat) (ho : o + 1024 ≤ 3072) (h : S3072.Slices ![o] S1024) (j : Fin 1024) :
    shapeCast S1x1024 (extractStridedSlice S1024 ![o] v h) shapeCasts_S1024_S1x1024 (ix2 0 j) = v (ix1 ⟨o + j.val, by omega⟩) := by
  pointwise

theorem V_v1 (c : Dev nD) (k : Fin 1024) (j : Fin 1024) :
    V m c main_v1 (ix2 k j) = m ((c : Thread nD τ).loc main_arg2) (ix2 k (⟨0 + j.val, by omega⟩ : Fin 3072)) := by
  have h : V m c main_v1 = (extractStridedSlice S1024x1024 ![0, 0] (truncf .bf16 (m ((c : Thread nD τ).loc main_arg2) : FVec Ideal S1024x3072 .f32)
      bitsLt_bf16_f32 : FVec Ideal S1024x3072 .bf16) slices_S1024x3072_S1024x1024_0_0 : FVec Ideal S1024x1024 .bf16) := by
    show after hostOps0 (fun b => m (c, b)) (main_v1 : DevRef τ sig) = _
    after_results
  rw [h]
  pointwise

theorem V_v2 (c : Dev nD) (k : Fin 3) (j : Fin 1024) :
    V m c main_v2 (ix2 k j) = m ((c : Thread nD τ).loc main_arg3) (ix2 k (⟨0 + j.val, by omega⟩ : Fin 3072)) := by
  have h : V m c main_v2 = extractStridedSlice S3x1024 ![0, 0] (m ((c : Thread nD τ).loc main_arg3)) slices_S3x3072_S3x1024_0_0 := by
    show after hostOps0 (fun b => m (c, b)) (main_v2 : DevRef τ sig) = _
    after_results
  rw [h]
  pointwise

theorem V_v10 (c : Dev nD) (j : Fin 1024) :
    V m c main_v10 (ix2 0 j) = m ((c : Thread nD τ).loc main_arg4) (ix1 (⟨0 + j.val, by omega⟩ : Fin 3072)) := by
  have h : V m c main_v10 = shapeCast S1x1024 (extractStridedSlice S1024 ![0] (m ((c : Thread nD τ).loc main_arg4)) slices_S3072_S1024_0)
      shapeCasts_S1024_S1x1024 := by
    show after hostOps0 (fun b => m (c, b)) (main_v10 : DevRef τ sig) = _
    after_results
    rfl
  rw [h]
  exact bias_row _ 0 (by omega) _ j

theorem V_v4 (c : Dev nD) (k : Fin 1024) (j : Fin 1024) :
    V m c main_v4 (ix2 k j) = m ((c : Thread nD τ).loc main_arg2) (ix2 k (⟨1024 + j.val, by omega⟩ : Fin 3072)) := by
  have h : V m c main_v4 = (extractStridedSlice S1024x1024 ![0, 1024] (truncf .bf16 (m ((c : Thread nD τ).loc main_arg2) : FVec Ideal S1024x3072 .f32)
      bitsLt_bf16_f32 : FVec Ideal S1024x3072 .bf16) slices_S1024x3072_S1024x1024_0_1024 : FVec Ideal S1024x1024 .bf16) := by
    show after hostOps0 (fun b => m (c, b)) (main_v4 : DevRef τ sig) = _
    after_results
  rw [h]
  pointwise

theorem V_v5 (c : Dev nD) (k : Fin 3) (j : Fin 1024) :
    V m c main_v5 (ix2 k j) = m ((c : Thread nD τ).loc main_arg3) (ix2 k (⟨1024 + j.val, by omega⟩ : Fin 3072)) := by
  have h : V m c main_v5 = extractStridedSlice S3x1024 ![0, 1024] (m ((c : Thread nD τ).loc main_arg3)) slices_S3x3072_S3x1024_0_1024 := by
    show after hostOps0 (fun b => m (c, b)) (main_v5 : DevRef τ sig) = _
    after_results
  rw [h]
  pointwise

theorem V_v11 (c : Dev nD) (j : Fin 1024) :
    V m c main_v11 (ix2 0 j) = m ((c : Thread nD τ).loc main_arg4) (ix1 (⟨1024 + j.val, by omega⟩ : Fin 3072)) := by
  have h : V m c main_v11 = shapeCast S1x1024 (extractStridedSlice S1024 ![1024] (m ((c : Thread nD τ).loc main_arg4)) slices_S3072_S1024_1024)
      shapeCasts_S1024_S1x1024 := by
    show after hostOps0 (fun b => m (c, b)) (main_v11 : DevRef τ sig) = _
    after_results
    rfl
  rw [h]
  exact bias_row _ 1024 (by omega) _ j

theorem V_v7 (c : Dev nD) (k : Fin 1024) (j : Fin 1024) :
    V m c main_v7 (ix2 k j) = m ((c : Thread nD τ).loc main_arg2) (ix2 k (⟨2048 + j.val, by omega⟩ : Fin 3072)) := by
  have h : V m c main_v7 = (extractStridedSlice S1024x1024 ![0, 2048] (truncf .bf16 (m ((c : Thread nD τ).loc main_arg2) : FVec Ideal S1024x3072 .f32)
      bitsLt_bf16_f32 : FVec Ideal S1024x3072 .bf16) slices_S1024x3072_S1024x1024_0_2048 : FVec Ideal S1024x1024 .bf16) := by
    show after hostOps0 (fun b => m (c, b)) (main_v7 : DevRef τ sig) = _
    after_results
  rw [h]
  pointwise

theorem V_v8 (c : Dev nD) (k : Fin 3) (j : Fin 1024) :
    V m c main_v8 (ix2 k j) = m ((c : Thread nD τ).loc main_arg3) (ix2 k (⟨2048 + j.val, by omega⟩ : Fin 3072)) := by
  have h : V m c main_v8 = extractStridedSlice S3x1024 ![0, 2048] (m ((c : Thread nD τ).loc main_arg3)) slices_S3x3072_S3x1024_0_2048 := by
    show after hostOps0 (fun b => m (c, b)) (main_v8 : DevRef τ sig) = _
    after_results
  rw [h]
  pointwise

theorem V_v12 (c : Dev nD) (j : Fin 1024) :
    V m c main_v12 (ix2 0 j) = m ((c : Thread nD τ).loc main_arg4) (ix1 (⟨2048 + j.val, by omega⟩ : Fin 3072)) := by
  have h : V m c main_v12 = shapeCast S1x1024 (extractStridedSlice S1024 ![2048] (m ((c : Thread nD τ).loc main_arg4)) slices_S3072_S1024_2048)
      shapeCasts_S1024_S1x1024 := by
    show after hostOps0 (fun b => m (c, b)) (main_v12 : DevRef τ sig) = _
    after_results
    rfl
  rw [h]
  exact bias_row _ 2048 (by omega) _ j

/-! ## Where a window's block lies in its array -/

theorem coords : ∀ t : Fin cfg0.N, (grid0.coords t 0).val = t.val :=
  (by decide +kernel : ∀ t : Fin grid0.N, _)
theorem index0 : ∀ t : Fin cfg0.N, win0_0.index t (0 : Fin 2) = 64 * t.val - 1 ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = min (64 * t.val + 64) 4095 ∧ win0_2.index t (1 : Fin 2) = 0 :=
  (by decide +kernel : ∀ t : Fin grid0.N, _)
theorem index3 : ∀ t : Fin cfg0.N, win0_3.index t (0 : Fin 3) = t.val / 8 ∧ win0_3.index t (1 : Fin 3) = 0
    ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)
theorem index14 : ∀ t : Fin cfg0.N, win0_14.index t (0 : Fin 2) = t.val ∧ win0_14.index t (1 : Fin 2) = 0 :=
  (by decide +kernel : ∀ t : Fin grid0.N, _)
theorem index15 : ∀ t : Fin cfg0.N, win0_15.index t (0 : Fin 2) = t.val ∧ win0_15.index t (1 : Fin 2) = 0 :=
  (by decide +kernel : ∀ t : Fin grid0.N, _)

/-- Row `i` of grid point `t`'s block is row `512 t + i` of the array. -/
abbrev row (t : Fin cfg0.N) (i : Fin 512) : Fin 32768 :=
  ⟨512 * t.val + i.val, by have h : t.val < 64 := t.isLt; omega⟩

/-- The eight rows before the block, -/
theorem iblk0 (c : Dev nD) (t : Fin cfg0.N) (i : Fin 8) (k : Fin 1024) :
    iblk m c 0 t (ix2 i k) = m ((c : Thread nD τ).loc main_arg0)
      (ix2 (⟨8 * (64 * t.val - 1) + i.val, by have h : t.val < 64 := t.isLt; omega⟩ : Fin 32768) k) := by
  rw [← V_main_arg0 m c]
  show V m c main_arg0 (((cfg0.win 0).blk t).view.emb (ix2 i k)) = _
  refine congrArg _ (funext fun a => Fin.ext ?_)
  obtain ⟨h0, h1⟩ := index0 t
  match a with
  | ⟨0, _⟩ => show win0_0.index t (0 : Fin 2) * 8 + 1 * i.val = 8 * (64 * t.val - 1) + i.val; omega
  | ⟨1, _⟩ => show win0_0.index t (1 : Fin 2) * 1024 + 1 * k.val = k.val; omega

/-- its own, -/
theorem iblk1 (c : Dev nD) (t : Fin cfg0.N) (i : Fin 512) (k : Fin 1024) :
    iblk m c 1 t (ix2 i k) = m ((c : Thread nD τ).loc main_arg0) (ix2 (row t i) k) := by
  rw [← V_main_arg0 m c]
  show V m c main_arg0 (((cfg0.win 1).blk t).view.emb (ix2 i k)) = _
  refine congrArg _ (funext fun a => Fin.ext ?_)
  obtain ⟨h0, h1⟩ := index1 t
  match a with
  | ⟨0, _⟩ => show win0_1.index t (0 : Fin 2) * 512 + 1 * i.val = 512 * t.val + i.val; omega
  | ⟨1, _⟩ => show win0_1.index t (1 : Fin 2) * 1024 + 1 * k.val = k.val; omega

/-- and the eight after it. -/
theorem iblk2 (c : Dev nD) (t : Fin cfg0.N) (i : Fin 8) (k : Fin 1024) :
    iblk m c 2 t (ix2 i k) = m ((c : Thread nD τ).loc main_arg0)
      (ix2 (⟨8 * min (64 * t.val + 64) 4095 + i.val, by omega⟩ : Fin 32768) k) := by
  rw [← V_main_arg0 m c]
  show V m c main_arg0 (((cfg0.win 2).blk t).view.emb (ix2 i k)) = _
  refine congrArg _ (funext fun a => Fin.ext ?_)
  obtain ⟨h0, h1⟩ := index2 t
  match a with
  | ⟨0, _⟩ => show win0_2.index t (0 : Fin 2) * 8 + 1 * i.val = 8 * min (64 * t.val + 64) 4095 + i.val; omega
  | ⟨1, _⟩ => show win0_2.index t (1 : Fin 2) * 1024 + 1 * k.val = k.val; omega

/-- The modulation block is the batch element's, eight grid points to a batch element. -/
theorem iblk3 (c : Dev nD) (t : Fin cfg0.N) (i : Fin 512) (q : Fin 6) (k : Fin 1024) :
    iblk m c 3 t (ix3 0 q k) = m ((c : Thread nD τ).loc main_arg1) (ix3 ⟨(row t i).val / 4096, by omega⟩ q k) := by
  rw [← V_main_arg1 m c]
  show V m c main_arg1 (((cfg0.win 3).blk t).view.emb (ix3 0 q k)) = _
  refine congrArg _ (funext fun a => Fin.ext ?_)
  obtain ⟨h0, h1, h2⟩ := index3 t
  match a with
  | ⟨0, _⟩ => show win0_3.index t (0 : Fin 3) * 1 + 1 * 0 = (512 * t.val + i.val) / 4096; omega
  | ⟨1, _⟩ => show win0_3.index t (1 : Fin 3) * 6 + 1 * q.val = q.val; omega
  | ⟨2, _⟩ => show win0_3.index t (2 : Fin 3) * 1024 + 1 * k.val = k.val; omega

/-! The weights', taps' and biases' blocks are the whole of them. -/

theorem iblk4 (c : Dev nD) (t : Fin cfg0.N) (k : Fin 1024) (j : Fin 1024) :
    iblk m c 4 t (ix2 k j) = m ((c : Thread nD τ).loc main_arg2) (ix2 k (⟨0 + j.val, by omega⟩ : Fin 3072)) := by
  rw [← V_v1 m c]
  show V m c main_v1 (((cfg0.win 4).blk t).view.emb (ix2 k j)) = _
  refine congrArg _ (funext fun a => Fin.ext ?_)
  obtain ⟨h0, h1⟩ := index4 t
  match a with
  | ⟨0, _⟩ => show win0_4.index t (0 : Fin 2) * 1024 + 1 * k.val = k.val; omega
  | ⟨1, _⟩ => show win0_4.index t (1 : Fin 2) * 1024 + 1 * j.val = j.val; omega

theorem iblk5 (c : Dev nD) (t : Fin cfg0.N) (k : Fin 3) (j : Fin 1024) :
    iblk m c 5 t (ix2 k j) = m ((c : Thread nD τ).loc main_arg3) (ix2 k (⟨0 + j.val, by omega⟩ : Fin 3072)) := by
  rw [← V_v2 m c]
  show V m c main_v2 (((cfg0.win 5).blk t).view.emb (ix2 k j)) = _
  refine congrArg _ (funext fun a => Fin.ext ?_)
  obtain ⟨h0, h1⟩ := index5 t
  match a with
  | ⟨0, _⟩ => show win0_5.index t (0 : Fin 2) * 3 + 1 * k.val = k.val; omega
  | ⟨1, _⟩ => show win0_5.index t (1 : Fin 2) * 1024 + 1 * j.val = j.val; omega

theorem iblk6 (c : Dev nD) (t : Fin cfg0.N) (j : Fin 1024) :
    iblk m c 6 t (ix2 0 j) = m ((c : Thread nD τ).loc main_arg4) (ix1 (⟨0 + j.val, by omega⟩ : Fin 3072)) := by
  rw [← V_v10 m c]
  show V m c main_v10 (((cfg0.win 6).blk t).view.emb (ix2 0 j)) = _
  refine congrArg _ (funext fun a => Fin.ext ?_)
  obtain ⟨h0, h1⟩ := index6 t
  match a with
  | ⟨0, _⟩ => show win0_6.index t (0 : Fin 2) * 1 + 1 * 0 = 0; omega
  | ⟨1, _⟩ => show win0_6.index t (1 : Fin 2) * 1024 + 1 * j.val = j.val; omega

theorem iblk7 (c : Dev nD) (t : Fin cfg0.N) (k : Fin 1024) (j : Fin 1024) :
    iblk m c 7 t (ix2 k j) = m ((c : Thread nD τ).loc main_arg2) (ix2 k (⟨1024 + j.val, by omega⟩ : Fin 3072)) := by
  rw [← V_v4 m c]
  show V m c main_v4 (((cfg0.win 7).blk t).view.emb (ix2 k j)) = _
  refine congrArg _ (funext fun a => Fin.ext ?_)
  obtain ⟨h0, h1⟩ := index7 t
  match a with
  | ⟨0, _⟩ => show win0_7.index t (0 : Fin 2) * 1024 + 1 * k.val = k.val; omega
  | ⟨1, _⟩ => show win0_7.index t (1 : Fin 2) * 1024 + 1 * j.val = j.val; omega

theorem iblk8 (c : Dev nD) (t : Fin cfg0.N) (k : Fin 3) (j : Fin 1024) :
    iblk m c 8 t (ix2 k j) = m ((c : Thread nD τ).loc main_arg3) (ix2 k (⟨1024 + j.val, by omega⟩ : Fin 3072)) := by
  rw [← V_v5 m c]
  show V m c main_v5 (((cfg0.win 8).blk t).view.emb (ix2 k j)) = _
  refine congrArg _ (funext fun a => Fin.ext ?_)
  obtain ⟨h0, h1⟩ := index8 t
  match a with
  | ⟨0, _⟩ => show win0_8.index t (0 : Fin 2) * 3 + 1 * k.val = k.val; omega
  | ⟨1, _⟩ => show win0_8.index t (1 : Fin 2) * 1024 + 1 * j.val = j.val; omega

theorem iblk9 (c : Dev nD) (t : Fin cfg0.N) (j : Fin 1024) :
    iblk m c 9 t (ix2 0 j) = m ((c : Thread nD τ).loc main_arg4) (ix1 (⟨1024 + j.val, by omega⟩ : Fin 3072)) := by
  rw [← V_v11 m c]
  show V m c main_v11 (((cfg0.win 9).blk t).view.emb (ix2 0 j)) = _
  refine congrArg _ (funext fun a => Fin.ext ?_)
  obtain ⟨h0, h1⟩ := index9 t
  match a with
  | ⟨0, _⟩ => show win0_9.index t (0 : Fin 2) * 1 + 1 * 0 = 0; omega
  | ⟨1, _⟩ => show win0_9.index t (1 : Fin 2) * 1024 + 1 * j.val = j.val; omega

theorem iblk10 (c : Dev nD) (t : Fin cfg0.N) (k : Fin 1024) (j : Fin 1024) :
    iblk m c 10 t (ix2 k j) = m ((c : Thread nD τ).loc main_arg2) (ix2 k (⟨2048 + j.val, by omega⟩ : Fin 3072)) := by
  rw [← V_v7 m c]
  show V m c main_v7 (((cfg0.win 10).blk t).view.emb (ix2 k j)) = _
  refine congrArg _ (funext fun a => Fin.ext ?_)
  obtain ⟨h0, h1⟩ := index10 t
  match a with
  | ⟨0, _⟩ => show win0_10.index t (0 : Fin 2) * 1024 + 1 * k.val = k.val; omega
  | ⟨1, _⟩ => show win0_10.index t (1 : Fin 2) * 1024 + 1 * j.val = j.val; omega

theorem iblk11 (c : Dev nD) (t : Fin cfg0.N) (k : Fin 3) (j : Fin 1024) :
    iblk m c 11 t (ix2 k j) = m ((c : Thread nD τ).loc main_arg3) (ix2 k (⟨2048 + j.val, by omega⟩ : Fin 3072)) := by
  rw [← V_v8 m c]
  show V m c main_v8 (((cfg0.win 11).blk t).view.emb (ix2 k j)) = _
  refine congrArg _ (funext fun a => Fin.ext ?_)
  obtain ⟨h0, h1⟩ := index11 t
  match a with
  | ⟨0, _⟩ => show win0_11.index t (0 : Fin 2) * 3 + 1 * k.val = k.val; omega
  | ⟨1, _⟩ => show win0_11.index t (1 : Fin 2) * 1024 + 1 * j.val = j.val; omega

theorem iblk12 (c : Dev nD) (t : Fin cfg0.N) (j : Fin 1024) :
    iblk m c 12 t (ix2 0 j) = m ((c : Thread nD τ).loc main_arg4) (ix1 (⟨2048 + j.val, by omega⟩ : Fin 3072)) := by
  rw [← V_v12 m c]
  show V m c main_v12 (((cfg0.win 12).blk t).view.emb (ix2 0 j)) = _
  refine congrArg _ (funext fun a => Fin.ext ?_)
  obtain ⟨h0, h1⟩ := index12 t
  match a with
  | ⟨0, _⟩ => show win0_12.index t (0 : Fin 2) * 1 + 1 * 0 = 0; omega
  | ⟨1, _⟩ => show win0_12.index t (1 : Fin 2) * 1024 + 1 * j.val = j.val; omega

/-! ## The three result arrays as functions of the arguments -/

/-- The 1024 columns from column `o` on of the product, convolved along the sequence. -/
def G_part (o : Nat) (ho : o + 1024 ≤ 3072) (c : Dev nD) : Vec Ideal S32768x1024 .f32 := fun i =>
  have hi : (i 1).val < 1024 := (i 1).isLt
  conv3 (projSeq (m ((c : Thread nD τ).loc main_arg0)) (m ((c : Thread nD τ).loc main_arg1))
      ⟨(i 0).val / 4096, Nat.div_lt_of_lt_mul (i 0).isLt⟩
      (fun k => m ((c : Thread nD τ).loc main_arg2) (ix2 k ⟨o + (i 1).val, by omega⟩)))
    (fun q => m ((c : Thread nD τ).loc main_arg3) (ix2 q ⟨o + (i 1).val, by omega⟩))
    (m ((c : Thread nD τ).loc main_arg4) (ix1 ⟨o + (i 1).val, by omega⟩)) ((i 0).val % 4096)

/-- The product of the rows around a block with a column is the padded sequence's. -/
theorem around (c : Dev nD) (t : Fin cfg0.N) (i : Fin 512) (w : Fin 1024 → EReal) (n : Nat) (h1 : 7 ≤ n) (h2 : n < 521) :
    ∑ k, SinBlock.wide (grid0.coords t) (iblk m c 0 t) (iblk m c 1 t) (iblk m c 2 t) (iblk m c 3 t) n k * w k
      = padded 1 (projSeq (m ((c : Thread nD τ).loc main_arg0)) (m ((c : Thread nD τ).loc main_arg1))
          ⟨(row t i).val / 4096, by omega⟩ w) (t.val % 8 * 512 + n + 1 - 8) := by
  have ht : t.val < 64 := t.isLt
  have hc := coords t
  have at_ : ∀ {a b : Nat} (ha : a < 32768) (hb : b < 32768), a = b → ∀ k : Fin 1024,
      m ((c : Thread nD τ).loc main_arg0) (ix2 (⟨a, ha⟩ : Fin 32768) k) = m ((c : Thread nD τ).loc main_arg0) (ix2 (⟨b, hb⟩ : Fin 32768) k) :=
    fun _ _ e k => by subst e; rfl
  refine halo_tap _ _ _ _ _ w _ 1 (t.val % 8 * 512) (by omega) (by omega) (by rw [hc]; omega) (by rw [hc]; omega) ?_ ?_ ?_ (by omega) n (by omega) (by omega)
  · intro n h h'
    unfold rowOf
    simp only [dif_pos h, iblk0, iblk3 m c t i]
    refine congrArg (fun x => projRow x _ _ w) (funext fun k => at_ _ _ ?_ k)
    dsimp only
    omega
  · intro n h
    unfold rowOf
    simp only [dif_pos h, iblk1, iblk3 m c t i]
    refine congrArg (fun x => projRow x _ _ w) (funext fun k => at_ _ _ ?_ k)
    dsimp only
    omega
  · intro n h h'
    unfold rowOf
    simp only [dif_pos h, iblk2, iblk3 m c t i]
    refine congrArg (fun x => projRow x _ _ w) (funext fun k => at_ _ _ ?_ k)
    dsimp only
    omega

/-- One of the results in its block, from its third of the weight, the taps and the bias. -/
theorem part_apply (o : Nat) (ho : o + 1024 ≤ 3072) (c : Dev nD) (t : Fin cfg0.N) (i : Fin 512) (j : Fin 1024)
    (w : Vec Ideal S1024x1024 .bf16) (d : Vec Ideal S3x1024 .f32) (b : Vec Ideal S1x1024 .f32)
    (hw : ∀ k, w (ix2 k j) = m ((c : Thread nD τ).loc main_arg2) (ix2 k (⟨o + j.val, by omega⟩ : Fin 3072)))
    (hd : ∀ q, d (ix2 q j) = m ((c : Thread nD τ).loc main_arg3) (ix2 q (⟨o + j.val, by omega⟩ : Fin 3072)))
    (hb : b (ix2 0 j) = m ((c : Thread nD τ).loc main_arg4) (ix1 (⟨o + j.val, by omega⟩ : Fin 3072))) :
    HinBlock.out3 (grid0.coords t) (iblk m c 0 t) (iblk m c 1 t) (iblk m c 2 t) (iblk m c 3 t) w d b i j
      = G_part m o ho c (ix2 (row t i) j) := by
  unfold HinBlock.out3
  simp only [hw, hd, hb]
  refine taps3_congr _ _ _ _ _ _ fun e he => ?_
  refine (around m c t i _ (7 + i.val + e) (by omega) (by omega)).trans (congrArg _ ?_)
  show t.val % 8 * 512 + (7 + i.val + e) + 1 - 8 = (512 * t.val + i.val) % 4096 + e
  omega

/-! ## The first result array -/

/-- The block's place in the array. -/
theorem emb13 (t : Fin cfg0.N) (i : Fin 512) (j : Fin 1024) :
    ((cfg0.win 13).blk t).view.emb (ix2 i j) = (ix2 (row t i) j : S32768x1024.Idx) := by
  refine funext fun a => Fin.ext ?_
  obtain ⟨h0, h1⟩ := index13 t
  match a with
  | ⟨0, _⟩ => show win0_13.index t (0 : Fin 2) * 512 + 1 * i.val = 512 * t.val + i.val; omega
  | ⟨1, _⟩ => show win0_13.index t (1 : Fin 2) * 1024 + 1 * j.val = j.val; omega

/-- What a grid point writes back is its block of the array's function. -/
theorem flushed_G13 (c : Dev nD) (t : Fin cfg0.N) :
    (dats m 0 c).flushed 13 t = ((cfg0.win 13).blk t).view.read (Elt Ideal) (G_part m 0 (by omega) c) := by
  rw [flushed13]
  funext y
  obtain ⟨i, j, rfl⟩ : ∃ (i : Fin 512) (j : Fin 1024), y = (ix2 i j : S512x1024.Idx) :=
    ⟨y 0, y 1, funext fun a => match a with | ⟨0, _⟩ => rfl | ⟨1, _⟩ => rfl⟩
  show out0_13 _ _ _ _ _ _ _ _ _ _ _ _ _ _ (ix2 i j) = G_part m 0 (by omega) c (((cfg0.win 13).blk t).view.emb (ix2 i j))
  rw [emb13, HinBlock.first_apply]
  exact part_apply m 0 _ c t i j _ _ _ (fun k => iblk4 m c t k j) (fun k => iblk5 m c t k j) (iblk6 m c t j)

/-- Every index of the array lies in some grid point's block. -/
theorem cover13 (x : S32768x1024.Idx) :
    ∃ t : Fin cfg0.N, (cfg0.win 13).flush t = true ∧ x ∈ ((cfg0.win 13).blk t).view.set := by
  have hx0 : (x 0).val < 32768 := (x 0).isLt
  let t : Fin cfg0.N := ⟨(x 0).val / 512, by show _ < 64; omega⟩
  have e : ((cfg0.win 13).blk t).view.emb (ix2 (⟨(x 0).val % 512, by omega⟩ : Fin 512) (x 1 : Fin 1024)) = x := by
    refine (emb13 t _ _).trans (funext fun a => Fin.ext ?_)
    match a with
    | ⟨0, _⟩ => show 512 * ((x 0).val / 512) + (x 0).val % 512 = (x 0).val; omega
    | ⟨1, _⟩ => rfl
  exact ⟨t, flush0_13 _, e ▸ ((cfg0.win 13).blk t).view.emb_mem_set _⟩

/-- The array after the run. -/
theorem final13 (c : Dev nD) : (dats m 0 c).arrAt 13 cfg0.N = G_part m 0 (by omega) c :=
  (dats m 0 c).arrAt_eq_of_cover 13 (G_part m 0 (by omega) c) (fun t _ => flushed_G13 m c t) cover13

/-! ## The second result array -/

/-- The block's place in the array. -/
theorem emb14 (t : Fin cfg0.N) (i : Fin 512) (j : Fin 1024) :
    ((cfg0.win 14).blk t).view.emb (ix2 i j) = (ix2 (row t i) j : S32768x1024.Idx) := by
  refine funext fun a => Fin.ext ?_
  obtain ⟨h0, h1⟩ := index14 t
  match a with
  | ⟨0, _⟩ => show win0_14.index t (0 : Fin 2) * 512 + 1 * i.val = 512 * t.val + i.val; omega
  | ⟨1, _⟩ => show win0_14.index t (1 : Fin 2) * 1024 + 1 * j.val = j.val; omega

/-- What a grid point writes back is its block of the array's function. -/
theorem flushed_G14 (c : Dev nD) (t : Fin cfg0.N) :
    (dats m 0 c).flushed 14 t = ((cfg0.win 14).blk t).view.read (Elt Ideal) (G_part m 1024 (by omega) c) := by
  rw [flushed14]
  funext y
  obtain ⟨i, j, rfl⟩ : ∃ (i : Fin 512) (j : Fin 1024), y = (ix2 i j : S512x1024.Idx) :=
    ⟨y 0, y 1, funext fun a => match a with | ⟨0, _⟩ => rfl | ⟨1, _⟩ => rfl⟩
  show out0_14 _ _ _ _ _ _ _ _ _ _ _ _ _ _ (ix2 i j) = G_part m 1024 (by omega) c (((cfg0.win 14).blk t).view.emb (ix2 i j))
  rw [emb14, HinBlock.second_apply]
  exact part_apply m 1024 _ c t i j _ _ _ (fun k => iblk7 m c t k j) (fun k => iblk8 m c t k j) (iblk9 m c t j)

/-- Every index of the array lies in some grid point's block. -/
theorem cover14 (x : S32768x1024.Idx) :
    ∃ t : Fin cfg0.N, (cfg0.win 14).flush t = true ∧ x ∈ ((cfg0.win 14).blk t).view.set := by
  have hx0 : (x 0).val < 32768 := (x 0).isLt
  let t : Fin cfg0.N := ⟨(x 0).val / 512, by show _ < 64; omega⟩
  have e : ((cfg0.win 14).blk t).view.emb (ix2 (⟨(x 0).val % 512, by omega⟩ : Fin 512) (x 1 : Fin 1024)) = x := by
    refine (emb14 t _ _).trans (funext fun a => Fin.ext ?_)
    match a with
    | ⟨0, _⟩ => show 512 * ((x 0).val / 512) + (x 0).val % 512 = (x 0).val; omega
    | ⟨1, _⟩ => rfl
  exact ⟨t, flush0_14 _, e ▸ ((cfg0.win 14).blk t).view.emb_mem_set _⟩

/-- The array after the run. -/
theorem final14 (c : Dev nD) : (dats m 0 c).arrAt 14 cfg0.N = G_part m 1024 (by omega) c :=
  (dats m 0 c).arrAt_eq_of_cover 14 (G_part m 1024 (by omega) c) (fun t _ => flushed_G14 m c t) cover14

/-! ## The third result array -/

/-- The block's place in the array. -/
theorem emb15 (t : Fin cfg0.N) (i : Fin 512) (j : Fin 1024) :
    ((cfg0.win 15).blk t).view.emb (ix2 i j) = (ix2 (row t i) j : S32768x1024.Idx) := by
  refine funext fun a => Fin.ext ?_
  obtain ⟨h0, h1⟩ := index15 t
  match a with
  | ⟨0, _⟩ => show win0_15.index t (0 : Fin 2) * 512 + 1 * i.val = 512 * t.val + i.val; omega
  | ⟨1, _⟩ => show win0_15.index t (1 : Fin 2) * 1024 + 1 * j.val = j.val; omega

/-- What a grid point writes back is its block of the array's function. -/
theorem flushed_G15 (c : Dev nD) (t : Fin cfg0.N) :
    (dats m 0 c).flushed 15 t = ((cfg0.win 15).blk t).view.read (Elt Ideal) (G_part m 2048 (by omega) c) := by
  rw [flushed15]
  funext y
  obtain ⟨i, j, rfl⟩ : ∃ (i : Fin 512) (j : Fin 1024), y = (ix2 i j : S512x1024.Idx) :=
    ⟨y 0, y 1, funext fun a => match a with | ⟨0, _⟩ => rfl | ⟨1, _⟩ => rfl⟩
  show out0_15 _ _ _ _ _ _ _ _ _ _ _ _ _ _ (ix2 i j) = G_part m 2048 (by omega) c (((cfg0.win 15).blk t).view.emb (ix2 i j))
  rw [emb15, HinBlock.third_apply]
  exact part_apply m 2048 _ c t i j _ _ _ (fun k => iblk10 m c t k j) (fun k => iblk11 m c t k j) (iblk12 m c t j)

/-- Every index of the array lies in some grid point's block. -/
theorem cover15 (x : S32768x1024.Idx) :
    ∃ t : Fin cfg0.N, (cfg0.win 15).flush t = true ∧ x ∈ ((cfg0.win 15).blk t).view.set := by
  have hx0 : (x 0).val < 32768 := (x 0).isLt
  let t : Fin cfg0.N := ⟨(x 0).val / 512, by show _ < 64; omega⟩
  have e : ((cfg0.win 15).blk t).view.emb (ix2 (⟨(x 0).val % 512, by omega⟩ : Fin 512) (x 1 : Fin 1024)) = x := by
    refine (emb15 t _ _).trans (funext fun a => Fin.ext ?_)
    match a with
    | ⟨0, _⟩ => show 512 * ((x 0).val / 512) + (x 0).val % 512 = (x 0).val; omega
    | ⟨1, _⟩ => rfl
  exact ⟨t, flush0_15 _, e ▸ ((cfg0.win 15).blk t).view.emb_mem_set _⟩

/-- The array after the run. -/
theorem final15 (c : Dev nD) : (dats m 0 c).arrAt 15 cfg0.N = G_part m 2048 (by omega) c :=
  (dats m 0 c).arrAt_eq_of_cover 15 (G_part m 2048 (by omega) c) (fun t _ => flushed_G15 m c t) cover15

/-- The kernel's run: it ends with the result arrays at those functions of the arguments, and the arguments unchanged. -/
theorem run : θ_run defs (onTc (τ := τ) (main (F := Ideal))) ⟨m, fun _ => 0, ρ⟩ fun r => ∀ c : Dev nD,
      r.2.mem ((c : Thread nD τ).loc main_v13_0) = G_part m 0 (by omega) c
      ∧ r.2.mem ((c : Thread nD τ).loc main_v13_1) = G_part m 1024 (by omega) c
      ∧ r.2.mem ((c : Thread nD τ).loc main_v13_2) = G_part m 2048 (by omega) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final13 m c), (h c).2.1.trans (final14 m c), (h c).2.2.1.trans (final15 m c), (h c).2.2.2⟩)
    (run_blocks m ρ)

end Cert.Proof.HinArray

end
-- ==== Proof.HinRef.lean ====
/- What the reference of the three-way projection with a short convolution computes. -/
module

public import proofs.«01_k».proof.Proof.ConvSpec
public import proofs.«01_k».proof.Proof.Gen.HinRefIdeal.Read

@[expose] public section

set_option maxRecDepth 16384

noncomputable section

namespace Cert.Proof.HinRef

open Idealize.ShloMosaic Idealize.ShloMosaic.TcCoe Idealize.ShloMosaic.StableHlo Idealize.SL.Sem
open Cert.HinRefIdeal Cert.HinRefIdeal.Gen Cert.HinRefIdeal.Read Cert.Spec

variable (x0 : (⟨S32768x1024, .f32⟩ : BufTy).Contents (Elt Ideal)) (x1 : (⟨S8x6x1024, .f32⟩ : BufTy).Contents (Elt Ideal))
  (x2 : (⟨S1024x3072, .f32⟩ : BufTy).Contents (Elt Ideal)) (x3 : (⟨S3x3072, .f32⟩ : BufTy).Contents (Elt Ideal))
  (x4 : (⟨S3072, .f32⟩ : BufTy).Contents (Elt Ideal))

/-- Row `s` of batch element `b` in the flat array. -/
abbrev flat (b : Fin 8) (s : Fin 4096) : Fin 32768 := ⟨b.val * 4096 + s.val, by omega⟩

/-- The rows by batch element and place in the sequence. -/
theorem rows (b : Fin 8) (s : Fin 4096) (k : Fin 1024) : val_main_v6 x0 (ix3 b s k) = x0 (ix2 (flat b s) k) := by
  pointwise [val_main_v6]

/-- The modulated rows. -/
theorem modulated (b : Fin 8) (s : Fin 4096) (k : Fin 1024) :
    val_main_v12 x0 x1 (ix3 b s k) = modRow (fun k => x0 (ix2 (flat b s) k)) (fun k => x1 (ix3 b 0 k)) (fun k => x1 (ix3 b 1 k)) k := by
  pointwise [val_main_v12, val_main_v11, val_main_v10, val_main_v9, val_main_v8, val_main_v7, val_main_cst, val_main_v1, val_main_v0]
  rw [rows]
  rfl

/-- The product, along the sequence. -/
theorem product (b : Fin 8) (s : Fin 4096) (j : Fin 3072) :
    val_main_v13 x0 x1 x2 (ix3 b s j) = projSeq x0 x1 b (fun k => x2 (ix2 k j)) s := by
  pointwise [val_main_v13]
  simp only [modulated]
  rfl

/-- The integer the arrays are padded with, as a number. -/
theorem int_zero : (FloatOps.sitofp (F := Ideal) .f32 (0#32 : BitVec 32) : EReal) = 0 := by
  show (((0#32 : BitVec 32).toInt : ℝ) : EReal) = 0
  simp

/-- The product behind and before one row of zeros. -/
theorem padded_rows (b : Fin 8) (n : Fin 4098) (j : Fin 3072) :
    val_main_v14 x0 x1 x2 (ix3 b n j) = padded 1 (projSeq x0 x1 b (fun k => x2 (ix2 k j))) n.val := by
  pointwise [val_main_v14, val_main_call0_v0, val_main_c]
  unfold padded
  by_cases h : 1 ≤ n.val ∧ n.val - 1 < 4096
  · rw [dif_pos h, dif_pos (by omega), product]
  · rw [dif_neg h, dif_neg (by omega)]
    exact int_zero

/-- The convolution. -/
theorem conv (b : Fin 8) (s : Fin 4096) (j : Fin 3072) :
    val_main_v37 x0 x1 x2 x3 x4 (ix3 b s j)
      = conv3 (projSeq x0 x1 b (fun k => x2 (ix2 k j))) (fun q => x3 (ix2 q j)) (x4 (ix1 j)) s.val := by
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_v19, val_main_v18, val_main_v17, val_main_v16, val_main_v15]
  simp only [padded_rows]
  unfold conv3 taps3
  rw [Nat.add_comm s.val 1, Nat.add_comm s.val 2]

/-- The first result: the first 1024 columns, -/
theorem first (r : Fin 32768) (j : Fin 1024) :
    val_main_v41 x0 x1 x2 x3 x4 (ix2 r j)
      = val_main_v37 x0 x1 x2 x3 x4 (ix3 (⟨r.val / 4096, by omega⟩ : Fin 8) (⟨r.val % 4096, by omega⟩ : Fin 4096) (⟨0 + j.val, by omega⟩ : Fin 3072)) := by
  pointwise [val_main_v41, val_main_v38]

/-- the second: the next, -/
theorem second (r : Fin 32768) (j : Fin 1024) :
    val_main_v42 x0 x1 x2 x3 x4 (ix2 r j)
      = val_main_v37 x0 x1 x2 x3 x4 (ix3 (⟨r.val / 4096, by omega⟩ : Fin 8) (⟨r.val % 4096, by omega⟩ : Fin 4096) (⟨1024 + j.val, by omega⟩ : Fin 3072)) := by
  pointwise [val_main_v42, val_main_v39]

/-- and the third: the last. -/
theorem third (r : Fin 32768) (j : Fin 1024) :
    val_main_v43 x0 x1 x2 x3 x4 (ix2 r j)
      = val_main_v37 x0 x1 x2 x3 x4 (ix3 (⟨r.val / 4096, by omega⟩ : Fin 8) (⟨r.val % 4096, by omega⟩ : Fin 4096) (⟨2048 + j.val, by omega⟩ : Fin 3072)) := by
  pointwise [val_main_v43, val_main_v40]

end Cert.Proof.HinRef

end
-- ==== Proof.HinEq.lean ====
/- The three-way projection with a short convolution and its reference compute the same three arrays. -/
module

public import proofs.«01_k».proof.Defs
public import proofs.«01_k».proof.Proof.HinArray
public import proofs.«01_k».proof.Proof.HinRef

@[expose] public section

set_option maxRecDepth 16384

noncomputable section

namespace Cert.Proof.HinEq

open Idealize.ShloMosaic Idealize.SL.Sem

/-- From equal arguments the kernel's arrays and the reference's are the same functions of them. -/
theorem algebraic : algebraic_HinIdeal_HinRefIdeal (hHinIdeal := Cert.HinIdeal.Gen.facts) (hHinRefIdeal := Cert.HinRefIdeal.Gen.facts) := by
  intro m g m' g' _ h
  have two : ∀ i : Cert.HinIdeal.S32768x1024.Idx, ∃ (r : Fin 32768) (j : Fin 1024), i = ix2 r j := fun i =>
    ⟨i 0, i 1, funext fun a => match a with | ⟨0, _⟩ => rfl | ⟨1, _⟩ => rfl⟩
  refine ⟨HinArray.G_part m 0 (by omega), HinArray.G_part m 1024 (by omega), HinArray.G_part m 2048 (by omega), HinArray.run m g,
    (θ_run _ _ _).mono (fun r hr c => ⟨(hr c).1.trans ?_, (hr c).2.1.trans ?_, (hr c).2.2.1.trans ?_, (hr c).2.2.2⟩) (Cert.HinRefIdeal.Value.run m' g')⟩
  · rw [Cert.HinRefIdeal.Read.val_main_v41_eq]
    funext i
    obtain ⟨r, j, rfl⟩ := two i
    obtain ⟨h0, h1, h2, h3, h4⟩ := h c
    refine ((HinRef.first _ _ _ _ _ r j).trans (HinRef.conv _ _ _ _ _ _ _ _)).trans ?_
    rw [h0, h1, h2, h3, h4]
    rfl
  · rw [Cert.HinRefIdeal.Read.val_main_v42_eq]
    funext i
    obtain ⟨r, j, rfl⟩ := two i
    obtain ⟨h0, h1, h2, h3, h4⟩ := h c
    refine ((HinRef.second _ _ _ _ _ r j).trans (HinRef.conv _ _ _ _ _ _ _ _)).trans ?_
    rw [h0, h1, h2, h3, h4]
    rfl
  · rw [Cert.HinRefIdeal.Read.val_main_v43_eq]
    funext i
    obtain ⟨r, j, rfl⟩ := two i
    obtain ⟨h0, h1, h2, h3, h4⟩ := h c
    refine ((HinRef.third _ _ _ _ _ r j).trans (HinRef.conv _ _ _ _ _ _ _ _)).trans ?_
    rw [h0, h1, h2, h3, h4]
    rfl

end Cert.Proof.HinEq

end
-- ==== Proof.OutBlock.lean ====
/- What one grid point of the output projection leaves in its block: row by row, the residual's layer norm. -/
module

public import proofs.«01_k».proof.Proof.Spec
public import proofs.«01_k».proof.Proof.Gen.OutIdeal.Frame

@[expose] public section

set_option maxRecDepth 16384

noncomputable section

namespace Cert.Proof.OutBlock

open Idealize.ShloMosaic Idealize.SL.Sem Cert.OutIdeal Cert.OutIdeal.Gen Cert.Spec

/-- One row of the output projection: the branch's row times the weight, gated, added to the scaled residual, normalised. -/
def outRow (a x gate : Fin 1024 → EReal) (w : Fin 1024 → Fin 1024 → EReal) (g b : Fin 1024 → EReal) : Fin 1024 → EReal :=
  lnRow (resRow x gate (fun j => ∑ k, a k * w k j)) g b

/-- The stored value, row by row. -/
theorem payload (h : Vec Ideal S512x1024 .f32) (mod : Vec Ideal S1x6x1024 .f32) (a : Vec Ideal S512x1024 .f32)
    (w : Vec Ideal S1024x1024 .bf16) (g b : Vec Ideal S1x1024 .f32) (i : Fin 512) (j : Fin 1024) :
    k0_pay1 h mod a w g b (ix2 i j)
      = outRow (fun k => a (ix2 i k)) (fun k => h (ix2 i k)) (fun k => mod (ix3 0 2 k)) (fun k j => w (ix2 k j))
          (fun j => g (ix2 0 j)) (fun j => b (ix2 0 j)) j := by
  pointwise [k0_pay1]
  rfl

/-- The body's result in the block, row by row. -/
theorem out_apply (x0 x1 : Vec Ideal S512x1024 .f32) (x2 : Vec Ideal S1x6x1024 .f32) (x3 : Vec Ideal S1024x1024 .bf16)
    (x4 x5 : Vec Ideal S1x1024 .f32) (i : Fin 512) (j : Fin 1024) :
    out0_6 x0 x1 x2 x3 x4 x5 (ix2 i j)
      = outRow (fun k => x0 (ix2 i k)) (fun k => x1 (ix2 i k)) (fun k => x2 (ix3 0 2 k)) (fun k j => x3 (ix2 k j))
          (fun j => x4 (ix2 0 j)) (fun j => x5 (ix2 0 j)) j := by
  have hz : (![0, 0] : Fin 2 → Nat) = fun _ => 0 := funext fun a => by fin_cases a <;> rfl
  have hz3 : (![0, 0, 0] : Fin 3 → Nat) = fun _ => 0 := funext fun a => by fin_cases a <;> rfl
  unfold out0_6
  rw [View.canon_unit_zero (S := S512x1024) hz, View.ld_unit_zero (S := S512x1024) hz, View.ld_unit_zero (S := S512x1024) hz,
    View.ld_unit_zero (S := S1x6x1024) hz3, View.ld_unit_zero (S := S1024x1024) hz, View.ld_unit_zero (S := S1x1024) hz,
    View.ld_unit_zero (S := S1x1024) hz]
  exact payload x1 x2 x0 x3 x4 x5 i j

end Cert.Proof.OutBlock

end
-- ==== Proof.OutArray.lean ====
/- What the output projection leaves in its result array: every row the residual's layer norm. -/
module

public import proofs.«01_k».proof.Proof.OutBlock
public import proofs.«01_k».proof.Proof.Gen.OutIdeal.Value
public import Idealize.ShloMosaic.Lib.StableHlo.Run

@[expose] public section

set_option maxRecDepth 16384

noncomputable section

namespace Cert.Proof.OutArray

open Idealize.ShloMosaic Idealize.ShloMosaic.TcCoe Idealize.ShloMosaic.StableHlo Idealize.SL.Sem Idealize.ShloMosaic.Pipeline
open Cert.OutIdeal Cert.OutIdeal.Gen Cert.OutIdeal.Value Cert.Spec

variable (m : (ℓ : Loc nD τ sig) → Buf (Elt Ideal) ℓ) (ρ : Dev nD → PrngReg)

/-! ## The arrays the host prepares -/

/-- The weight is the argument, its cast having no effect on an exact value. -/
theorem V_v0 (c : Dev nD) : V m c main_v0 = m ((c : Thread nD τ).loc main_arg3) := by
  show after hostOps0 (fun b => m (c, b)) (main_v0 : DevRef τ sig) = _
  after_results
  rfl
/-- The gain as one row. -/
theorem V_v1 (c : Dev nD) (j : Fin 1024) :
    V m c main_v1 (ix2 0 j) = m ((c : Thread nD τ).loc main_arg4) (ix1 j) := by
  have h : V m c main_v1 = shapeCast S1x1024 (m ((c : Thread nD τ).loc main_arg4)) shapeCasts_S1024_S1x1024 := by
    show after hostOps0 (fun b => m (c, b)) (main_v1 : DevRef τ sig) = _
    after_results
    rfl
  rw [h]
  pointwise
/-- The bias as one row. -/
theorem V_v2 (c : Dev nD) (j : Fin 1024) :
    V m c main_v2 (ix2 0 j) = m ((c : Thread nD τ).loc main_arg5) (ix1 j) := by
  have h : V m c main_v2 = shapeCast S1x1024 (m ((c : Thread nD τ).loc main_arg5)) shapeCasts_S1024_S1x1024 := by
    show after hostOps0 (fun b => m (c, b)) (main_v2 : DevRef τ sig) = _
    after_results
    rfl
  rw [h]
  pointwise

/-! ## Where a window's block lies in its array -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 3) = t.val / 8 ∧ win0_2.index t (1 : Fin 3) = 0
    ∧ win0_2.index t (2 : Fin 3) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)

/-- Row `i` of grid point `t`'s block is row `512 t + i` of the array. -/
abbrev row (t : Fin cfg0.N) (i : Fin 512) : Fin 32768 :=
  ⟨512 * t.val + i.val, by have h : t.val < 64 := t.isLt; omega⟩

/-- The branch's rows. -/
theorem iblk0 (c : Dev nD) (t : Fin cfg0.N) (i : Fin 512) (k : Fin 1024) :
    iblk m c 0 t (ix2 i k) = m ((c : Thread nD τ).loc main_arg0) (ix2 (row t i) k) := by
  rw [← V_main_arg0 m c]
  show V m c main_arg0 (((cfg0.win 0).blk t).view.emb (ix2 i k)) = _
  refine congrArg _ (funext fun a => Fin.ext ?_)
  obtain ⟨h0, h1⟩ := index0 t
  match a with
  | ⟨0, _⟩ => show win0_0.index t (0 : Fin 2) * 512 + 1 * i.val = 512 * t.val + i.val; omega
  | ⟨1, _⟩ => show win0_0.index t (1 : Fin 2) * 1024 + 1 * k.val = k.val; omega

/-- The residual's rows. -/
theorem iblk1 (c : Dev nD) (t : Fin cfg0.N) (i : Fin 512) (k : Fin 1024) :
    iblk m c 1 t (ix2 i k) = m ((c : Thread nD τ).loc main_arg1) (ix2 (row t i) k) := by
  rw [← V_main_arg1 m c]
  show V m c main_arg1 (((cfg0.win 1).blk t).view.emb (ix2 i k)) = _
  refine congrArg _ (funext fun a => Fin.ext ?_)
  obtain ⟨h0, h1⟩ := index1 t
  match a with
  | ⟨0, _⟩ => show win0_1.index t (0 : Fin 2) * 512 + 1 * i.val = 512 * t.val + i.val; omega
  | ⟨1, _⟩ => show win0_1.index t (1 : Fin 2) * 1024 + 1 * k.val = k.val; omega

/-- The modulation block is the batch element's, eight grid points to a batch element. -/
theorem iblk2 (c : Dev nD) (t : Fin cfg0.N) (i : Fin 512) (q : Fin 6) (k : Fin 1024) :
    iblk m c 2 t (ix3 0 q k) = m ((c : Thread nD τ).loc main_arg2) (ix3 ⟨(row t i).val / 4096, by omega⟩ q k) := by
  rw [← V_main_arg2 m c]
  show V m c main_arg2 (((cfg0.win 2).blk t).view.emb (ix3 0 q k)) = _
  refine congrArg _ (funext fun a => Fin.ext ?_)
  obtain ⟨h0, h1, h2⟩ := index2 t
  match a with
  | ⟨0, _⟩ => show win0_2.index t (0 : Fin 3) * 1 + 1 * 0 = (512 * t.val + i.val) / 4096; omega
  | ⟨1, _⟩ => show win0_2.index t (1 : Fin 3) * 6 + 1 * q.val = q.val; omega
  | ⟨2, _⟩ => show win0_2.index t (2 : Fin 3) * 1024 + 1 * k.val = k.val; omega

/-- The weight's block is the whole weight, -/
theorem iblk3 (c : Dev nD) (t : Fin cfg0.N) (k j : Fin 1024) :
    iblk m c 3 t (ix2 k j) = m ((c : Thread nD τ).loc main_arg3) (ix2 k j) := by
  rw [← V_v0 m c]
  show V m c main_v0 (((cfg0.win 3).blk t).view.emb (ix2 k j)) = _
  refine congrArg _ (funext fun a => Fin.ext ?_)
  obtain ⟨h0, h1⟩ := index3 t
  match a with
  | ⟨0, _⟩ => show win0_3.index t (0 : Fin 2) * 1024 + 1 * k.val = k.val; omega
  | ⟨1, _⟩ => show win0_3.index t (1 : Fin 2) * 1024 + 1 * j.val = j.val; omega

/-- the gain's likewise, -/
theorem iblk4 (c : Dev nD) (t : Fin cfg0.N) (j : Fin 1024) :
    iblk m c 4 t (ix2 0 j) = m ((c : Thread nD τ).loc main_arg4) (ix1 j) := by
  rw [← V_v1 m c]
  show V m c main_v1 (((cfg0.win 4).blk t).view.emb (ix2 0 j)) = _
  refine congrArg _ (funext fun a => Fin.ext ?_)
  obtain ⟨h0, h1⟩ := index4 t
  match a with
  | ⟨0, _⟩ => show win0_4.index t (0 : Fin 2) * 1 + 1 * 0 = 0; omega
  | ⟨1, _⟩ => show win0_4.index t (1 : Fin 2) * 1024 + 1 * j.val = j.val; omega

/-- and the bias's. -/
theorem iblk5 (c : Dev nD) (t : Fin cfg0.N) (j : Fin 1024) :
    iblk m c 5 t (ix2 0 j) = m ((c : Thread nD τ).loc main_arg5) (ix1 j) := by
  rw [← V_v2 m c]
  show V m c main_v2 (((cfg0.win 5).blk t).view.emb (ix2 0 j)) = _
  refine congrArg _ (funext fun a => Fin.ext ?_)
  obtain ⟨h0, h1⟩ := index5 t
  match a with
  | ⟨0, _⟩ => show win0_5.index t (0 : Fin 2) * 1 + 1 * 0 = 0; omega
  | ⟨1, _⟩ => show win0_5.index t (1 : Fin 2) * 1024 + 1 * j.val = j.val; omega

/-- The output block's place in the result array. -/
theorem emb6 (t : Fin cfg0.N) (i : Fin 512) (j : Fin 1024) :
    ((cfg0.win 6).blk t).view.emb (ix2 i j) = (ix2 (row t i) j : S32768x1024.Idx) := by
  refine funext fun a => Fin.ext ?_
  obtain ⟨h0, h1⟩ := index6 t
  match a with
  | ⟨0, _⟩ => show win0_6.index t (0 : Fin 2) * 512 + 1 * i.val = 512 * t.val + i.val; omega
  | ⟨1, _⟩ => show win0_6.index t (1 : Fin 2) * 1024 + 1 * j.val = j.val; omega

/-! ## The result array -/

/-- The result array as one function of the arguments. -/
def G (c : Dev nD) : Vec Ideal S32768x1024 .f32 := fun i =>
  have hi : (i 0).val < 32768 := (i 0).isLt
  OutBlock.outRow (fun k => m ((c : Thread nD τ).loc main_arg0) (ix2 (i 0) k)) (fun k => m ((c : Thread nD τ).loc main_arg1) (ix2 (i 0) k))
    (fun k => m ((c : Thread nD τ).loc main_arg2) (ix3 ⟨(i 0).val / 4096, by omega⟩ 2 k))
    (fun k j => m ((c : Thread nD τ).loc main_arg3) (ix2 k j)) (fun j => m ((c : Thread nD τ).loc main_arg4) (ix1 j))
    (fun j => m ((c : Thread nD τ).loc main_arg5) (ix1 j)) (i 1)

/-- What a grid point writes back is its block of that function. -/
theorem flushed_eq (c : Dev nD) (t : Fin cfg0.N) :
    (dats m 0 c).flushed 6 t = ((cfg0.win 6).blk t).view.read (Elt Ideal) (G m c) := by
  rw [flushed6]
  funext y
  obtain ⟨i, j, rfl⟩ : ∃ (i : Fin 512) (j : Fin 1024), y = (ix2 i j : S512x1024.Idx) :=
    ⟨y 0, y 1, funext fun a => match a with | ⟨0, _⟩ => rfl | ⟨1, _⟩ => rfl⟩
  show out0_6 _ _ _ _ _ _ (ix2 i j) = G m c (((cfg0.win 6).blk t).view.emb (ix2 i j))
  rw [emb6, OutBlock.out_apply]
  simp only [iblk0, iblk1, iblk2 m c t i, iblk3, iblk4, iblk5]
  rfl

/-- Every index of the result array lies in some grid point's block. -/
theorem cover (x : S32768x1024.Idx) :
    ∃ t : Fin cfg0.N, (cfg0.win 6).flush t = true ∧ x ∈ ((cfg0.win 6).blk t).view.set := by
  have hx0 : (x 0).val < 32768 := (x 0).isLt
  let t : Fin cfg0.N := ⟨(x 0).val / 512, by show _ < 64; omega⟩
  have e : ((cfg0.win 6).blk t).view.emb (ix2 (⟨(x 0).val % 512, by omega⟩ : Fin 512) (x 1 : Fin 1024)) = x := by
    refine (emb6 t _ _).trans (funext fun a => Fin.ext ?_)
    match a with
    | ⟨0, _⟩ => show 512 * ((x 0).val / 512) + (x 0).val % 512 = (x 0).val; omega
    | ⟨1, _⟩ => rfl
  exact ⟨t, flush0_6 _, e ▸ ((cfg0.win 6).blk t).view.emb_mem_set _⟩

/-- The result array after the run. -/
theorem final (c : Dev nD) : (dats m 0 c).arrAt 6 cfg0.N = G m c :=
  (dats m 0 c).arrAt_eq_of_cover 6 (G m c) (fun t _ => flushed_eq m c t) cover

/-- The kernel's run: it ends with the result array at that function of the arguments, and the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Proof.OutArray

end
-- ==== Proof.OutRef.lean ====
/- What the output projection's reference computes: every row the residual's layer norm. -/
module

public import proofs.«01_k».proof.Proof.Spec
public import proofs.«01_k».proof.Proof.Gen.OutRefIdeal.Read

@[expose] public section

set_option maxRecDepth 16384

noncomputable section

namespace Cert.Proof.OutRef

open Idealize.ShloMosaic Idealize.ShloMosaic.TcCoe Idealize.ShloMosaic.StableHlo Idealize.SL.Sem
open Cert.OutRefIdeal Cert.OutRefIdeal.Gen Cert.OutRefIdeal.Read Cert.Spec

variable (x0 x1 : (⟨S32768x1024, .f32⟩ : BufTy).Contents (Elt Ideal)) (x2 : (⟨S8x6x1024, .f32⟩ : BufTy).Contents (Elt Ideal))
  (x3 : (⟨S1024x1024, .f32⟩ : BufTy).Contents (Elt Ideal)) (x4 x5 : (⟨S1024, .f32⟩ : BufTy).Contents (Elt Ideal))

/-- Row `s` of batch element `b` in the flat array. -/
abbrev flat (b : Fin 8) (s : Fin 4096) : Fin 32768 := ⟨b.val * 4096 + s.val, by omega⟩

/-- The branch's rows by batch element and place in the sequence, -/
theorem branch_rows (b : Fin 8) (s : Fin 4096) (k : Fin 1024) : val_main_v6 x0 (ix3 b s k) = x0 (ix2 (flat b s) k) := by
  pointwise [val_main_v6]

/-- and the residual's. -/
theorem rows (b : Fin 8) (s : Fin 4096) (k : Fin 1024) : val_main_v8 x1 (ix3 b s k) = x1 (ix2 (flat b s) k) := by
  pointwise [val_main_v8]

/-- The branch times the weight. -/
theorem branch (b : Fin 8) (s : Fin 4096) (j : Fin 1024) :
    val_main_v7 x0 x3 (ix3 b s j) = ∑ k, x0 (ix2 (flat b s) k) * x3 (ix2 k j) := by
  pointwise [val_main_v7]
  simp only [branch_rows]

/-- The residual. -/
theorem residual (b : Fin 8) (s : Fin 4096) (j : Fin 1024) :
    val_main_v13 x0 x1 x2 x3 (ix3 b s j)
      = resRow (fun k => x1 (ix2 (flat b s) k)) (fun k => x2 (ix3 b 2 k)) (fun j => ∑ k, x0 (ix2 (flat b s) k) * x3 (ix2 k j)) j := by
  pointwise [val_main_v13, val_main_v12, val_main_v11, val_main_v10, val_main_v9, val_main_cst, val_main_v2]
  rw [rows, branch]
  rfl

/-- The residual less its mean. -/
theorem centered (b : Fin 8) (s : Fin 4096) (j : Fin 1024) :
    val_main_v19 x0 x1 x2 x3 (ix3 b s j) = center (fun k => val_main_v13 x0 x1 x2 x3 (ix3 b s k)) j := by
  pointwise [val_main_v19, val_main_v18, val_main_v17, val_main_v16, val_main_cst_1, val_main_v15, val_main_v14, val_main_cst_0]
  rfl

/-- The residual, normalised. -/
theorem normed (b : Fin 8) (s : Fin 4096) (j : Fin 1024) :
    val_main_v37 x0 x1 x2 x3 x4 x5 (ix3 b s j)
      = lnRow (fun k => val_main_v13 x0 x1 x2 x3 (ix3 b s k)) (fun j => x4 (ix1 j)) (fun j => x5 (ix1 j)) j := by
  have h26 : val_main_v26 x0 x1 x2 x3 = val_main_v19 x0 x1 x2 x3 := rfl
  pointwise [val_main_v37, val_main_v36, val_main_v35, val_main_v34, val_main_v33, val_main_v32, val_main_v31, val_main_v30,
    val_main_v29, val_main_v28, val_main_v27, val_main_cst_4, h26, val_main_v24, val_main_v23, val_main_cst_3, val_main_v22,
    val_main_v21, val_main_cst_2, val_main_v20]
  simp only [centered]
  rfl

/-- The reference's result. -/
theorem result (r : Fin 32768) (j : Fin 1024) :
    val_main_v38 x0 x1 x2 x3 x4 x5 (ix2 r j)
      = lnRow (resRow (fun k => x1 (ix2 r k)) (fun k => x2 (ix3 ⟨r.val / 4096, by omega⟩ 2 k)) (fun j => ∑ k, x0 (ix2 r k) * x3 (ix2 k j)))
          (fun j => x4 (ix1 j)) (fun j => x5 (ix1 j)) j := by
  have h : val_main_v38 x0 x1 x2 x3 x4 x5 (ix2 r j)
      = val_main_v37 x0 x1 x2 x3 x4 x5 (ix3 (⟨r.val / 4096, by omega⟩ : Fin 8) (⟨r.val % 4096, by omega⟩ : Fin 4096) j) := by
    pointwise [val_main_v38]
  have hr : flat (⟨r.val / 4096, by omega⟩ : Fin 8) (⟨r.val % 4096, by omega⟩ : Fin 4096) = r := Fin.ext (by
    show r.val / 4096 * 4096 + r.val % 4096 = r.val; omega)
  rw [h, normed]
  simp only [residual, hr]

end Cert.Proof.OutRef

end
-- ==== Proof.OutEq.lean ====
/- The output projection and its reference compute the same array. -/
module

public import proofs.«01_k».proof.Defs
public import proofs.«01_k».proof.Proof.OutArray
public import proofs.«01_k».proof.Proof.OutRef

@[expose] public section

set_option maxRecDepth 16384

noncomputable section

namespace Cert.Proof.OutEq

open Idealize.ShloMosaic Idealize.SL.Sem

/-- From equal arguments the kernel's array and the reference's are the same function of them. -/
theorem algebraic : algebraic_OutIdeal_OutRefIdeal (hOutIdeal := Cert.OutIdeal.Gen.facts) (hOutRefIdeal := Cert.OutRefIdeal.Gen.facts) := by
  intro m g m' g' _ h
  refine ⟨OutArray.G m, OutArray.run m g, (θ_run _ _ _).mono (fun r hr c => ⟨(hr c).1.trans ?_, (hr c).2⟩)
    (Cert.OutRefIdeal.Value.run m' g')⟩
  rw [Cert.OutRefIdeal.Read.val_main_v38_eq]
  funext i
  obtain ⟨r, j, rfl⟩ : ∃ (r : Fin 32768) (j : Fin 1024), i = (ix2 r j : Cert.OutIdeal.S32768x1024.Idx) :=
    ⟨i 0, i 1, funext fun a => match a with | ⟨0, _⟩ => rfl | ⟨1, _⟩ => rfl⟩
  obtain ⟨h0, h1, h2, h3, h4, h5⟩ := h c
  refine (OutRef.result _ _ _ _ _ _ r j).trans ?_
  rw [h0, h1, h2, h3, h4, h5]
  rfl

end Cert.Proof.OutEq

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.Sin
public import proofs.«01_k».proof.Proof.Gen.Sin.Skeleton
public import proofs.«01_k».proof.Proof.Gen.Sin.Launch
public import proofs.«01_k».proof.Proof.Gen.Sin.Points
public import proofs.«01_k».proof.Proof.Gen.Sin.Frame
public import proofs.«01_k».proof.Proof.Gen.SinIdeal
public import proofs.«01_k».proof.Proof.Gen.SinIdeal.Skeleton
public import proofs.«01_k».proof.Proof.Gen.SinIdeal.Launch
public import proofs.«01_k».proof.Proof.Gen.SinIdeal.Points
public import proofs.«01_k».proof.Proof.Gen.SinIdeal.Frame
public import proofs.«01_k».proof.Proof.Gen.SinRefIdeal
public import proofs.«01_k».proof.Proof.Gen.Hin
public import proofs.«01_k».proof.Proof.Gen.Hin.Skeleton
public import proofs.«01_k».proof.Proof.Gen.Hin.Launch
public import proofs.«01_k».proof.Proof.Gen.Hin.Points
public import proofs.«01_k».proof.Proof.Gen.Hin.Frame
public import proofs.«01_k».proof.Proof.Gen.HinIdeal
public import proofs.«01_k».proof.Proof.Gen.HinIdeal.Skeleton
public import proofs.«01_k».proof.Proof.Gen.HinIdeal.Launch
public import proofs.«01_k».proof.Proof.Gen.HinIdeal.Points
public import proofs.«01_k».proof.Proof.Gen.HinIdeal.Frame
public import proofs.«01_k».proof.Proof.Gen.HinRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Pre_finite_values
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.SsdIdeal.Value
public import proofs.«01_k».proof.Proof.Gen.SsdRefIdeal.Run
public import proofs.«01_k».proof.Proof.Gen.LastIdeal.Value
public import proofs.«01_k».proof.Proof.Gen.LastRefIdeal.Run
public import proofs.«01_k».proof.Proof.Gen.LastRefIdeal.Read
public import proofs.«01_k».proof.Proof.Gen.GlaIdeal.Value
public import proofs.«01_k».proof.Proof.Gen.GlaRefIdeal.Run
public import proofs.«01_k».proof.Proof.Gen.GlaRefIdeal.Read
public import proofs.«01_k».proof.Proof.Gen.SinIdeal.Value
public import proofs.«01_k».proof.Proof.Gen.SinRefIdeal.Run
public import proofs.«01_k».proof.Proof.Gen.SinRefIdeal.Read
public import proofs.«01_k».proof.Proof.Gen.HinIdeal.Value
public import proofs.«01_k».proof.Proof.Gen.HinRefIdeal.Run
public import proofs.«01_k».proof.Proof.Gen.HinRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.FfnEq
public import proofs.«01_k».proof.Proof.SsdEq
public import proofs.«01_k».proof.Proof.LastEq
public import proofs.«01_k».proof.Proof.GlaEq
public import proofs.«01_k».proof.Proof.SinEq
public import proofs.«01_k».proof.Proof.HinEq
public import proofs.«01_k».proof.Proof.OutEq
public import Idealize.ShloMosaic.Adequacy
public import Idealize.ShloMosaic.Init

@[expose] public section

noncomputable section

namespace Cert.Proof

open Idealize.ShloMosaic Idealize.SL.Sem Cert.Ffn

/-- The reference of the feed-forward call stops, leaving every semaphore counter at zero and other devices alone. -/
theorem quiet_FfnRef : quiescent_FfnRefIdeal (hFfnRefIdeal := Cert.FfnRefIdeal.Gen.facts) :=
  fun m ρ _ => (θ_run _ _ _).mono (fun r h => ⟨fun c => (h c).2, Idealize.ShloMosaic.sem_eq_zero_of_no_sems (by decide) r.2⟩)
    (Cert.FfnRefIdeal.Value.run m ρ)

/-- The reference of the state-space call stops, leaving every semaphore counter at zero and other devices alone. -/
theorem quiet_SsdRef : quiescent_SsdRefIdeal (hSsdRefIdeal := Cert.SsdRefIdeal.Gen.facts) :=
  fun m ρ _ => (θ_run _ _ _).mono (fun r h => ⟨fun c => (h c).2, Idealize.ShloMosaic.sem_eq_zero_of_no_sems (by decide) r.2⟩)
    (Cert.SsdRefIdeal.Value.run m ρ)

/-- The reference of the last feed-forward call stops, leaving every semaphore counter at zero and other devices alone. -/
theorem quiet_LastRef : quiescent_LastRefIdeal (hLastRefIdeal := Cert.LastRefIdeal.Gen.facts) :=
  fun m ρ _ => (θ_run _ _ _).mono (fun r h => ⟨fun c => (h c).2, Idealize.ShloMosaic.sem_eq_zero_of_no_sems (by decide) r.2⟩)
    (Cert.LastRefIdeal.Value.run m ρ)

/-- The reference of the linear-attention projection call stops, leaving every semaphore counter at zero and other devices alone. -/
theorem quiet_GlaRef : quiescent_GlaRefIdeal (hGlaRefIdeal := Cert.GlaRefIdeal.Gen.facts) :=
  fun m ρ _ => (θ_run _ _ _).mono (fun r h => ⟨fun c => (h c).2.2, Idealize.ShloMosaic.sem_eq_zero_of_no_sems (by decide) r.2⟩)
    (Cert.GlaRefIdeal.Value.run m ρ)

/-- The reference of the state-space projection call stops, leaving every semaphore counter at zero and other devices alone. -/
theorem quiet_SinRef : quiescent_SinRefIdeal (hSinRefIdeal := Cert.SinRefIdeal.Gen.facts) :=
  fun m ρ _ => (θ_run _ _ _).mono (fun r h => ⟨fun c => (h c).2.2.2, Idealize.ShloMosaic.sem_eq_zero_of_no_sems (by decide) r.2⟩)
    (Cert.SinRefIdeal.Value.run m ρ)

/-- The reference of the Hyena projection call stops, leaving every semaphore counter at zero and other devices alone. -/
theorem quiet_HinRef : quiescent_HinRefIdeal (hHinRefIdeal := Cert.HinRefIdeal.Gen.facts) :=
  fun m ρ _ => (θ_run _ _ _).mono (fun r h => ⟨fun c => (h c).2.2.2, Idealize.ShloMosaic.sem_eq_zero_of_no_sems (by decide) r.2⟩)
    (Cert.HinRefIdeal.Value.run m ρ)

/-- The reference of the Hyena output call stops, leaving every semaphore counter at zero and other devices alone. -/
theorem quiet_OutRef : quiescent_OutRefIdeal (hOutRefIdeal := Cert.OutRefIdeal.Gen.facts) :=
  fun m ρ _ => (θ_run _ _ _).mono (fun r h => ⟨fun c => (h c).2, Idealize.ShloMosaic.sem_eq_zero_of_no_sems (by decide) r.2⟩)
    (Cert.OutRefIdeal.Value.run m ρ)

/-- Every program stops cleanly, each kernel keeps its meaning under the naming of its constants, and each kernel
computes its reference. -/
theorem claim : Cert.Claim := ⟨Cert.Ffn.Gen.facts, Cert.FfnIdeal.Gen.facts, Cert.FfnRefIdeal.Gen.facts, Cert.Ssd.Gen.facts, Cert.SsdIdeal.Gen.facts, Cert.SsdRefIdeal.Gen.facts, Cert.Last.Gen.facts, Cert.LastIdeal.Gen.facts, Cert.LastRefIdeal.Gen.facts, Cert.Gla.Gen.facts, Cert.GlaIdeal.Gen.facts, Cert.GlaRefIdeal.Gen.facts, Cert.Sin.Gen.facts, Cert.SinIdeal.Gen.facts, Cert.SinRefIdeal.Gen.facts, Cert.Hin.Gen.facts, Cert.HinIdeal.Gen.facts, Cert.HinRefIdeal.Gen.facts, Cert.Out.Gen.facts, Cert.OutIdeal.Gen.facts, Cert.OutRefIdeal.Gen.facts, Cert.Pre_finite_values.Gen.facts,
  fun m ρ _ => Cert.Ffn.Gen.frame m ρ,
  fun m ρ _ => Cert.FfnIdeal.Gen.frame m ρ,
  quiet_FfnRef,
  fun m ρ _ => Cert.Ssd.Gen.frame m ρ,
  fun m ρ _ => Cert.SsdIdeal.Gen.frame m ρ,
  quiet_SsdRef,
  fun m ρ _ => Cert.Last.Gen.frame m ρ,
  fun m ρ _ => Cert.LastIdeal.Gen.frame m ρ,
  fun m ρ _ => Cert.LastIdeal.Gen.frame m ρ,
  quiet_LastRef,
  fun m ρ _ => quiet_LastRef m ρ trivial,
  fun m ρ _ => Cert.Gla.Gen.frame m ρ,
  fun m ρ _ => Cert.GlaIdeal.Gen.frame m ρ,
  quiet_GlaRef,
  fun m ρ _ => Cert.Sin.Gen.frame m ρ,
  fun m ρ _ => Cert.SinIdeal.Gen.frame m ρ,
  quiet_SinRef,
  fun m ρ _ => Cert.Hin.Gen.frame m ρ,
  fun m ρ _ => Cert.HinIdeal.Gen.frame m ρ,
  quiet_HinRef,
  fun m ρ _ => Cert.Out.Gen.frame m ρ,
  fun m ρ _ => Cert.OutIdeal.Gen.frame m ρ,
  quiet_OutRef,
  trivial,
  FfnEq.algebraic,
  IdealRules.named_const.statement Cert.SsdIdeal.κ "masked" .f32 0xF149F2CA#32 ⊥ rfl,
  SsdEq.algebraic,
  trivial,
  LastEq.algebraic,
  trivial,
  GlaEq.algebraic,
  trivial,
  SinEq.algebraic,
  trivial,
  HinEq.algebraic,
  trivial,
  OutEq.algebraic⟩

end Cert.Proof

end
